-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_finite_routing [hPre_finite_routing : Cert.Pre_finite_routing.Facts] (m : (ℓ : Loc Cert.MoeIdeal.nD Cert.MoeIdeal.τ Cert.MoeIdeal.sig) → Buf (Elt Ideal) ℓ) : Prop :=
  ∀ c : Dev Cert.MoeIdeal.nD,
    (Cert.Pre_finite_routing.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_finite_routing [hPre_finite_routing : Cert.Pre_finite_routing.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_finite_routing.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_InprojSample (m : (ℓ : Loc Cert.InprojSample.nD Cert.InprojSample.τ Cert.InprojSample.sig) → Buf (Elt Bits) ℓ) : Prop :=
  True

def Pre_InprojSampleIdeal (m : (ℓ : Loc Cert.InprojSampleIdeal.nD Cert.InprojSampleIdeal.τ Cert.InprojSampleIdeal.sig) → Buf (Elt Ideal) ℓ) : Prop :=
  True

def Pre_InprojSampleRefIdeal (m : (ℓ : Loc Cert.InprojSampleRefIdeal.nD Cert.InprojSampleRefIdeal.τ Cert.InprojSampleRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MoeSample (m : (ℓ : Loc Cert.MoeSample.nD Cert.MoeSample.τ Cert.MoeSample.sig) → Buf (Elt Bits) ℓ) : Prop :=
  True

def Pre_MoeSampleIdeal (m : (ℓ : Loc Cert.MoeSampleIdeal.nD Cert.MoeSampleIdeal.τ Cert.MoeSampleIdeal.sig) → Buf (Elt Ideal) ℓ) : Prop :=
  True

def Pre_MoeSampleIdeal_finite_routing_sample [hPre_finite_routing_sample : Cert.Pre_finite_routing_sample.Facts] (m : (ℓ : Loc Cert.MoeSampleIdeal.nD Cert.MoeSampleIdeal.τ Cert.MoeSampleIdeal.sig) → Buf (Elt Ideal) ℓ) : Prop :=
  ∀ c : Dev Cert.MoeSampleIdeal.nD,
    (Cert.Pre_finite_routing_sample.fn (F := Ideal) (m ((c.tc : Thread Cert.MoeSampleIdeal.nD Cert.MoeSampleIdeal.τ).loc Cert.MoeSampleIdeal.main_arg0)) (m ((c.tc : Thread Cert.MoeSampleIdeal.nD Cert.MoeSampleIdeal.τ).loc Cert.MoeSampleIdeal.main_arg1)) (m ((c.tc : Thread Cert.MoeSampleIdeal.nD Cert.MoeSampleIdeal.τ).loc Cert.MoeSampleIdeal.main_arg2)) (m ((c.tc : Thread Cert.MoeSampleIdeal.nD Cert.MoeSampleIdeal.τ).loc Cert.MoeSampleIdeal.main_arg3)) (m ((c.tc : Thread Cert.MoeSampleIdeal.nD Cert.MoeSampleIdeal.τ).loc Cert.MoeSampleIdeal.main_arg4)) (m ((c.tc : Thread Cert.MoeSampleIdeal.nD Cert.MoeSampleIdeal.τ).loc Cert.MoeSampleIdeal.main_arg5)) (m ((c.tc : Thread Cert.MoeSampleIdeal.nD Cert.MoeSampleIdeal.τ).loc Cert.MoeSampleIdeal.main_arg6)) (m ((c.tc : Thread Cert.MoeSampleIdeal.nD Cert.MoeSampleIdeal.τ).loc Cert.MoeSampleIdeal.main_arg7)) (m ((c.tc : Thread Cert.MoeSampleIdeal.nD Cert.MoeSampleIdeal.τ).loc Cert.MoeSampleIdeal.main_arg8))) = (fun _ => 1#1)

def Pre_MoeSampleRefIdeal (m : (ℓ : Loc Cert.MoeSampleRefIdeal.nD Cert.MoeSampleRefIdeal.τ Cert.MoeSampleRefIdeal.sig) → Buf (Elt Ideal) ℓ) : Prop :=
  True

def Pre_MoeSampleRefIdeal_finite_routing_sample [hPre_finite_routing_sample : Cert.Pre_finite_routing_sample.Facts] (m : (ℓ : Loc Cert.MoeSampleRefIdeal.nD Cert.MoeSampleRefIdeal.τ Cert.MoeSampleRefIdeal.sig) → Buf (Elt Ideal) ℓ) : Prop :=
  ∀ c : Dev Cert.MoeSampleRefIdeal.nD,
    (Cert.Pre_finite_routing_sample.fn (F := Ideal) (m ((c.tc : Thread Cert.MoeSampleRefIdeal.nD Cert.MoeSampleRefIdeal.τ).loc Cert.MoeSampleRefIdeal.main_arg0)) (m ((c.tc : Thread Cert.MoeSampleRefIdeal.nD Cert.MoeSampleRefIdeal.τ).loc Cert.MoeSampleRefIdeal.main_arg1)) (m ((c.tc : Thread Cert.MoeSampleRefIdeal.nD Cert.MoeSampleRefIdeal.τ).loc Cert.MoeSampleRefIdeal.main_arg2)) (m ((c.tc : Thread Cert.MoeSampleRefIdeal.nD Cert.MoeSampleRefIdeal.τ).loc Cert.MoeSampleRefIdeal.main_arg3)) (m ((c.tc : Thread Cert.MoeSampleRefIdeal.nD Cert.MoeSampleRefIdeal.τ).loc Cert.MoeSampleRefIdeal.main_arg4)) (m ((c.tc : Thread Cert.MoeSampleRefIdeal.nD Cert.MoeSampleRefIdeal.τ).loc Cert.MoeSampleRefIdeal.main_arg5)) (m ((c.tc : Thread Cert.MoeSampleRefIdeal.nD Cert.MoeSampleRefIdeal.τ).loc Cert.MoeSampleRefIdeal.main_arg6)) (m ((c.tc : Thread Cert.MoeSampleRefIdeal.nD Cert.MoeSampleRefIdeal.τ).loc Cert.MoeSampleRefIdeal.main_arg7)) (m ((c.tc : Thread Cert.MoeSampleRefIdeal.nD Cert.MoeSampleRefIdeal.τ).loc Cert.MoeSampleRefIdeal.main_arg8))) = (fun _ => 1#1)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ r.2.sem = fun _ => 0)

def quiescent_MoeIdeal_pre_finite_routing [hMoeIdeal : Cert.MoeIdeal.Facts] [hPre_finite_routing : Cert.Pre_finite_routing.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_finite_routing m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8))
      ∧ r.2.sem = fun _ => 0)

def quiescent_MoeRefIdeal_pre_finite_routing [hMoeRefIdeal : Cert.MoeRefIdeal.Facts] [hPre_finite_routing : Cert.Pre_finite_routing.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_finite_routing m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_InprojSample [hInprojSample : Cert.InprojSample.Facts] : Prop :=
  ∀ (m : (ℓ : Loc Cert.InprojSample.nD Cert.InprojSample.τ Cert.InprojSample.sig) → Buf (Elt Bits) ℓ) (g : Dev Cert.InprojSample.nD → PrngReg), Pre_InprojSample m →
    θ_run (Cert.InprojSample.defs (F := Bits)) (onTc (τ := Cert.InprojSample.τ) (Cert.InprojSample.main (F := Bits))) ⟨m, fun _ => 0, g⟩ (fun r => (∀ c : Dev Cert.InprojSample.nD,
      r.2.mem ((c.tc : Thread Cert.InprojSample.nD Cert.InprojSample.τ).loc Cert.InprojSample.main_arg0) = m ((c.tc : Thread Cert.InprojSample.nD Cert.InprojSample.τ).loc Cert.InprojSample.main_arg0)
      ∧ r.2.mem ((c.tc : Thread Cert.InprojSample.nD Cert.InprojSample.τ).loc Cert.InprojSample.main_arg1) = m ((c.tc : Thread Cert.InprojSample.nD Cert.InprojSample.τ).loc Cert.InprojSample.main_arg1)
      ∧ r.2.mem ((c.tc : Thread Cert.InprojSample.nD Cert.InprojSample.τ).loc Cert.InprojSample.main_arg2) = m ((c.tc : Thread Cert.InprojSample.nD Cert.InprojSample.τ).loc Cert.InprojSample.main_arg2)
      ∧ r.2.mem ((c.tc : Thread Cert.InprojSample.nD Cert.InprojSample.τ).loc Cert.InprojSample.main_arg3) = m ((c.tc : Thread Cert.InprojSample.nD Cert.InprojSample.τ).loc Cert.InprojSample.main_arg3)
      ∧ r.2.mem ((c.tc : Thread Cert.InprojSample.nD Cert.InprojSample.τ).loc Cert.InprojSample.main_arg4) = m ((c.tc : Thread Cert.InprojSample.nD Cert.InprojSample.τ).loc Cert.InprojSample.main_arg4))
      ∧ r.2.sem = fun _ => 0)

def quiescent_InprojSampleIdeal [hInprojSampleIdeal : Cert.InprojSampleIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg), Pre_InprojSampleIdeal m →
    θ_run (Cert.InprojSampleIdeal.defs (F := Ideal)) (onTc (τ := Cert.InprojSampleIdeal.τ) (Cert.InprojSampleIdeal.main (F := Ideal))) ⟨m, fun _ => 0, g⟩ (fun r => (∀ c : Dev Cert.InprojSampleIdeal.nD,
      r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
      ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
      ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2)
      ∧ r.2.mem ((c.tc : Thread Cert.InprojSampleIdeal.nD Cert.InprojSampleIdeal.τ).loc Cert.InprojSampleIdeal.main_arg3) = m ((c.tc : Thread Cert.InprojSampleIdeal.nD Cert.InprojSampleIdeal.τ).loc Cert.InprojSampleIdeal.main_arg3)
      ∧ r.2.mem ((c.tc : Thread Cert.InprojSampleIdeal.nD Cert.InprojSampleIdeal.τ).loc Cert.InprojSampleIdeal.main_arg4) = m ((c.tc : Thread Cert.InprojSampleIdeal.nD Cert.InprojSampleIdeal.τ).loc Cert.InprojSampleIdeal.main_arg4))
      ∧ r.2.sem = fun _ => 0)

def quiescent_InprojSampleRefIdeal [hInprojSampleRefIdeal : Cert.InprojSampleRefIdeal.Facts] : Prop :=
  ∀ (m : (ℓ : Loc Cert.InprojSampleRefIdeal.nD Cert.InprojSampleRefIdeal.τ Cert.InprojSampleRefIdeal.sig) → Buf (Elt Ideal) ℓ) (g : Dev Cert.InprojSampleRefIdeal.nD → PrngReg), Pre_InprojSampleRefIdeal m →
    θ_run (Cert.InprojSampleRefIdeal.defs (F := Ideal)) (onTc (τ := Cert.InprojSampleRefIdeal.τ) (Cert.InprojSampleRefIdeal.main (F := Ideal))) ⟨m, fun _ => 0, g⟩ (fun r => (∀ c : Dev Cert.InprojSampleRefIdeal.nD,
      r.2.mem ((c.tc : Thread Cert.InprojSampleRefIdeal.nD Cert.InprojSampleRefIdeal.τ).loc Cert.InprojSampleRefIdeal.main_arg0) = m ((c.tc : Thread Cert.InprojSampleRefIdeal.nD Cert.InprojSampleRefIdeal.τ).loc Cert.InprojSampleRefIdeal.main_arg0)
      ∧ r.2.mem ((c.tc : Thread Cert.InprojSampleRefIdeal.nD Cert.InprojSampleRefIdeal.τ).loc Cert.InprojSampleRefIdeal.main_arg1) = m ((c.tc : Thread Cert.InprojSampleRefIdeal.nD Cert.InprojSampleRefIdeal.τ).loc Cert.InprojSampleRefIdeal.main_arg1)
      ∧ r.2.mem ((c.tc : Thread Cert.InprojSampleRefIdeal.nD Cert.InprojSampleRefIdeal.τ).loc Cert.InprojSampleRefIdeal.main_arg2) = m ((c.tc : Thread Cert.InprojSampleRefIdeal.nD Cert.InprojSampleRefIdeal.τ).loc Cert.InprojSampleRefIdeal.main_arg2)
      ∧ r.2.mem ((c.tc : Thread Cert.InprojSampleRefIdeal.nD Cert.InprojSampleRefIdeal.τ).loc Cert.InprojSampleRefIdeal.main_arg3) = m ((c.tc : Thread Cert.InprojSampleRefIdeal.nD Cert.InprojSampleRefIdeal.τ).loc Cert.InprojSampleRefIdeal.main_arg3)
      ∧ r.2.mem ((c.tc : Thread Cert.InprojSampleRefIdeal.nD Cert.InprojSampleRefIdeal.τ).loc Cert.InprojSampleRefIdeal.main_arg4) = m ((c.tc : Thread Cert.InprojSampleRefIdeal.nD Cert.InprojSampleRefIdeal.τ).loc Cert.InprojSampleRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_MoeSample [hMoeSample : Cert.MoeSample.Facts] : Prop :=
  ∀ (m : (ℓ : Loc Cert.MoeSample.nD Cert.MoeSample.τ Cert.MoeSample.sig) → Buf (Elt Bits) ℓ) (g : Dev Cert.MoeSample.nD → PrngReg), Pre_MoeSample m →
    θ_run (Cert.MoeSample.defs (F := Bits)) (onTc (τ := Cert.MoeSample.τ) (Cert.MoeSample.main (F := Bits))) ⟨m, fun _ => 0, g⟩ (fun r => (∀ c : Dev Cert.MoeSample.nD,
      r.2.mem ((c.tc : Thread Cert.MoeSample.nD Cert.MoeSample.τ).loc Cert.MoeSample.main_arg0) = m ((c.tc : Thread Cert.MoeSample.nD Cert.MoeSample.τ).loc Cert.MoeSample.main_arg0)
      ∧ r.2.mem ((c.tc : Thread Cert.MoeSample.nD Cert.MoeSample.τ).loc Cert.MoeSample.main_arg1) = m ((c.tc : Thread Cert.MoeSample.nD Cert.MoeSample.τ).loc Cert.MoeSample.main_arg1)
      ∧ r.2.mem ((c.tc : Thread Cert.MoeSample.nD Cert.MoeSample.τ).loc Cert.MoeSample.main_arg2) = m ((c.tc : Thread Cert.MoeSample.nD Cert.MoeSample.τ).loc Cert.MoeSample.main_arg2)
      ∧ r.2.mem ((c.tc : Thread Cert.MoeSample.nD Cert.MoeSample.τ).loc Cert.MoeSample.main_arg3) = m ((c.tc : Thread Cert.MoeSample.nD Cert.MoeSample.τ).loc Cert.MoeSample.main_arg3)
      ∧ r.2.mem ((c.tc : Thread Cert.MoeSample.nD Cert.MoeSample.τ).loc Cert.MoeSample.main_arg4) = m ((c.tc : Thread Cert.MoeSample.nD Cert.MoeSample.τ).loc Cert.MoeSample.main_arg4)
      ∧ r.2.mem ((c.tc : Thread Cert.MoeSample.nD Cert.MoeSample.τ).loc Cert.MoeSample.main_arg5) = m ((c.tc : Thread Cert.MoeSample.nD Cert.MoeSample.τ).loc Cert.MoeSample.main_arg5)
      ∧ r.2.mem ((c.tc : Thread Cert.MoeSample.nD Cert.MoeSample.τ).loc Cert.MoeSample.main_arg6) = m ((c.tc : Thread Cert.MoeSample.nD Cert.MoeSample.τ).loc Cert.MoeSample.main_arg6)
      ∧ r.2.mem ((c.tc : Thread Cert.MoeSample.nD Cert.MoeSample.τ).loc Cert.MoeSample.main_arg7) = m ((c.tc : Thread Cert.MoeSample.nD Cert.MoeSample.τ).loc Cert.MoeSample.main_arg7)
      ∧ r.2.mem ((c.tc : Thread Cert.MoeSample.nD Cert.MoeSample.τ).loc Cert.MoeSample.main_arg8) = m ((c.tc : Thread Cert.MoeSample.nD Cert.MoeSample.τ).loc Cert.MoeSample.main_arg8))
      ∧ r.2.sem = fun _ => 0)

def quiescent_MoeSampleIdeal [hMoeSampleIdeal : Cert.MoeSampleIdeal.Facts] : Prop :=
  ∀ (m : (ℓ : Loc Cert.MoeSampleIdeal.nD Cert.MoeSampleIdeal.τ Cert.MoeSampleIdeal.sig) → Buf (Elt Ideal) ℓ) (g : Dev Cert.MoeSampleIdeal.nD → PrngReg), Pre_MoeSampleIdeal m →
    θ_run (Cert.MoeSampleIdeal.defs (F := Ideal)) (onTc (τ := Cert.MoeSampleIdeal.τ) (Cert.MoeSampleIdeal.main (F := Ideal))) ⟨m, fun _ => 0, g⟩ (fun r => (∀ c : Dev Cert.MoeSampleIdeal.nD,
      r.2.mem ((c.tc : Thread Cert.MoeSampleIdeal.nD Cert.MoeSampleIdeal.τ).loc Cert.MoeSampleIdeal.main_arg0) = m ((c.tc : Thread Cert.MoeSampleIdeal.nD Cert.MoeSampleIdeal.τ).loc Cert.MoeSampleIdeal.main_arg0)
      ∧ r.2.mem ((c.tc : Thread Cert.MoeSampleIdeal.nD Cert.MoeSampleIdeal.τ).loc Cert.MoeSampleIdeal.main_arg1) = m ((c.tc : Thread Cert.MoeSampleIdeal.nD Cert.MoeSampleIdeal.τ).loc Cert.MoeSampleIdeal.main_arg1)
      ∧ r.2.mem ((c.tc : Thread Cert.MoeSampleIdeal.nD Cert.MoeSampleIdeal.τ).loc Cert.MoeSampleIdeal.main_arg2) = m ((c.tc : Thread Cert.MoeSampleIdeal.nD Cert.MoeSampleIdeal.τ).loc Cert.MoeSampleIdeal.main_arg2)
      ∧ r.2.mem ((c.tc : Thread Cert.MoeSampleIdeal.nD Cert.MoeSampleIdeal.τ).loc Cert.MoeSampleIdeal.main_arg3) = m ((c.tc : Thread Cert.MoeSampleIdeal.nD Cert.MoeSampleIdeal.τ).loc Cert.MoeSampleIdeal.main_arg3)
      ∧ r.2.mem ((c.tc : Thread Cert.MoeSampleIdeal.nD Cert.MoeSampleIdeal.τ).loc Cert.MoeSampleIdeal.main_arg4) = m ((c.tc : Thread Cert.MoeSampleIdeal.nD Cert.MoeSampleIdeal.τ).loc Cert.MoeSampleIdeal.main_arg4)
      ∧ r.2.mem ((c.tc : Thread Cert.MoeSampleIdeal.nD Cert.MoeSampleIdeal.τ).loc Cert.MoeSampleIdeal.main_arg5) = m ((c.tc : Thread Cert.MoeSampleIdeal.nD Cert.MoeSampleIdeal.τ).loc Cert.MoeSampleIdeal.main_arg5)
      ∧ r.2.mem ((c.tc : Thread Cert.MoeSampleIdeal.nD Cert.MoeSampleIdeal.τ).loc Cert.MoeSampleIdeal.main_arg6) = m ((c.tc : Thread Cert.MoeSampleIdeal.nD Cert.MoeSampleIdeal.τ).loc Cert.MoeSampleIdeal.main_arg6)
      ∧ r.2.mem ((c.tc : Thread Cert.MoeSampleIdeal.nD Cert.MoeSampleIdeal.τ).loc Cert.MoeSampleIdeal.main_arg7) = m ((c.tc : Thread Cert.MoeSampleIdeal.nD Cert.MoeSampleIdeal.τ).loc Cert.MoeSampleIdeal.main_arg7)
      ∧ r.2.mem ((c.tc : Thread Cert.MoeSampleIdeal.nD Cert.MoeSampleIdeal.τ).loc Cert.MoeSampleIdeal.main_arg8) = m ((c.tc : Thread Cert.MoeSampleIdeal.nD Cert.MoeSampleIdeal.τ).loc Cert.MoeSampleIdeal.main_arg8))
      ∧ r.2.sem = fun _ => 0)

def quiescent_MoeSampleIdeal_pre_finite_routing_sample [hMoeSampleIdeal : Cert.MoeSampleIdeal.Facts] [hPre_finite_routing_sample : Cert.Pre_finite_routing_sample.Facts] : Prop :=
  ∀ (m : (ℓ : Loc Cert.MoeSampleIdeal.nD Cert.MoeSampleIdeal.τ Cert.MoeSampleIdeal.sig) → Buf (Elt Ideal) ℓ) (g : Dev Cert.MoeSampleIdeal.nD → PrngReg), Pre_MoeSampleIdeal_finite_routing_sample m →
    θ_run (Cert.MoeSampleIdeal.defs (F := Ideal)) (onTc (τ := Cert.MoeSampleIdeal.τ) (Cert.MoeSampleIdeal.main (F := Ideal))) ⟨m, fun _ => 0, g⟩ (fun r => (∀ c : Dev Cert.MoeSampleIdeal.nD,
      r.2.mem ((c.tc : Thread Cert.MoeSampleIdeal.nD Cert.MoeSampleIdeal.τ).loc Cert.MoeSampleIdeal.main_arg0) = m ((c.tc : Thread Cert.MoeSampleIdeal.nD Cert.MoeSampleIdeal.τ).loc Cert.MoeSampleIdeal.main_arg0)
      ∧ r.2.mem ((c.tc : Thread Cert.MoeSampleIdeal.nD Cert.MoeSampleIdeal.τ).loc Cert.MoeSampleIdeal.main_arg1) = m ((c.tc : Thread Cert.MoeSampleIdeal.nD Cert.MoeSampleIdeal.τ).loc Cert.MoeSampleIdeal.main_arg1)
      ∧ r.2.mem ((c.tc : Thread Cert.MoeSampleIdeal.nD Cert.MoeSampleIdeal.τ).loc Cert.MoeSampleIdeal.main_arg2) = m ((c.tc : Thread Cert.MoeSampleIdeal.nD Cert.MoeSampleIdeal.τ).loc Cert.MoeSampleIdeal.main_arg2)
      ∧ r.2.mem ((c.tc : Thread Cert.MoeSampleIdeal.nD Cert.MoeSampleIdeal.τ).loc Cert.MoeSampleIdeal.main_arg3) = m ((c.tc : Thread Cert.MoeSampleIdeal.nD Cert.MoeSampleIdeal.τ).loc Cert.MoeSampleIdeal.main_arg3)
      ∧ r.2.mem ((c.tc : Thread Cert.MoeSampleIdeal.nD Cert.MoeSampleIdeal.τ).loc Cert.MoeSampleIdeal.main_arg4) = m ((c.tc : Thread Cert.MoeSampleIdeal.nD Cert.MoeSampleIdeal.τ).loc Cert.MoeSampleIdeal.main_arg4)
      ∧ r.2.mem ((c.tc : Thread Cert.MoeSampleIdeal.nD Cert.MoeSampleIdeal.τ).loc Cert.MoeSampleIdeal.main_arg5) = m ((c.tc : Thread Cert.MoeSampleIdeal.nD Cert.MoeSampleIdeal.τ).loc Cert.MoeSampleIdeal.main_arg5)
      ∧ r.2.mem ((c.tc : Thread Cert.MoeSampleIdeal.nD Cert.MoeSampleIdeal.τ).loc Cert.MoeSampleIdeal.main_arg6) = m ((c.tc : Thread Cert.MoeSampleIdeal.nD Cert.MoeSampleIdeal.τ).loc Cert.MoeSampleIdeal.main_arg6)
      ∧ r.2.mem ((c.tc : Thread Cert.MoeSampleIdeal.nD Cert.MoeSampleIdeal.τ).loc Cert.MoeSampleIdeal.main_arg7) = m ((c.tc : Thread Cert.MoeSampleIdeal.nD Cert.MoeSampleIdeal.τ).loc Cert.MoeSampleIdeal.main_arg7)
      ∧ r.2.mem ((c.tc : Thread Cert.MoeSampleIdeal.nD Cert.MoeSampleIdeal.τ).loc Cert.MoeSampleIdeal.main_arg8) = m ((c.tc : Thread Cert.MoeSampleIdeal.nD Cert.MoeSampleIdeal.τ).loc Cert.MoeSampleIdeal.main_arg8))
      ∧ r.2.sem = fun _ => 0)

def quiescent_MoeSampleRefIdeal [hMoeSampleRefIdeal : Cert.MoeSampleRefIdeal.Facts] : Prop :=
  ∀ (m : (ℓ : Loc Cert.MoeSampleRefIdeal.nD Cert.MoeSampleRefIdeal.τ Cert.MoeSampleRefIdeal.sig) → Buf (Elt Ideal) ℓ) (g : Dev Cert.MoeSampleRefIdeal.nD → PrngReg), Pre_MoeSampleRefIdeal m →
    θ_run (Cert.MoeSampleRefIdeal.defs (F := Ideal)) (onTc (τ := Cert.MoeSampleRefIdeal.τ) (Cert.MoeSampleRefIdeal.main (F := Ideal))) ⟨m, fun _ => 0, g⟩ (fun r => (∀ c : Dev Cert.MoeSampleRefIdeal.nD,
      r.2.mem ((c.tc : Thread Cert.MoeSampleRefIdeal.nD Cert.MoeSampleRefIdeal.τ).loc Cert.MoeSampleRefIdeal.main_arg0) = m ((c.tc : Thread Cert.MoeSampleRefIdeal.nD Cert.MoeSampleRefIdeal.τ).loc Cert.MoeSampleRefIdeal.main_arg0)
      ∧ r.2.mem ((c.tc : Thread Cert.MoeSampleRefIdeal.nD Cert.MoeSampleRefIdeal.τ).loc Cert.MoeSampleRefIdeal.main_arg1) = m ((c.tc : Thread Cert.MoeSampleRefIdeal.nD Cert.MoeSampleRefIdeal.τ).loc Cert.MoeSampleRefIdeal.main_arg1)
      ∧ r.2.mem ((c.tc : Thread Cert.MoeSampleRefIdeal.nD Cert.MoeSampleRefIdeal.τ).loc Cert.MoeSampleRefIdeal.main_arg2) = m ((c.tc : Thread Cert.MoeSampleRefIdeal.nD Cert.MoeSampleRefIdeal.τ).loc Cert.MoeSampleRefIdeal.main_arg2)
      ∧ r.2.mem ((c.tc : Thread Cert.MoeSampleRefIdeal.nD Cert.MoeSampleRefIdeal.τ).loc Cert.MoeSampleRefIdeal.main_arg3) = m ((c.tc : Thread Cert.MoeSampleRefIdeal.nD Cert.MoeSampleRefIdeal.τ).loc Cert.MoeSampleRefIdeal.main_arg3)
      ∧ r.2.mem ((c.tc : Thread Cert.MoeSampleRefIdeal.nD Cert.MoeSampleRefIdeal.τ).loc Cert.MoeSampleRefIdeal.main_arg4) = m ((c.tc : Thread Cert.MoeSampleRefIdeal.nD Cert.MoeSampleRefIdeal.τ).loc Cert.MoeSampleRefIdeal.main_arg4)
      ∧ r.2.mem ((c.tc : Thread Cert.MoeSampleRefIdeal.nD Cert.MoeSampleRefIdeal.τ).loc Cert.MoeSampleRefIdeal.main_arg5) = m ((c.tc : Thread Cert.MoeSampleRefIdeal.nD Cert.MoeSampleRefIdeal.τ).loc Cert.MoeSampleRefIdeal.main_arg5)
      ∧ r.2.mem ((c.tc : Thread Cert.MoeSampleRefIdeal.nD Cert.MoeSampleRefIdeal.τ).loc Cert.MoeSampleRefIdeal.main_arg6) = m ((c.tc : Thread Cert.MoeSampleRefIdeal.nD Cert.MoeSampleRefIdeal.τ).loc Cert.MoeSampleRefIdeal.main_arg6)
      ∧ r.2.mem ((c.tc : Thread Cert.MoeSampleRefIdeal.nD Cert.MoeSampleRefIdeal.τ).loc Cert.MoeSampleRefIdeal.main_arg7) = m ((c.tc : Thread Cert.MoeSampleRefIdeal.nD Cert.MoeSampleRefIdeal.τ).loc Cert.MoeSampleRefIdeal.main_arg7)
      ∧ r.2.mem ((c.tc : Thread Cert.MoeSampleRefIdeal.nD Cert.MoeSampleRefIdeal.τ).loc Cert.MoeSampleRefIdeal.main_arg8) = m ((c.tc : Thread Cert.MoeSampleRefIdeal.nD Cert.MoeSampleRefIdeal.τ).loc Cert.MoeSampleRefIdeal.main_arg8))
      ∧ r.2.sem = fun _ => 0)

def quiescent_MoeSampleRefIdeal_pre_finite_routing_sample [hMoeSampleRefIdeal : Cert.MoeSampleRefIdeal.Facts] [hPre_finite_routing_sample : Cert.Pre_finite_routing_sample.Facts] : Prop :=
  ∀ (m : (ℓ : Loc Cert.MoeSampleRefIdeal.nD Cert.MoeSampleRefIdeal.τ Cert.MoeSampleRefIdeal.sig) → Buf (Elt Ideal) ℓ) (g : Dev Cert.MoeSampleRefIdeal.nD → PrngReg), Pre_MoeSampleRefIdeal_finite_routing_sample m →
    θ_run (Cert.MoeSampleRefIdeal.defs (F := Ideal)) (onTc (τ := Cert.MoeSampleRefIdeal.τ) (Cert.MoeSampleRefIdeal.main (F := Ideal))) ⟨m, fun _ => 0, g⟩ (fun r => (∀ c : Dev Cert.MoeSampleRefIdeal.nD,
      r.2.mem ((c.tc : Thread Cert.MoeSampleRefIdeal.nD Cert.MoeSampleRefIdeal.τ).loc Cert.MoeSampleRefIdeal.main_arg0) = m ((c.tc : Thread Cert.MoeSampleRefIdeal.nD Cert.MoeSampleRefIdeal.τ).loc Cert.MoeSampleRefIdeal.main_arg0)
      ∧ r.2.mem ((c.tc : Thread Cert.MoeSampleRefIdeal.nD Cert.MoeSampleRefIdeal.τ).loc Cert.MoeSampleRefIdeal.main_arg1) = m ((c.tc : Thread Cert.MoeSampleRefIdeal.nD Cert.MoeSampleRefIdeal.τ).loc Cert.MoeSampleRefIdeal.main_arg1)
      ∧ r.2.mem ((c.tc : Thread Cert.MoeSampleRefIdeal.nD Cert.MoeSampleRefIdeal.τ).loc Cert.MoeSampleRefIdeal.main_arg2) = m ((c.tc : Thread Cert.MoeSampleRefIdeal.nD Cert.MoeSampleRefIdeal.τ).loc Cert.MoeSampleRefIdeal.main_arg2)
      ∧ r.2.mem ((c.tc : Thread Cert.MoeSampleRefIdeal.nD Cert.MoeSampleRefIdeal.τ).loc Cert.MoeSampleRefIdeal.main_arg3) = m ((c.tc : Thread Cert.MoeSampleRefIdeal.nD Cert.MoeSampleRefIdeal.τ).loc Cert.MoeSampleRefIdeal.main_arg3)
      ∧ r.2.mem ((c.tc : Thread Cert.MoeSampleRefIdeal.nD Cert.MoeSampleRefIdeal.τ).loc Cert.MoeSampleRefIdeal.main_arg4) = m ((c.tc : Thread Cert.MoeSampleRefIdeal.nD Cert.MoeSampleRefIdeal.τ).loc Cert.MoeSampleRefIdeal.main_arg4)
      ∧ r.2.mem ((c.tc : Thread Cert.MoeSampleRefIdeal.nD Cert.MoeSampleRefIdeal.τ).loc Cert.MoeSampleRefIdeal.main_arg5) = m ((c.tc : Thread Cert.MoeSampleRefIdeal.nD Cert.MoeSampleRefIdeal.τ).loc Cert.MoeSampleRefIdeal.main_arg5)
      ∧ r.2.mem ((c.tc : Thread Cert.MoeSampleRefIdeal.nD Cert.MoeSampleRefIdeal.τ).loc Cert.MoeSampleRefIdeal.main_arg6) = m ((c.tc : Thread Cert.MoeSampleRefIdeal.nD Cert.MoeSampleRefIdeal.τ).loc Cert.MoeSampleRefIdeal.main_arg6)
      ∧ r.2.mem ((c.tc : Thread Cert.MoeSampleRefIdeal.nD Cert.MoeSampleRefIdeal.τ).loc Cert.MoeSampleRefIdeal.main_arg7) = m ((c.tc : Thread Cert.MoeSampleRefIdeal.nD Cert.MoeSampleRefIdeal.τ).loc Cert.MoeSampleRefIdeal.main_arg7)
      ∧ r.2.mem ((c.tc : Thread Cert.MoeSampleRefIdeal.nD Cert.MoeSampleRefIdeal.τ).loc Cert.MoeSampleRefIdeal.main_arg8) = m ((c.tc : Thread Cert.MoeSampleRefIdeal.nD Cert.MoeSampleRefIdeal.τ).loc Cert.MoeSampleRefIdeal.main_arg8))
      ∧ r.2.sem = fun _ => 0)

def preserves_Moe_MoeIdeal : Prop :=
  IdealRules.named_const.Statement Cert.MoeIdeal.κ "neg" .f32 0xFF61B1E6#32 ⊥

def algebraic_MoeIdeal_MoeRefIdeal_pre_finite_routing [hMoeIdeal : Cert.MoeIdeal.Facts] [hMoeRefIdeal : Cert.MoeRefIdeal.Facts] [hPre_finite_routing : Cert.Pre_finite_routing.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_finite_routing m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)
      ∧ m' ((c.tc : Thread Cert.MoeRefIdeal.nD Cert.MoeRefIdeal.τ).loc Cert.MoeRefIdeal.main_arg8) = m ((c.tc : Thread Cert.MoeIdeal.nD Cert.MoeIdeal.τ).loc Cert.MoeIdeal.main_arg8)) →
    ∃ (v0 : (c : Dev Cert.MoeIdeal.nD) → Buf (Elt Ideal) ((c.tc : Thread Cert.MoeIdeal.nD Cert.MoeIdeal.τ).loc Cert.MoeIdeal.main_v5)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v5) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v165) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7)
          ∧ r.2.mem ((c.tc : Thread Cert.MoeRefIdeal.nD Cert.MoeRefIdeal.τ).loc Cert.MoeRefIdeal.main_arg8) = m' ((c.tc : Thread Cert.MoeRefIdeal.nD Cert.MoeRefIdeal.τ).loc Cert.MoeRefIdeal.main_arg8))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v9_0)) (v1 : (c : Dev Cert.InprojIdeal.nD) → Buf (Elt Ideal) ((c.tc : Thread Cert.InprojIdeal.nD Cert.InprojIdeal.τ).loc Cert.InprojIdeal.main_v9_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v9_0) = v0 c
          ∧ r.2.mem ((c.tc : Thread Cert.InprojIdeal.nD Cert.InprojIdeal.τ).loc Cert.InprojIdeal.main_v9_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v27) = v0 c
          ∧ r.2.mem ((c.tc : Thread Cert.InprojRefIdeal.nD Cert.InprojRefIdeal.τ).loc Cert.InprojRefIdeal.main_v29) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_InprojSample_InprojSampleIdeal : Prop :=
  True

def algebraic_InprojSampleIdeal_InprojSampleRefIdeal [hInprojSampleIdeal : Cert.InprojSampleIdeal.Facts] [hInprojSampleRefIdeal : Cert.InprojSampleRefIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg)
    (m' : (ℓ : Loc Cert.InprojSampleRefIdeal.nD Cert.InprojSampleRefIdeal.τ Cert.InprojSampleRefIdeal.sig) → Buf (Elt Ideal) ℓ) (g' : Dev Cert.InprojSampleRefIdeal.nD → PrngReg), Pre_InprojSampleIdeal m →
    (∀ c : Dev Cert.InprojSampleIdeal.nD,
      m' ((c.tc : Thread Cert.InprojSampleRefIdeal.nD Cert.InprojSampleRefIdeal.τ).loc Cert.InprojSampleRefIdeal.main_arg0) = m ((c.tc : Thread Cert.InprojSampleIdeal.nD Cert.InprojSampleIdeal.τ).loc Cert.InprojSampleIdeal.main_arg0)
      ∧ m' ((c.tc : Thread Cert.InprojSampleRefIdeal.nD Cert.InprojSampleRefIdeal.τ).loc Cert.InprojSampleRefIdeal.main_arg1) = m ((c.tc : Thread Cert.InprojSampleIdeal.nD Cert.InprojSampleIdeal.τ).loc Cert.InprojSampleIdeal.main_arg1)
      ∧ m' ((c.tc : Thread Cert.InprojSampleRefIdeal.nD Cert.InprojSampleRefIdeal.τ).loc Cert.InprojSampleRefIdeal.main_arg2) = m ((c.tc : Thread Cert.InprojSampleIdeal.nD Cert.InprojSampleIdeal.τ).loc Cert.InprojSampleIdeal.main_arg2)
      ∧ m' ((c.tc : Thread Cert.InprojSampleRefIdeal.nD Cert.InprojSampleRefIdeal.τ).loc Cert.InprojSampleRefIdeal.main_arg3) = m ((c.tc : Thread Cert.InprojSampleIdeal.nD Cert.InprojSampleIdeal.τ).loc Cert.InprojSampleIdeal.main_arg3)
      ∧ m' ((c.tc : Thread Cert.InprojSampleRefIdeal.nD Cert.InprojSampleRefIdeal.τ).loc Cert.InprojSampleRefIdeal.main_arg4) = m ((c.tc : Thread Cert.InprojSampleIdeal.nD Cert.InprojSampleIdeal.τ).loc Cert.InprojSampleIdeal.main_arg4)) →
    ∃ (v0 : (c : Dev Cert.InprojSampleIdeal.nD) → Buf (Elt Ideal) ((c.tc : Thread Cert.InprojSampleIdeal.nD Cert.InprojSampleIdeal.τ).loc Cert.InprojSampleIdeal.main_v9_0)) (v1 : (c : Dev Cert.InprojSampleIdeal.nD) → Buf (Elt Ideal) ((c.tc : Thread Cert.InprojSampleIdeal.nD Cert.InprojSampleIdeal.τ).loc Cert.InprojSampleIdeal.main_v9_1)),
      θ_run (Cert.InprojSampleIdeal.defs (F := Ideal)) (onTc (τ := Cert.InprojSampleIdeal.τ) (Cert.InprojSampleIdeal.main (F := Ideal))) ⟨m, fun _ => 0, g⟩ (fun r => ∀ c : Dev Cert.InprojSampleIdeal.nD,
          r.2.mem ((c.tc : Thread Cert.InprojSampleIdeal.nD Cert.InprojSampleIdeal.τ).loc Cert.InprojSampleIdeal.main_v9_0) = v0 c
          ∧ r.2.mem ((c.tc : Thread Cert.InprojSampleIdeal.nD Cert.InprojSampleIdeal.τ).loc Cert.InprojSampleIdeal.main_v9_1) = v1 c
          ∧ r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
          ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
          ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2)
          ∧ r.2.mem ((c.tc : Thread Cert.InprojSampleIdeal.nD Cert.InprojSampleIdeal.τ).loc Cert.InprojSampleIdeal.main_arg3) = m ((c.tc : Thread Cert.InprojSampleIdeal.nD Cert.InprojSampleIdeal.τ).loc Cert.InprojSampleIdeal.main_arg3)
          ∧ r.2.mem ((c.tc : Thread Cert.InprojSampleIdeal.nD Cert.InprojSampleIdeal.τ).loc Cert.InprojSampleIdeal.main_arg4) = m ((c.tc : Thread Cert.InprojSampleIdeal.nD Cert.InprojSampleIdeal.τ).loc Cert.InprojSampleIdeal.main_arg4))
      ∧ θ_run (Cert.InprojSampleRefIdeal.defs (F := Ideal)) (onTc (τ := Cert.InprojSampleRefIdeal.τ) (Cert.InprojSampleRefIdeal.main (F := Ideal))) ⟨m', fun _ => 0, g'⟩ (fun r => ∀ c : Dev Cert.InprojSampleRefIdeal.nD,
          r.2.mem ((c.tc : Thread Cert.InprojSampleRefIdeal.nD Cert.InprojSampleRefIdeal.τ).loc Cert.InprojSampleRefIdeal.main_v25) = v0 c
          ∧ r.2.mem ((c.tc : Thread Cert.InprojSampleRefIdeal.nD Cert.InprojSampleRefIdeal.τ).loc Cert.InprojSampleRefIdeal.main_v27) = v1 c
          ∧ r.2.mem ((c.tc : Thread Cert.InprojSampleRefIdeal.nD Cert.InprojSampleRefIdeal.τ).loc Cert.InprojSampleRefIdeal.main_arg0) = m' ((c.tc : Thread Cert.InprojSampleRefIdeal.nD Cert.InprojSampleRefIdeal.τ).loc Cert.InprojSampleRefIdeal.main_arg0)
          ∧ r.2.mem ((c.tc : Thread Cert.InprojSampleRefIdeal.nD Cert.InprojSampleRefIdeal.τ).loc Cert.InprojSampleRefIdeal.main_arg1) = m' ((c.tc : Thread Cert.InprojSampleRefIdeal.nD Cert.InprojSampleRefIdeal.τ).loc Cert.InprojSampleRefIdeal.main_arg1)
          ∧ r.2.mem ((c.tc : Thread Cert.InprojSampleRefIdeal.nD Cert.InprojSampleRefIdeal.τ).loc Cert.InprojSampleRefIdeal.main_arg2) = m' ((c.tc : Thread Cert.InprojSampleRefIdeal.nD Cert.InprojSampleRefIdeal.τ).loc Cert.InprojSampleRefIdeal.main_arg2)
          ∧ r.2.mem ((c.tc : Thread Cert.InprojSampleRefIdeal.nD Cert.InprojSampleRefIdeal.τ).loc Cert.InprojSampleRefIdeal.main_arg3) = m' ((c.tc : Thread Cert.InprojSampleRefIdeal.nD Cert.InprojSampleRefIdeal.τ).loc Cert.InprojSampleRefIdeal.main_arg3)
          ∧ r.2.mem ((c.tc : Thread Cert.InprojSampleRefIdeal.nD Cert.InprojSampleRefIdeal.τ).loc Cert.InprojSampleRefIdeal.main_arg4) = m' ((c.tc : Thread Cert.InprojSampleRefIdeal.nD Cert.InprojSampleRefIdeal.τ).loc Cert.InprojSampleRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v31) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v32) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_MoeSample_MoeSampleIdeal : Prop :=
  IdealRules.named_const.Statement Cert.MoeSampleIdeal.κ "neg" .f32 0xFF61B1E6#32 ⊥

def algebraic_MoeSampleIdeal_MoeSampleRefIdeal_pre_finite_routing_sample [hMoeSampleIdeal : Cert.MoeSampleIdeal.Facts] [hMoeSampleRefIdeal : Cert.MoeSampleRefIdeal.Facts] [hPre_finite_routing_sample : Cert.Pre_finite_routing_sample.Facts] : Prop :=
  ∀ (m : (ℓ : Loc Cert.MoeSampleIdeal.nD Cert.MoeSampleIdeal.τ Cert.MoeSampleIdeal.sig) → Buf (Elt Ideal) ℓ) (g : Dev Cert.MoeSampleIdeal.nD → PrngReg)
    (m' : (ℓ : Loc Cert.MoeSampleRefIdeal.nD Cert.MoeSampleRefIdeal.τ Cert.MoeSampleRefIdeal.sig) → Buf (Elt Ideal) ℓ) (g' : Dev Cert.MoeSampleRefIdeal.nD → PrngReg), Pre_MoeSampleIdeal_finite_routing_sample m →
    (∀ c : Dev Cert.MoeSampleIdeal.nD,
      m' ((c.tc : Thread Cert.MoeSampleRefIdeal.nD Cert.MoeSampleRefIdeal.τ).loc Cert.MoeSampleRefIdeal.main_arg0) = m ((c.tc : Thread Cert.MoeSampleIdeal.nD Cert.MoeSampleIdeal.τ).loc Cert.MoeSampleIdeal.main_arg0)
      ∧ m' ((c.tc : Thread Cert.MoeSampleRefIdeal.nD Cert.MoeSampleRefIdeal.τ).loc Cert.MoeSampleRefIdeal.main_arg1) = m ((c.tc : Thread Cert.MoeSampleIdeal.nD Cert.MoeSampleIdeal.τ).loc Cert.MoeSampleIdeal.main_arg1)
      ∧ m' ((c.tc : Thread Cert.MoeSampleRefIdeal.nD Cert.MoeSampleRefIdeal.τ).loc Cert.MoeSampleRefIdeal.main_arg2) = m ((c.tc : Thread Cert.MoeSampleIdeal.nD Cert.MoeSampleIdeal.τ).loc Cert.MoeSampleIdeal.main_arg2)
      ∧ m' ((c.tc : Thread Cert.MoeSampleRefIdeal.nD Cert.MoeSampleRefIdeal.τ).loc Cert.MoeSampleRefIdeal.main_arg3) = m ((c.tc : Thread Cert.MoeSampleIdeal.nD Cert.MoeSampleIdeal.τ).loc Cert.MoeSampleIdeal.main_arg3)
      ∧ m' ((c.tc : Thread Cert.MoeSampleRefIdeal.nD Cert.MoeSampleRefIdeal.τ).loc Cert.MoeSampleRefIdeal.main_arg4) = m ((c.tc : Thread Cert.MoeSampleIdeal.nD Cert.MoeSampleIdeal.τ).loc Cert.MoeSampleIdeal.main_arg4)
      ∧ m' ((c.tc : Thread Cert.MoeSampleRefIdeal.nD Cert.MoeSampleRefIdeal.τ).loc Cert.MoeSampleRefIdeal.main_arg5) = m ((c.tc : Thread Cert.MoeSampleIdeal.nD Cert.MoeSampleIdeal.τ).loc Cert.MoeSampleIdeal.main_arg5)
      ∧ m' ((c.tc : Thread Cert.MoeSampleRefIdeal.nD Cert.MoeSampleRefIdeal.τ).loc Cert.MoeSampleRefIdeal.main_arg6) = m ((c.tc : Thread Cert.MoeSampleIdeal.nD Cert.MoeSampleIdeal.τ).loc Cert.MoeSampleIdeal.main_arg6)
      ∧ m' ((c.tc : Thread Cert.MoeSampleRefIdeal.nD Cert.MoeSampleRefIdeal.τ).loc Cert.MoeSampleRefIdeal.main_arg7) = m ((c.tc : Thread Cert.MoeSampleIdeal.nD Cert.MoeSampleIdeal.τ).loc Cert.MoeSampleIdeal.main_arg7)
      ∧ m' ((c.tc : Thread Cert.MoeSampleRefIdeal.nD Cert.MoeSampleRefIdeal.τ).loc Cert.MoeSampleRefIdeal.main_arg8) = m ((c.tc : Thread Cert.MoeSampleIdeal.nD Cert.MoeSampleIdeal.τ).loc Cert.MoeSampleIdeal.main_arg8)) →
    ∃ (v0 : (c : Dev Cert.MoeSampleIdeal.nD) → Buf (Elt Ideal) ((c.tc : Thread Cert.MoeSampleIdeal.nD Cert.MoeSampleIdeal.τ).loc Cert.MoeSampleIdeal.main_v5)),
      θ_run (Cert.MoeSampleIdeal.defs (F := Ideal)) (onTc (τ := Cert.MoeSampleIdeal.τ) (Cert.MoeSampleIdeal.main (F := Ideal))) ⟨m, fun _ => 0, g⟩ (fun r => ∀ c : Dev Cert.MoeSampleIdeal.nD,
          r.2.mem ((c.tc : Thread Cert.MoeSampleIdeal.nD Cert.MoeSampleIdeal.τ).loc Cert.MoeSampleIdeal.main_v5) = v0 c
          ∧ r.2.mem ((c.tc : Thread Cert.MoeSampleIdeal.nD Cert.MoeSampleIdeal.τ).loc Cert.MoeSampleIdeal.main_arg0) = m ((c.tc : Thread Cert.MoeSampleIdeal.nD Cert.MoeSampleIdeal.τ).loc Cert.MoeSampleIdeal.main_arg0)
          ∧ r.2.mem ((c.tc : Thread Cert.MoeSampleIdeal.nD Cert.MoeSampleIdeal.τ).loc Cert.MoeSampleIdeal.main_arg1) = m ((c.tc : Thread Cert.MoeSampleIdeal.nD Cert.MoeSampleIdeal.τ).loc Cert.MoeSampleIdeal.main_arg1)
          ∧ r.2.mem ((c.tc : Thread Cert.MoeSampleIdeal.nD Cert.MoeSampleIdeal.τ).loc Cert.MoeSampleIdeal.main_arg2) = m ((c.tc : Thread Cert.MoeSampleIdeal.nD Cert.MoeSampleIdeal.τ).loc Cert.MoeSampleIdeal.main_arg2)
          ∧ r.2.mem ((c.tc : Thread Cert.MoeSampleIdeal.nD Cert.MoeSampleIdeal.τ).loc Cert.MoeSampleIdeal.main_arg3) = m ((c.tc : Thread Cert.MoeSampleIdeal.nD Cert.MoeSampleIdeal.τ).loc Cert.MoeSampleIdeal.main_arg3)
          ∧ r.2.mem ((c.tc : Thread Cert.MoeSampleIdeal.nD Cert.MoeSampleIdeal.τ).loc Cert.MoeSampleIdeal.main_arg4) = m ((c.tc : Thread Cert.MoeSampleIdeal.nD Cert.MoeSampleIdeal.τ).loc Cert.MoeSampleIdeal.main_arg4)
          ∧ r.2.mem ((c.tc : Thread Cert.MoeSampleIdeal.nD Cert.MoeSampleIdeal.τ).loc Cert.MoeSampleIdeal.main_arg5) = m ((c.tc : Thread Cert.MoeSampleIdeal.nD Cert.MoeSampleIdeal.τ).loc Cert.MoeSampleIdeal.main_arg5)
          ∧ r.2.mem ((c.tc : Thread Cert.MoeSampleIdeal.nD Cert.MoeSampleIdeal.τ).loc Cert.MoeSampleIdeal.main_arg6) = m ((c.tc : Thread Cert.MoeSampleIdeal.nD Cert.MoeSampleIdeal.τ).loc Cert.MoeSampleIdeal.main_arg6)
          ∧ r.2.mem ((c.tc : Thread Cert.MoeSampleIdeal.nD Cert.MoeSampleIdeal.τ).loc Cert.MoeSampleIdeal.main_arg7) = m ((c.tc : Thread Cert.MoeSampleIdeal.nD Cert.MoeSampleIdeal.τ).loc Cert.MoeSampleIdeal.main_arg7)
          ∧ r.2.mem ((c.tc : Thread Cert.MoeSampleIdeal.nD Cert.MoeSampleIdeal.τ).loc Cert.MoeSampleIdeal.main_arg8) = m ((c.tc : Thread Cert.MoeSampleIdeal.nD Cert.MoeSampleIdeal.τ).loc Cert.MoeSampleIdeal.main_arg8))
      ∧ θ_run (Cert.MoeSampleRefIdeal.defs (F := Ideal)) (onTc (τ := Cert.MoeSampleRefIdeal.τ) (Cert.MoeSampleRefIdeal.main (F := Ideal))) ⟨m', fun _ => 0, g'⟩ (fun r => ∀ c : Dev Cert.MoeSampleRefIdeal.nD,
          r.2.mem ((c.tc : Thread Cert.MoeSampleRefIdeal.nD Cert.MoeSampleRefIdeal.τ).loc Cert.MoeSampleRefIdeal.main_v162) = v0 c
          ∧ r.2.mem ((c.tc : Thread Cert.MoeSampleRefIdeal.nD Cert.MoeSampleRefIdeal.τ).loc Cert.MoeSampleRefIdeal.main_arg0) = m' ((c.tc : Thread Cert.MoeSampleRefIdeal.nD Cert.MoeSampleRefIdeal.τ).loc Cert.MoeSampleRefIdeal.main_arg0)
          ∧ r.2.mem ((c.tc : Thread Cert.MoeSampleRefIdeal.nD Cert.MoeSampleRefIdeal.τ).loc Cert.MoeSampleRefIdeal.main_arg1) = m' ((c.tc : Thread Cert.MoeSampleRefIdeal.nD Cert.MoeSampleRefIdeal.τ).loc Cert.MoeSampleRefIdeal.main_arg1)
          ∧ r.2.mem ((c.tc : Thread Cert.MoeSampleRefIdeal.nD Cert.MoeSampleRefIdeal.τ).loc Cert.MoeSampleRefIdeal.main_arg2) = m' ((c.tc : Thread Cert.MoeSampleRefIdeal.nD Cert.MoeSampleRefIdeal.τ).loc Cert.MoeSampleRefIdeal.main_arg2)
          ∧ r.2.mem ((c.tc : Thread Cert.MoeSampleRefIdeal.nD Cert.MoeSampleRefIdeal.τ).loc Cert.MoeSampleRefIdeal.main_arg3) = m' ((c.tc : Thread Cert.MoeSampleRefIdeal.nD Cert.MoeSampleRefIdeal.τ).loc Cert.MoeSampleRefIdeal.main_arg3)
          ∧ r.2.mem ((c.tc : Thread Cert.MoeSampleRefIdeal.nD Cert.MoeSampleRefIdeal.τ).loc Cert.MoeSampleRefIdeal.main_arg4) = m' ((c.tc : Thread Cert.MoeSampleRefIdeal.nD Cert.MoeSampleRefIdeal.τ).loc Cert.MoeSampleRefIdeal.main_arg4)
          ∧ r.2.mem ((c.tc : Thread Cert.MoeSampleRefIdeal.nD Cert.MoeSampleRefIdeal.τ).loc Cert.MoeSampleRefIdeal.main_arg5) = m' ((c.tc : Thread Cert.MoeSampleRefIdeal.nD Cert.MoeSampleRefIdeal.τ).loc Cert.MoeSampleRefIdeal.main_arg5)
          ∧ r.2.mem ((c.tc : Thread Cert.MoeSampleRefIdeal.nD Cert.MoeSampleRefIdeal.τ).loc Cert.MoeSampleRefIdeal.main_arg6) = m' ((c.tc : Thread Cert.MoeSampleRefIdeal.nD Cert.MoeSampleRefIdeal.τ).loc Cert.MoeSampleRefIdeal.main_arg6)
          ∧ r.2.mem ((c.tc : Thread Cert.MoeSampleRefIdeal.nD Cert.MoeSampleRefIdeal.τ).loc Cert.MoeSampleRefIdeal.main_arg7) = m' ((c.tc : Thread Cert.MoeSampleRefIdeal.nD Cert.MoeSampleRefIdeal.τ).loc Cert.MoeSampleRefIdeal.main_arg7)
          ∧ r.2.mem ((c.tc : Thread Cert.MoeSampleRefIdeal.nD Cert.MoeSampleRefIdeal.τ).loc Cert.MoeSampleRefIdeal.main_arg8) = m' ((c.tc : Thread Cert.MoeSampleRefIdeal.nD Cert.MoeSampleRefIdeal.τ).loc Cert.MoeSampleRefIdeal.main_arg8))

def Claim : Prop :=
  ∃ (hMoe : Cert.Moe.Facts) (hMoeIdeal : Cert.MoeIdeal.Facts) (hMoeRefIdeal : Cert.MoeRefIdeal.Facts) (hInproj : Cert.Inproj.Facts) (hInprojIdeal : Cert.InprojIdeal.Facts) (hInprojRefIdeal : Cert.InprojRefIdeal.Facts) (hInprojSample : Cert.InprojSample.Facts) (hInprojSampleIdeal : Cert.InprojSampleIdeal.Facts) (hInprojSampleRefIdeal : Cert.InprojSampleRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hMoeSample : Cert.MoeSample.Facts) (hMoeSampleIdeal : Cert.MoeSampleIdeal.Facts) (hMoeSampleRefIdeal : Cert.MoeSampleRefIdeal.Facts) (hPre_finite_routing : Cert.Pre_finite_routing.Facts) (hPre_finite_routing_sample : Cert.Pre_finite_routing_sample.Facts),
    quiescent_Moe (hMoe := hMoe)
    ∧ quiescent_MoeIdeal (hMoeIdeal := hMoeIdeal)
    ∧ quiescent_MoeIdeal_pre_finite_routing (hMoeIdeal := hMoeIdeal) (hPre_finite_routing := hPre_finite_routing)
    ∧ quiescent_MoeRefIdeal (hMoeRefIdeal := hMoeRefIdeal)
    ∧ quiescent_MoeRefIdeal_pre_finite_routing (hMoeRefIdeal := hMoeRefIdeal) (hPre_finite_routing := hPre_finite_routing)
    ∧ quiescent_Inproj (hInproj := hInproj)
    ∧ quiescent_InprojIdeal (hInprojIdeal := hInprojIdeal)
    ∧ quiescent_InprojRefIdeal (hInprojRefIdeal := hInprojRefIdeal)
    ∧ quiescent_InprojSample (hInprojSample := hInprojSample)
    ∧ quiescent_InprojSampleIdeal (hInprojSampleIdeal := hInprojSampleIdeal)
    ∧ quiescent_InprojSampleRefIdeal (hInprojSampleRefIdeal := hInprojSampleRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_MoeSample (hMoeSample := hMoeSample)
    ∧ quiescent_MoeSampleIdeal (hMoeSampleIdeal := hMoeSampleIdeal)
    ∧ quiescent_MoeSampleIdeal_pre_finite_routing_sample (hMoeSampleIdeal := hMoeSampleIdeal) (hPre_finite_routing_sample := hPre_finite_routing_sample)
    ∧ quiescent_MoeSampleRefIdeal (hMoeSampleRefIdeal := hMoeSampleRefIdeal)
    ∧ quiescent_MoeSampleRefIdeal_pre_finite_routing_sample (hMoeSampleRefIdeal := hMoeSampleRefIdeal) (hPre_finite_routing_sample := hPre_finite_routing_sample)
    ∧ preserves_Moe_MoeIdeal
    ∧ algebraic_MoeIdeal_MoeRefIdeal_pre_finite_routing (hMoeIdeal := hMoeIdeal) (hMoeRefIdeal := hMoeRefIdeal) (hPre_finite_routing := hPre_finite_routing)
    ∧ preserves_Inproj_InprojIdeal
    ∧ algebraic_InprojIdeal_InprojRefIdeal (hInprojIdeal := hInprojIdeal) (hInprojRefIdeal := hInprojRefIdeal)
    ∧ preserves_InprojSample_InprojSampleIdeal
    ∧ algebraic_InprojSampleIdeal_InprojSampleRefIdeal (hInprojSampleIdeal := hInprojSampleIdeal) (hInprojSampleRefIdeal := hInprojSampleRefIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_MoeSample_MoeSampleIdeal
    ∧ algebraic_MoeSampleIdeal_MoeSampleRefIdeal_pre_finite_routing_sample (hMoeSampleIdeal := hMoeSampleIdeal) (hMoeSampleRefIdeal := hMoeSampleRefIdeal) (hPre_finite_routing_sample := hPre_finite_routing_sample)
-- ==== Pre_finite_routing.lean ====
abbrev S16384x1024 : Shape := ⟨2, ![16384, 1024]⟩
abbrev S1x1024 : Shape := ⟨2, ![1, 1024]⟩
abbrev S2x1024 : Shape := ⟨2, ![2, 1024]⟩
abbrev S1x1024x8 : Shape := ⟨3, ![1, 1024, 8]⟩
abbrev S1x8x1024x1408 : Shape := ⟨4, ![1, 8, 1024, 1408]⟩
abbrev S1x8x1408x1024 : Shape := ⟨4, ![1, 8, 1408, 1024]⟩
abbrev S_ : Shape := ⟨0, ![]⟩
abbrev S1 : Shape := ⟨1, ![1]⟩
abbrev S5 : Shape := ⟨1, ![5]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S2x1024 : S_.BroadcastsInDim S2x1024 (![] : Fin 0 → Fin S2x1024.rank)
  reducesTo_S2x1024_S_d0_1 : S2x1024.ReducesTo [0, 1] S_
  bcast_S_S1x1024x8 : S_.BroadcastsInDim S1x1024x8 (![] : Fin 0 → Fin S1x1024x8.rank)
  reducesTo_S1x1024x8_S_d0_1_2 : S1x1024x8.ReducesTo [0, 1, 2] S_
  bcast_S_S1 : S_.BroadcastsInDim S1 (![] : Fin 0 → Fin S1.rank)
  concatenates_S1_S1_S1_S1_S1_S5_d0 : Shape.Concatenates [S1, S1, S1, S1, S1] S5 0

variable [Facts]

def fn_part1 {F : FTy → Type} [FloatOps F] (main_arg5 : FVec F S1x1024x8 .f32) (main_v3 : IVec S_ 1) (main_v7 : IVec S_ 1) (main_v11 : IVec S_ 1) (main_v15 : IVec S_ 1) : IVec S5 1 :=
  let main_v16 : FVec F S1x1024x8 .f32 := Host.absf main_arg5
  let main_cst_6 : FVec F S_ .f32 := constant S_ .f32 0x7F800000#32
  let main_v17 : FVec F S1x1024x8 .f32 := broadcastInDim S1x1024x8 ![] bcast_S_S1x1024x8 main_cst_6
  let main_v18 : IVec S1x1024x8 1 := cmpf .olt main_v16 main_v17
  let main_c_7 : IVec S_ 1 := constantI S_ 1 1#1
  let main_v19 : IVec S_ 1 := (fun x v => Host.reduce IntOp.andi x v reducesTo_S1x1024x8_S_d0_1_2 h_S_) main_v18 main_c_7
  let main_v20 : IVec S1 1 := broadcastInDim S1 ![] bcast_S_S1 main_v3
  let main_v21 : IVec S1 1 := broadcastInDim S1 ![] bcast_S_S1 main_v7
  let main_v22 : IVec S1 1 := broadcastInDim S1 ![] bcast_S_S1 main_v11
  let main_v23 : IVec S1 1 := broadcastInDim S1 ![] bcast_S_S1 main_v15
  let main_v24 : IVec S1 1 := broadcastInDim S1 ![] bcast_S_S1 main_v19
  let main_v25 : IVec S5 1 := concatenate S5 0 [⟨S1, main_v20⟩, ⟨S1, main_v21⟩, ⟨S1, main_v22⟩, ⟨S1, main_v23⟩, ⟨S1, main_v24⟩] concatenates_S1_S1_S1_S1_S1_S5_d0
  main_v25

def fn {F : FTy → Type} [FloatOps F] (main_arg0 : FVec F S16384x1024 .f32) (main_arg1 : FVec F S1x1024 .f32) (main_arg2 : FVec F S1x1024 .f32) (main_arg3 : FVec F S1x1024 .f32) (main_arg4 : FVec F S2x1024 .f32) (main_arg5 : FVec F S1x1024x8 .f32) (main_arg6 : FVec F S1x8x1024x1408 .f32) (main_arg7 : FVec F S1x8x1024x1408 .f32) (main_arg8 : FVec F S1x8x1408x1024 .f32) : IVec S5 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S2x1024 .f32 := Host.absf main_arg4
  let main_cst_4 : FVec F S_ .f32 := constant S_ .f32 0x7F800000#32
  let main_v13 : FVec F S2x1024 .f32 := broadcastInDim S2x1024 ![] bcast_S_S2x1024 main_cst_4
  let main_v14 : IVec S2x1024 1 := cmpf .olt main_v12 main_v13
  let main_c_5 : IVec S_ 1 := constantI S_ 1 1#1
  let main_v15 : IVec S_ 1 := (fun x v => Host.reduce IntOp.andi x v reducesTo_S2x1024_S_d0_1 h_S_) main_v14 main_c_5
  fn_part1 (F := F) main_arg5 main_v3 main_v7 main_v11 main_v15
-- ==== Pre_finite_routing_sample.lean ====
abbrev S128x1024 : Shape := ⟨2, ![128, 1024]⟩
abbrev S2x1024 : Shape := ⟨2, ![2, 1024]⟩
abbrev S1x1024x8 : Shape := ⟨3, ![1, 1024, 8]⟩
abbrev S1x8x1024x1408 : Shape := ⟨4, ![1, 8, 1024, 1408]⟩
abbrev S1x8x1408x1024 : Shape := ⟨4, ![1, 8, 1408, 1024]⟩
abbrev S_ : Shape := ⟨0, ![]⟩
abbrev S1 : Shape := ⟨1, ![1]⟩
abbrev S5 : Shape := ⟨1, ![5]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S1x1024x8 : S_.BroadcastsInDim S1x1024x8 (![] : Fin 0 → Fin S1x1024x8.rank)
  reducesTo_S1x1024x8_S_d0_1_2 : S1x1024x8.ReducesTo [0, 1, 2] S_
  bcast_S_S1 : S_.BroadcastsInDim S1 (![] : Fin 0 → Fin S1.rank)
  concatenates_S1_S1_S1_S1_S1_S5_d0 : Shape.Concatenates [S1, S1, S1, S1, S1] S5 0

variable [Facts]

def fn_part1 {F : FTy → Type} [FloatOps F] (main_arg5 : FVec F S1x1024x8 .f32) (main_v3 : IVec S_ 1) (main_v7 : IVec S_ 1) (main_v11 : IVec S_ 1) (main_v15 : IVec S_ 1) : IVec S5 1 :=
  let main_v16 : FVec F S1x1024x8 .f32 := Host.absf main_arg5
  let main_cst_6 : FVec F S_ .f32 := constant S_ .f32 0x7F800000#32
  let main_v17 : FVec F S1x1024x8 .f32 := broadcastInDim S1x1024x8 ![] bcast_S_S1x1024x8 main_cst_6
  let main_v18 : IVec S1x1024x8 1 := cmpf .olt main_v16 main_v17
  let main_c_7 : IVec S_ 1 := constantI S_ 1 1#1
  let main_v19 : IVec S_ 1 := (fun x v => Host.reduce IntOp.andi x v reducesTo_S1x1024x8_S_d0_1_2 h_S_) main_v18 main_c_7
  let main_v20 : IVec S1 1 := broadcastInDim S1 ![] bcast_S_S1 main_v3
  let main_v21 : IVec S1 1 := broadcastInDim S1 ![] bcast_S_S1 main_v7
  let main_v22 : IVec S1 1 := broadcastInDim S1 ![] bcast_S_S1 main_v11
  let main_v23 : IVec S1 1 := broadcastInDim S1 ![] bcast_S_S1 main_v15
  let main_v24 : IVec S1 1 := broadcastInDim S1 ![] bcast_S_S1 main_v19
  let main_v25 : IVec S5 1 := concatenate S5 0 [⟨S1, main_v20⟩, ⟨S1, main_v21⟩, ⟨S1, main_v22⟩, ⟨S1, main_v23⟩, ⟨S1, main_v24⟩] concatenates_S1_S1_S1_S1_S1_S5_d0
  main_v25

def fn {F : FTy → Type} [FloatOps F] (main_arg0 : FVec F S128x1024 .f32) (main_arg1 : FVec F S128x1024 .f32) (main_arg2 : FVec F S128x1024 .f32) (main_arg3 : FVec F S128x1024 .f32) (main_arg4 : FVec F S2x1024 .f32) (main_arg5 : FVec F S1x1024x8 .f32) (main_arg6 : FVec F S1x8x1024x1408 .f32) (main_arg7 : FVec F S1x8x1024x1408 .f32) (main_arg8 : FVec F S1x8x1408x1024 .f32) : IVec S5 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : FVec F S128x1024 .f32 := Host.absf main_arg2
  let main_cst_2 : FVec F S_ .f32 := constant S_ .f32 0x7F800000#32
  let main_v9 : FVec F S128x1024 .f32 := broadcastInDim S128x1024 ![] bcast_S_S128x1024 main_cst_2
  let main_v10 : IVec S128x1024 1 := cmpf .olt main_v8 main_v9
  let main_c_3 : IVec S_ 1 := constantI S_ 1 1#1
  let main_v11 : IVec S_ 1 := (fun x v => Host.reduce IntOp.andi x v reducesTo_S128x1024_S_d0_1 h_S_) main_v10 main_c_3
  let main_v12 : FVec F S2x1024 .f32 := Host.absf main_arg4
  let main_cst_4 : FVec F S_ .f32 := constant S_ .f32 0x7F800000#32
  let main_v13 : FVec F S2x1024 .f32 := broadcastInDim S2x1024 ![] bcast_S_S2x1024 main_cst_4
  let main_v14 : IVec S2x1024 1 := cmpf .olt main_v12 main_v13
  let main_c_5 : IVec S_ 1 := constantI S_ 1 1#1
  let main_v15 : IVec S_ 1 := (fun x v => Host.reduce IntOp.andi x v reducesTo_S2x1024_S_d0_1 h_S_) main_v14 main_c_5
  fn_part1 (F := F) main_arg5 main_v3 main_v7 main_v11 main_v15
-- ==== Moe.lean ====
abbrev S16384x1024 : Shape := ⟨2, ![16384, 1024]⟩
abbrev S1x1024 : Shape := ⟨2, ![1, 1024]⟩
abbrev S2x1024 : Shape := ⟨2, ![2, 1024]⟩
abbrev S1x1024x8 : Shape := ⟨3, ![1, 1024, 8]⟩
abbrev S1x8x1024x1408 : Shape := ⟨4, ![1, 8, 1024, 1408]⟩
abbrev S1x8x1408x1024 : Shape := ⟨4, ![1, 8, 1408, 1024]⟩
abbrev S2x1x1024 : Shape := ⟨3, ![2, 1, 1024]⟩
abbrev S_ : Shape := ⟨0, ![]⟩
abbrev S1x1024x128 : Shape := ⟨3, ![1, 1024, 128]⟩
abbrev S512x1024 : Shape := ⟨2, ![512, 1024]⟩
abbrev S1x1x1024 : Shape := ⟨3, ![1, 1, 1024]⟩
abbrev S1x1x1024x1408 : Shape := ⟨4, ![1, 1, 1024, 1408]⟩
abbrev S1x1x1408x1024 : Shape := ⟨4, ![1, 1, 1408, 1024]⟩
abbrev S512x128 : Shape := ⟨2, ![512, 128]⟩
abbrev S512 : Shape := ⟨1, ![512]⟩
abbrev S512x1 : Shape := ⟨2, ![512, 1]⟩
abbrev S1024x128 : Shape := ⟨2, ![1024, 128]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 17
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2x1024, .f32⟩
  | .hbm, ⟨5, _⟩ => ⟨S1x1024x8, .f32⟩
  | .hbm, ⟨6, _⟩ => ⟨S1x8x1024x1408, .f32⟩
  | .hbm, ⟨7, _⟩ => ⟨S1x8x1024x1408, .f32⟩
  | .hbm, ⟨8, _⟩ => ⟨S1x8x1408x1024, .f32⟩
  | .hbm, ⟨9, _⟩ => ⟨S2x1x1024, .f32⟩
  | .hbm, ⟨10, _⟩ => ⟨S1x8x1024x1408, .bf16⟩
  | .hbm, ⟨11, _⟩ => ⟨S1x8x1024x1408, .bf16⟩
  | .hbm, ⟨12, _⟩ => ⟨S1x8x1408x1024, .bf16⟩
  | .hbm, ⟨13, _⟩ => ⟨S_, .i32⟩
  | .hbm, ⟨14, _⟩ => ⟨S_, .f32⟩
  | .hbm, ⟨15, _⟩ => ⟨S1x1024x128, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024x128, .f32⟩
  | .local _ .vmem, ⟨7, _⟩ => ⟨S1x1x1024x1408, .bf16⟩
  | .local _ .vmem, ⟨8, _⟩ => ⟨S1x1x1024x1408, .bf16⟩
  | .local _ .vmem, ⟨9, _⟩ => ⟨S1x1x1024x1408, .bf16⟩
  | .local _ .vmem, ⟨10, _⟩ => ⟨S1x1x1024x1408, .bf16⟩
  | .local _ .vmem, ⟨11, _⟩ => ⟨S1x1x1408x1024, .bf16⟩
  | .local _ .vmem, ⟨12, _⟩ => ⟨S1x1x1408x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x128, .f32⟩
  | .local _ .vmem, ⟨17, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_27 : BitVec 32 := 0#32
  let v40 : BitVec 1 := Scalar.cmpi .ne v39 c0_i32_27
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x1024x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x1408x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== MoeIdeal.lean ====
variable {F : FTy → Type} [FloatOps F] [Named F]
def κ : String → Option EReal := fun
  | "neg" => some ⊥
  | _ => none
-- ==== MoeRefIdeal.lean ====
abbrev S16384x1024 : Shape := ⟨2, ![16384, 1024]⟩
abbrev S1x1024 : Shape := ⟨2, ![1, 1024]⟩
abbrev S2x1024 : Shape := ⟨2, ![2, 1024]⟩
abbrev S1x1024x8 : Shape := ⟨3, ![1, 1024, 8]⟩
abbrev S1x8x1024x1408 : Shape := ⟨4, ![1, 8, 1024, 1408]⟩
abbrev S1x8x1408x1024 : Shape := ⟨4, ![1, 8, 1408, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x8 : Shape := ⟨2, ![1024, 8]⟩
abbrev S8x1024x1408 : Shape := ⟨3, ![8, 1024, 1408]⟩
abbrev S8x1408x1024 : Shape := ⟨3, ![8, 1408, 1024]⟩
abbrev S16384x8 : Shape := ⟨2, ![16384, 8]⟩
abbrev S16384x2 : Shape := ⟨2, ![16384, 2]⟩
abbrev S16384x2x1 : Shape := ⟨3, ![16384, 2, 1]⟩
abbrev S1x1x8 : Shape := ⟨3, ![1, 1, 8]⟩
abbrev S16384x2x8 : Shape := ⟨3, ![16384, 2, 8]⟩
abbrev S1x1024x1408 : Shape := ⟨3, ![1, 1024, 1408]⟩
abbrev S1024x1408 : Shape := ⟨2, ![1024, 1408]⟩
abbrev S1x1408x1024 : Shape := ⟨3, ![1, 1408, 1024]⟩
abbrev S1408x1024 : Shape := ⟨2, ![1408, 1024]⟩
abbrev S16384x1408 : Shape := ⟨2, ![16384, 1408]⟩

abbrev nBuf : Space → Nat
  | .hbm => 255
  | .vmem => 0
  | .smem => 0
  | _ => 0

abbrev hbmTy0_0 (i : Nat) : BufTy := match i % 128 with
  | 0 => ⟨S16384x1024, .f32⟩
  | 1 => ⟨S1x1024, .f32⟩
  | 2 => ⟨S1x1024, .f32⟩
  | 3 => ⟨S1x1024, .f32⟩
  | 4 => ⟨S2x1024, .f32⟩
  | 5 => ⟨S1x1024x8, .f32⟩
  | 6 => ⟨S1x8x1024x1408, .f32⟩
  | 7 => ⟨S1x8x1024x1408, .f32⟩
  | 8 => ⟨S1x8x1408x1024, .f32⟩
  | 9 => ⟨S1x1024, .f32⟩
  | 10 => ⟨S1024, .f32⟩
  | 11 => ⟨S16384x1024, .f32⟩
  | 12 => ⟨S_, .f32⟩
  | 13 => ⟨S16384, .f32⟩
  | 14 => ⟨S16384x1, .f32⟩
  | 15 => ⟨S_, .f32⟩
  | 16 => ⟨S16384x1, .f32⟩
  | 17 => ⟨S16384x1, .f32⟩
  | 18 => ⟨S_, .f32⟩
  | 19 => ⟨S16384x1, .f32⟩
  | 20 => ⟨S16384x1, .f32⟩
  | 21 => ⟨S16384x1, .f32⟩
  | 22 => ⟨S16384x1024, .f32⟩
  | 23 => ⟨S16384x1024, .f32⟩
  | 24 => ⟨S1x1024, .f32⟩
  | 25 => ⟨S16384x1024, .f32⟩
  | 26 => ⟨S16384x1024, .f32⟩
  | 27 => ⟨S_, .f32⟩
  | 28 => ⟨S1x1024, .f32⟩
  | 29 => ⟨S1x1024, .f32⟩
  | 30 => ⟨S16384x1024, .f32⟩
  | 31 => ⟨S16384x1024, .f32⟩
  | 32 => ⟨S16384x1024, .f32⟩
  | 33 => ⟨S16384x1024, .f32⟩
  | 34 => ⟨S1024x8, .f32⟩
  | 35 => ⟨S8x1024x1408, .f32⟩
  | 36 => ⟨S8x1024x1408, .f32⟩
  | 37 => ⟨S8x1408x1024, .f32⟩
  | 38 => ⟨S16384x8, .f32⟩
  | 39 => ⟨S16384x2, .f32⟩
  | 40 => ⟨S16384x2, .i32⟩
  | 41 => ⟨S_, .f32⟩
  | 42 => ⟨S16384, .f32⟩
  | 43 => ⟨S_, .f32⟩
  | 44 => ⟨S16384, .f32⟩
  | 45 => ⟨S16384, .f32⟩
  | 46 => ⟨S16384x1, .f32⟩
  | 47 => ⟨S16384x2, .f32⟩
  | 48 => ⟨S16384x2, .f32⟩
  | 49 => ⟨S16384x2, .f32⟩
  | 50 => ⟨S_, .f32⟩
  | 51 => ⟨S16384, .f32⟩
  | 52 => ⟨S16384x1, .f32⟩
  | 53 => ⟨S16384x2, .f32⟩
  | 54 => ⟨S16384x2, .f32⟩
  | 55 => ⟨S16384x2x1, .i32⟩
  | 56 => ⟨S1x1x8, .i32⟩
  | 57 => ⟨S16384x2x8, .i32⟩
  | 58 => ⟨S16384x2x8, .i32⟩
  | 59 => ⟨S16384x2x8, .i1⟩
  | 60 => ⟨S16384x2x8, .f32⟩
  | 61 => ⟨S16384x2x1, .f32⟩
  | 62 => ⟨S16384x2x8, .f32⟩
  | 63 => ⟨S16384x2x8, .f32⟩
  | 64 => ⟨S_, .f32⟩
  | 65 => ⟨S16384x8, .f32⟩
  | 66 => ⟨S_, .f32⟩
  | 67 => ⟨S16384x1024, .f32⟩
  | 68 => ⟨S16384x1, .f32⟩
  | 69 => ⟨S1x1024x1408, .f32⟩
  | 70 => ⟨S1024x1408, .f32⟩
  | 71 => ⟨S1x1024x1408, .f32⟩
  | 72 => ⟨S1024x1408, .f32⟩
  | 73 => ⟨S1x1408x1024, .f32⟩
  | 74 => ⟨S1408x1024, .f32⟩
  | 75 => ⟨S16384x1408, .f32⟩
  | 76 => ⟨S16384x1408, .f32⟩
  | 77 => ⟨S16384x1408, .f32⟩
  | 78 => ⟨S_, .f32⟩
  | 79 => ⟨S16384x1408, .f32⟩
  | 80 => ⟨S16384x1408, .f32⟩
  | 81 => ⟨S_, .f32⟩
  | 82 => ⟨S16384x1408, .f32⟩
  | 83 => ⟨S16384x1408, .f32⟩
  | 84 => ⟨S16384x1408, .f32⟩
  | 85 => ⟨S16384x1408, .f32⟩
  | 86 => ⟨S16384x1408, .f32⟩
  | 87 => ⟨S16384x1024, .f32⟩
  | 88 => ⟨S16384x1024, .f32⟩
  | 89 => ⟨S16384x1024, .f32⟩
  | 90 => ⟨S16384x1024, .f32⟩
  | 91 => ⟨S16384x1, .f32⟩
  | 92 => ⟨S1x1024x1408, .f32⟩
  | 93 => ⟨S1024x1408, .f32⟩
  | 94 => ⟨S1x1024x1408, .f32⟩
  | 95 => ⟨S1024x1408, .f32⟩
  | 96 => ⟨S1x1408x1024, .f32⟩
  | 97 => ⟨S1408x1024, .f32⟩
  | 98 => ⟨S16384x1408, .f32⟩
  | 99 => ⟨S16384x1408, .f32⟩
  | 100 => ⟨S16384x1408, .f32⟩
  | 101 => ⟨S_, .f32⟩
  | 102 => ⟨S16384x1408, .f32⟩
  | 103 => ⟨S16384x1408, .f32⟩
  | 104 => ⟨S_, .f32⟩
  | 105 => ⟨S16384x1408, .f32⟩
  | 106 => ⟨S16384x1408, .f32⟩
  | 107 => ⟨S16384x1408, .f32⟩
  | 108 => ⟨S16384x1408, .f32⟩
  | 109 => ⟨S16384x1408, .f32⟩
  | 110 => ⟨S16384x1024, .f32⟩
  | 111 => ⟨S16384x1024, .f32⟩
  | 112 => ⟨S16384x1024, .f32⟩
  | 113 => ⟨S16384x1024, .f32⟩
  | 114 => ⟨S16384x1, .f32⟩
  | 115 => ⟨S1x1024x1408, .f32⟩
  | 116 => ⟨S1024x1408, .f32⟩
  | 117 => ⟨S1x1024x1408, .f32⟩
  | 118 => ⟨S1024x1408, .f32⟩
  | 119 => ⟨S1x1408x1024, .f32⟩
  | 120 => ⟨S1408x1024, .f32⟩
  | 121 => ⟨S16384x1408, .f32⟩
  | 122 => ⟨S16384x1408, .f32⟩
  | 123 => ⟨S16384x1408, .f32⟩
  | 124 => ⟨S_, .f32⟩
  | 125 => ⟨S16384x1408, .f32⟩
  | 126 => ⟨S16384x1408, .f32⟩
  | 127 => ⟨S_, .f32⟩
  | _ => ⟨S16384x1024, .f32⟩

abbrev hbmTy0_1 (i : Nat) : BufTy := match i % 128 with
  | 0 => ⟨S16384x1408, .f32⟩
  | 1 => ⟨S16384x1408, .f32⟩
  | 2 => ⟨S16384x1408, .f32⟩
  | 3 => ⟨S16384x1408, .f32⟩
  | 4 => ⟨S16384x1408, .f32⟩
  | 5 => ⟨S16384x1024, .f32⟩
  | 6 => ⟨S16384x1024, .f32⟩
  | 7 => ⟨S16384x1024, .f32⟩
  | 8 => ⟨S16384x1024, .f32⟩
  | 9 => ⟨S16384x1, .f32⟩
  | 10 => ⟨S1x1024x1408, .f32⟩
  | 11 => ⟨S1024x1408, .f32⟩
  | 12 => ⟨S1x1024x1408, .f32⟩
  | 13 => ⟨S1024x1408, .f32⟩
  | 14 => ⟨S1x1408x1024, .f32⟩
  | 15 => ⟨S1408x1024, .f32⟩
  | 16 => ⟨S16384x1408, .f32⟩
  | 17 => ⟨S16384x1408, .f32⟩
  | 18 => ⟨S16384x1408, .f32⟩
  | 19 => ⟨S_, .f32⟩
  | 20 => ⟨S16384x1408, .f32⟩
  | 21 => ⟨S16384x1408, .f32⟩
  | 22 => ⟨S_, .f32⟩
  | 23 => ⟨S16384x1408, .f32⟩
  | 24 => ⟨S16384x1408, .f32⟩
  | 25 => ⟨S16384x1408, .f32⟩
  | 26 => ⟨S16384x1408, .f32⟩
  | 27 => ⟨S16384x1408, .f32⟩
  | 28 => ⟨S16384x1024, .f32⟩
  | 29 => ⟨S16384x1024, .f32⟩
  | 30 => ⟨S16384x1024, .f32⟩
  | 31 => ⟨S16384x1024, .f32⟩
  | 32 => ⟨S16384x1, .f32⟩
  | 33 => ⟨S1x1024x1408, .f32⟩
  | 34 => ⟨S1024x1408, .f32⟩
  | 35 => ⟨S1x1024x1408, .f32⟩
  | 36 => ⟨S1024x1408, .f32⟩
  | 37 => ⟨S1x1408x1024, .f32⟩
  | 38 => ⟨S1408x1024, .f32⟩
  | 39 => ⟨S16384x1408, .f32⟩
  | 40 => ⟨S16384x1408, .f32⟩
  | 41 => ⟨S16384x1408, .f32⟩
  | 42 => ⟨S_, .f32⟩
  | 43 => ⟨S16384x1408, .f32⟩
  | 44 => ⟨S16384x1408, .f32⟩
  | 45 => ⟨S_, .f32⟩
  | 46 => ⟨S16384x1408, .f32⟩
  | 47 => ⟨S16384x1408, .f32⟩
  | 48 => ⟨S16384x1408, .f32⟩
  | 49 => ⟨S16384x1408, .f32⟩
  | 50 => ⟨S16384x1408, .f32⟩
  | 51 => ⟨S16384x1024, .f32⟩
  | 52 => ⟨S16384x1024, .f32⟩
  | 53 => ⟨S16384x1024, .f32⟩
  | 54 => ⟨S16384x1024, .f32⟩
  | 55 => ⟨S16384x1, .f32⟩
  | 56 => ⟨S1x1024x1408, .f32⟩
  | 57 => ⟨S1024x1408, .f32⟩
  | 58 => ⟨S1x1024x1408, .f32⟩
  | 59 => ⟨S1024x1408, .f32⟩
  | 60 => ⟨S1x1408x1024, .f32⟩
  | 61 => ⟨S1408x1024, .f32⟩
  | 62 => ⟨S16384x1408, .f32⟩
  | 63 => ⟨S16384x1408, .f32⟩
  | 64 => ⟨S16384x1408, .f32⟩
  | 65 => ⟨S_, .f32⟩
  | 66 => ⟨S16384x1408, .f32⟩
  | 67 => ⟨S16384x1408, .f32⟩
  | 68 => ⟨S_, .f32⟩
  | 69 => ⟨S16384x1408, .f32⟩
  | 70 => ⟨S16384x1408, .f32⟩
  | 71 => ⟨S16384x1408, .f32⟩
  | 72 => ⟨S16384x1408, .f32⟩
  | 73 => ⟨S16384x1408, .f32⟩
  | 74 => ⟨S16384x1024, .f32⟩
  | 75 => ⟨S16384x1024, .f32⟩
  | 76 => ⟨S16384x1024, .f32⟩
  | 77 => ⟨S16384x1024, .f32⟩
  | 78 => ⟨S16384x1, .f32⟩
  | 79 => ⟨S1x1024x1408, .f32⟩
  | 80 => ⟨S1024x1408, .f32⟩
  | 81 => ⟨S1x1024x1408, .f32⟩
  | 82 => ⟨S1024x1408, .f32⟩
  | 83 => ⟨S1x1408x1024, .f32⟩
  | 84 => ⟨S1408x1024, .f32⟩
  | 85 => ⟨S16384x1408, .f32⟩
  | 86 => ⟨S16384x1408, .f32⟩
  | 87 => ⟨S16384x1408, .f32⟩
  | 88 => ⟨S_, .f32⟩
  | 89 => ⟨S16384x1408, .f32⟩
  | 90 => ⟨S16384x1408, .f32⟩
  | 91 => ⟨S_, .f32⟩
  | 92 => ⟨S16384x1408, .f32⟩
  | 93 => ⟨S16384x1408, .f32⟩
  | 94 => ⟨S16384x1408, .f32⟩
  | 95 => ⟨S16384x1408, .f32⟩
  | 96 => ⟨S16384x1408, .f32⟩
  | 97 => ⟨S16384x1024, .f32⟩
  | 98 => ⟨S16384x1024, .f32⟩
  | 99 => ⟨S16384x1024, .f32⟩
  | 100 => ⟨S16384x1024, .f32⟩
  | 101 => ⟨S16384x1, .f32⟩
  | 102 => ⟨S1x1024x1408, .f32⟩
  | 103 => ⟨S1024x1408, .f32⟩
  | 104 => ⟨S1x1024x1408, .f32⟩
  | 105 => ⟨S1024x1408, .f32⟩
  | 106 => ⟨S1x1408x1024, .f32⟩
  | 107 => ⟨S1408x1024, .f32⟩
  | 108 => ⟨S16384x1408, .f32⟩
  | 109 => ⟨S16384x1408, .f32⟩
  | 110 => ⟨S16384x1408, .f32⟩
  | 111 => ⟨S_, .f32⟩
  | 112 => ⟨S16384x1408, .f32⟩
  | 113 => ⟨S16384x1408, .f32⟩
  | 114 => ⟨S_, .f32⟩
  | 115 => ⟨S16384x1408, .f32⟩
  | 116 => ⟨S16384x1408, .f32⟩
  | 117 => ⟨S16384x1408, .f32⟩
  | 118 => ⟨S16384x1408, .f32⟩
  | 119 => ⟨S16384x1408, .f32⟩
  | 120 => ⟨S16384x1024, .f32⟩
  | 121 => ⟨S16384x1024, .f32⟩
  | 122 => ⟨S16384x1024, .f32⟩
  | 123 => ⟨S16384x1024, .f32⟩
  | 124 => ⟨S16384x1024, .f32⟩
  | 125 => ⟨S16384x1024, .f32⟩
  | 126 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_values : Ref sig .tc := ⟨.hbm, 39, rfl⟩
abbrev main_indices : Ref sig .tc := ⟨.hbm, 40, rfl⟩
abbrev main_cst_3 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_call1_v5 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_call2_v0 : Ref sig .tc := ⟨.hbm, 99, rfl⟩
abbrev main_call2_v1 : Ref sig .tc := ⟨.hbm, 100, rfl⟩
abbrev main_call2_cst : Ref sig .tc := ⟨.hbm, 101, rfl⟩
abbrev main_call2_v2 : Ref sig .tc := ⟨.hbm, 102, rfl⟩
abbrev main_call2_v3 : Ref sig .tc := ⟨.hbm, 103, rfl⟩
abbrev main_call2_cst_0 : Ref sig .tc := ⟨.hbm, 104, rfl⟩
abbrev main_call2_v4 : Ref sig .tc := ⟨.hbm, 105, rfl⟩
abbrev main_call2_v5 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_call3_v0 : Ref sig .tc := ⟨.hbm, 122, rfl⟩
abbrev main_call3_v1 : Ref sig .tc := ⟨.hbm, 123, rfl⟩
abbrev main_call3_cst : Ref sig .tc := ⟨.hbm, 124, rfl⟩
abbrev main_call3_v2 : Ref sig .tc := ⟨.hbm, 125, rfl⟩
abbrev main_call3_v3 : Ref sig .tc := ⟨.hbm, 126, rfl⟩
abbrev main_call3_cst_0 : Ref sig .tc := ⟨.hbm, 127, rfl⟩
abbrev main_call3_v4 : Ref sig .tc := ⟨.hbm, 128, rfl⟩
abbrev main_call3_v5 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_call4_v0 : Ref sig .tc := ⟨.hbm, 145, rfl⟩
abbrev main_call4_v1 : Ref sig .tc := ⟨.hbm, 146, rfl⟩
abbrev main_call4_cst : Ref sig .tc := ⟨.hbm, 147, rfl⟩
abbrev main_call4_v2 : Ref sig .tc := ⟨.hbm, 148, rfl⟩
abbrev main_call4_v3 : Ref sig .tc := ⟨.hbm, 149, rfl⟩
abbrev main_call4_cst_0 : Ref sig .tc := ⟨.hbm, 150, rfl⟩
abbrev main_call4_v4 : Ref sig .tc := ⟨.hbm, 151, rfl⟩
abbrev main_call4_v5 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_call5_v0 : Ref sig .tc := ⟨.hbm, 168, rfl⟩
abbrev main_call5_v1 : Ref sig .tc := ⟨.hbm, 169, rfl⟩
abbrev main_call5_cst : Ref sig .tc := ⟨.hbm, 170, rfl⟩
abbrev main_call5_v2 : Ref sig .tc := ⟨.hbm, 171, rfl⟩
abbrev main_call5_v3 : Ref sig .tc := ⟨.hbm, 172, rfl⟩
abbrev main_call5_cst_0 : Ref sig .tc := ⟨.hbm, 173, rfl⟩
abbrev main_call5_v4 : Ref sig .tc := ⟨.hbm, 174, rfl⟩
abbrev main_call5_v5 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_call6_v0 : Ref sig .tc := ⟨.hbm, 191, rfl⟩
abbrev main_call6_v1 : Ref sig .tc := ⟨.hbm, 192, rfl⟩
abbrev main_call6_cst : Ref sig .tc := ⟨.hbm, 193, rfl⟩
abbrev main_call6_v2 : Ref sig .tc := ⟨.hbm, 194, rfl⟩
abbrev main_call6_v3 : Ref sig .tc := ⟨.hbm, 195, rfl⟩
abbrev main_call6_cst_0 : Ref sig .tc := ⟨.hbm, 196, rfl⟩
abbrev main_call6_v4 : Ref sig .tc := ⟨.hbm, 197, rfl⟩
abbrev main_call6_v5 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_call7_v0 : Ref sig .tc := ⟨.hbm, 214, rfl⟩
abbrev main_call7_v1 : Ref sig .tc := ⟨.hbm, 215, rfl⟩
abbrev main_call7_cst : Ref sig .tc := ⟨.hbm, 216, rfl⟩
abbrev main_call7_v2 : Ref sig .tc := ⟨.hbm, 217, rfl⟩
abbrev main_call7_v3 : Ref sig .tc := ⟨.hbm, 218, rfl⟩
abbrev main_call7_cst_0 : Ref sig .tc := ⟨.hbm, 219, rfl⟩
abbrev main_call7_v4 : Ref sig .tc := ⟨.hbm, 220, rfl⟩
abbrev main_call7_v5 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_call8_v0 : Ref sig .tc := ⟨.hbm, 237, rfl⟩
abbrev main_call8_v1 : Ref sig .tc := ⟨.hbm, 238, rfl⟩
abbrev main_call8_cst : Ref sig .tc := ⟨.hbm, 239, rfl⟩
abbrev main_call8_v2 : Ref sig .tc := ⟨.hbm, 240, rfl⟩
abbrev main_call8_v3 : Ref sig .tc := ⟨.hbm, 241, rfl⟩
abbrev main_call8_cst_0 : Ref sig .tc := ⟨.hbm, 242, rfl⟩
abbrev main_call8_v4 : Ref sig .tc := ⟨.hbm, 243, rfl⟩
abbrev main_call8_v5 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩

abbrev nD : Nat := 1
abbrev τ : Topo := Topo.v7x

variable {F : FTy → Type} [FloatOps F]
-- ==== Inproj.lean ====
abbrev S16384x1024 : Shape := ⟨2, ![16384, 1024]⟩
abbrev S1x1024 : Shape := ⟨2, ![1, 1024]⟩
abbrev S2x1024 : Shape := ⟨2, ![2, 1024]⟩
abbrev S2x1024x7696 : Shape := ⟨3, ![2, 1024, 7696]⟩
abbrev S2x1024x3072 : Shape := ⟨3, ![2, 1024, 3072]⟩
abbrev S2x1024x1024 : Shape := ⟨3, ![2, 1024, 1024]⟩
abbrev S2x1024x3584 : Shape := ⟨3, ![2, 1024, 3584]⟩
abbrev S2x1024x7680 : Shape := ⟨3, ![2, 1024, 7680]⟩
abbrev S2x1024x16 : Shape := ⟨3, ![2, 1024, 16]⟩
abbrev S_ : Shape := ⟨0, ![]⟩
abbrev S2x1024x128 : Shape := ⟨3, ![2, 1024, 128]⟩
abbrev S2x1x1024 : Shape := ⟨3, ![2, 1, 1024]⟩
abbrev S16384x7680 : Shape := ⟨2, ![16384, 7680]⟩
abbrev S16384x128 : Shape := ⟨2, ![16384, 128]⟩
abbrev S1024x1024 : Shape := ⟨2, ![1024, 1024]⟩
abbrev S1x1x1024 : Shape := ⟨3, ![1, 1, 1024]⟩
abbrev S1x1024x1536 : Shape := ⟨3, ![1, 1024, 1536]⟩
abbrev S1x1024x128 : Shape := ⟨3, ![1, 1024, 128]⟩
abbrev S1024x1536 : Shape := ⟨2, ![1024, 1536]⟩
abbrev S1024x128 : Shape := ⟨2, ![1024, 128]⟩
abbrev S1024 : Shape := ⟨1, ![1024]⟩
abbrev S1024x1 : Shape := ⟨2, ![1024, 1]⟩

abbrev nBuf : Space → Nat
  | .hbm => 18
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S2x1024, .f32⟩
  | .hbm, ⟨4, _⟩ => ⟨S2x1024x7696, .f32⟩
  | .hbm, ⟨5, _⟩ => ⟨S2x1024x3072, .f32⟩
  | .hbm, ⟨6, _⟩ => ⟨S2x1024x1024, .f32⟩
  | .hbm, ⟨7, _⟩ => ⟨S2x1024x3584, .f32⟩
  | .hbm, ⟨8, _⟩ => ⟨S2x1024x7680, .f32⟩
  | .hbm, ⟨9, _⟩ => ⟨S2x1024x7680, .bf16⟩
  | .hbm, ⟨10, _⟩ => ⟨S2x1024x16, .f32⟩
  | .hbm, ⟨11, _⟩ => ⟨S_, .i32⟩
  | .hbm, ⟨12, _⟩ => ⟨S_, .f32⟩
  | .hbm, ⟨13, _⟩ => ⟨S2x1024x128, .f32⟩
  | .hbm, ⟨14, _⟩ => ⟨S2x1024x128, .bf16⟩
  | .hbm, ⟨15, _⟩ => ⟨S2x1x1024, .f32⟩
  | .hbm, ⟨16, _⟩ => ⟨S16384x7680, .f32⟩
  | .hbm, ⟨17, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024, .f32⟩
  | .local _ .vmem, ⟨4, _⟩ => ⟨S1x1024, .f32⟩
  | .local _ .vmem, ⟨5, _⟩ => ⟨S1x1024x1536, .bf16⟩
  | .local _ .vmem, ⟨6, _⟩ => ⟨S1x1024x1536, .bf16⟩
  | .local _ .vmem, ⟨7, _⟩ => ⟨S1x1024x128, .bf16⟩
  | .local _ .vmem, ⟨8, _⟩ => ⟨S1024x1536, .f32⟩
  | .local _ .vmem, ⟨9, _⟩ => ⟨S1024x1536, .f32⟩
  | .local _ .vmem, ⟨10, _⟩ => ⟨S1024x128, .f32⟩
  | .local _ .vmem, ⟨11, _⟩ => ⟨S1024x128, .f32⟩
  | .local _ .vmem, ⟨12, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== InprojIdeal.lean ====
abbrev S16384x1024 : Shape := ⟨2, ![16384, 1024]⟩
abbrev S1x1024 : Shape := ⟨2, ![1, 1024]⟩
abbrev S2x1024 : Shape := ⟨2, ![2, 1024]⟩
abbrev S2x1024x7696 : Shape := ⟨3, ![2, 1024, 7696]⟩
abbrev S2x1024x3072 : Shape := ⟨3, ![2, 1024, 3072]⟩
abbrev S2x1024x1024 : Shape := ⟨3, ![2, 1024, 1024]⟩
abbrev S2x1024x3584 : Shape := ⟨3, ![2, 1024, 3584]⟩
abbrev S2x1024x7680 : Shape := ⟨3, ![2, 1024, 7680]⟩
abbrev S2x1024x16 : Shape := ⟨3, ![2, 1024, 16]⟩
abbrev S_ : Shape := ⟨0, ![]⟩
abbrev S2x1024x128 : Shape := ⟨3, ![2, 1024, 128]⟩
abbrev S2x1x1024 : Shape := ⟨3, ![2, 1, 1024]⟩
abbrev S16384x7680 : Shape := ⟨2, ![16384, 7680]⟩
abbrev S16384x128 : Shape := ⟨2, ![16384, 128]⟩
abbrev S1024x1024 : Shape := ⟨2, ![1024, 1024]⟩
abbrev S1x1x1024 : Shape := ⟨3, ![1, 1, 1024]⟩
abbrev S1x1024x1536 : Shape := ⟨3, ![1, 1024, 1536]⟩
abbrev S1x1024x128 : Shape := ⟨3, ![1, 1024, 128]⟩
abbrev S1024x1536 : Shape := ⟨2, ![1024, 1536]⟩
abbrev S1024x128 : Shape := ⟨2, ![1024, 128]⟩
abbrev S1024 : Shape := ⟨1, ![1024]⟩
abbrev S1024x1 : Shape := ⟨2, ![1024, 1]⟩

abbrev nBuf : Space → Nat
  | .hbm => 18
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S2x1024, .f32⟩
  | .hbm, ⟨4, _⟩ => ⟨S2x1024x7696, .f32⟩
  | .hbm, ⟨5, _⟩ => ⟨S2x1024x3072, .f32⟩
  | .hbm, ⟨6, _⟩ => ⟨S2x1024x1024, .f32⟩
  | .hbm, ⟨7, _⟩ => ⟨S2x1024x3584, .f32⟩
  | .hbm, ⟨8, _⟩ => ⟨S2x1024x7680, .f32⟩
  | .hbm, ⟨9, _⟩ => ⟨S2x1024x7680, .bf16⟩
  | .hbm, ⟨10, _⟩ => ⟨S2x1024x16, .f32⟩
  | .hbm, ⟨11, _⟩ => ⟨S_, .i32⟩
  | .hbm, ⟨12, _⟩ => ⟨S_, .f32⟩
  | .hbm, ⟨13, _⟩ => ⟨S2x1024x128, .f32⟩
  | .hbm, ⟨14, _⟩ => ⟨S2x1024x128, .bf16⟩
  | .hbm, ⟨15, _⟩ => ⟨S2x1x1024, .f32⟩
  | .hbm, ⟨16, _⟩ => ⟨S16384x7680, .f32⟩
  | .hbm, ⟨17, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024, .f32⟩
  | .local _ .vmem, ⟨4, _⟩ => ⟨S1x1024, .f32⟩
  | .local _ .vmem, ⟨5, _⟩ => ⟨S1x1024x1536, .bf16⟩
  | .local _ .vmem, ⟨6, _⟩ => ⟨S1x1024x1536, .bf16⟩
  | .local _ .vmem, ⟨7, _⟩ => ⟨S1x1024x128, .bf16⟩
  | .local _ .vmem, ⟨8, _⟩ => ⟨S1024x1536, .f32⟩
  | .local _ .vmem, ⟨9, _⟩ => ⟨S1024x1536, .f32⟩
  | .local _ .vmem, ⟨10, _⟩ => ⟨S1024x128, .f32⟩
  | .local _ .vmem, ⟨11, _⟩ => ⟨S1024x128, .f32⟩
  | .local _ .vmem, ⟨12, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== InprojRefIdeal.lean ====
abbrev S16384x1024 : Shape := ⟨2, ![16384, 1024]⟩
abbrev S1x1024 : Shape := ⟨2, ![1, 1024]⟩
abbrev S2x1024 : Shape := ⟨2, ![2, 1024]⟩
abbrev S2x1024x7696 : Shape := ⟨3, ![2, 1024, 7696]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x7696 : Shape := ⟨3, ![1, 1024, 7696]⟩
abbrev S1024x7696 : Shape := ⟨2, ![1024, 7696]⟩
abbrev S16384x7696 : Shape := ⟨2, ![16384, 7696]⟩
abbrev S16384x3072 : Shape := ⟨2, ![16384, 3072]⟩
abbrev S16384x3584 : Shape := ⟨2, ![16384, 3584]⟩
abbrev S16384x7680 : Shape := ⟨2, ![16384, 7680]⟩
abbrev S16384x16 : Shape := ⟨2, ![16384, 16]⟩
abbrev S16384x128 : Shape := ⟨2, ![16384, 128]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S2x1024, .f32⟩
  | .hbm, ⟨4, _⟩ => ⟨S2x1024x7696, .f32⟩
  | .hbm, ⟨5, _⟩ => ⟨S1x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S1x1024x7696, .f32⟩
  | .hbm, ⟨31, _⟩ => ⟨S1024x7696, .f32⟩
  | .hbm, ⟨32, _⟩ => ⟨S16384x7696, .f32⟩
  | .hbm, ⟨33, _⟩ => ⟨S16384x3072, .f32⟩
  | .hbm, ⟨34, _⟩ => ⟨S16384x1024, .f32⟩
  | .hbm, ⟨35, _⟩ => ⟨S16384x3584, .f32⟩
  | .hbm, ⟨36, _⟩ => ⟨S16384x7680, .f32⟩
  | .hbm, ⟨37, _⟩ => ⟨S16384x16, .f32⟩
  | .hbm, ⟨38, _⟩ => ⟨S_, .i32⟩
  | .hbm, ⟨39, _⟩ => ⟨S_, .f32⟩
  | .hbm, ⟨40, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_call0_v0 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== InprojSample.lean ====
abbrev S128x1024 : Shape := ⟨2, ![128, 1024]⟩
abbrev S2x1024 : Shape := ⟨2, ![2, 1024]⟩
abbrev S2x1024x7696 : Shape := ⟨3, ![2, 1024, 7696]⟩
abbrev S2x1024x3072 : Shape := ⟨3, ![2, 1024, 3072]⟩
abbrev S2x1024x1024 : Shape := ⟨3, ![2, 1024, 1024]⟩
abbrev S2x1024x3584 : Shape := ⟨3, ![2, 1024, 3584]⟩
abbrev S2x1024x7680 : Shape := ⟨3, ![2, 1024, 7680]⟩
abbrev S2x1024x16 : Shape := ⟨3, ![2, 1024, 16]⟩
abbrev S_ : Shape := ⟨0, ![]⟩
abbrev S2x1024x128 : Shape := ⟨3, ![2, 1024, 128]⟩
abbrev S2x1x1024 : Shape := ⟨3, ![2, 1, 1024]⟩
abbrev S128x7680 : Shape := ⟨2, ![128, 7680]⟩
abbrev S128x128 : Shape := ⟨2, ![128, 128]⟩
abbrev S1x1x1024 : Shape := ⟨3, ![1, 1, 1024]⟩
abbrev S1x1024x1536 : Shape := ⟨3, ![1, 1024, 1536]⟩
abbrev S1x1024x128 : Shape := ⟨3, ![1, 1024, 128]⟩
abbrev S128x1536 : Shape := ⟨2, ![128, 1536]⟩
abbrev S1x1024 : Shape := ⟨2, ![1, 1024]⟩
abbrev S128 : Shape := ⟨1, ![128]⟩
abbrev S128x1 : Shape := ⟨2, ![128, 1]⟩
abbrev S1024x128 : Shape := ⟨2, ![1024, 128]⟩
abbrev S1024x1536 : Shape := ⟨2, ![1024, 1536]⟩

abbrev nBuf : Space → Nat
  | .hbm => 18
  | .vmem => 11
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S2x1024, .f32⟩
  | .hbm, ⟨4, _⟩ => ⟨S2x1024x7696, .f32⟩
  | .hbm, ⟨5, _⟩ => ⟨S2x1024x3072, .f32⟩
  | .hbm, ⟨6, _⟩ => ⟨S2x1024x1024, .f32⟩
  | .hbm, ⟨7, _⟩ => ⟨S2x1024x3584, .f32⟩
  | .hbm, ⟨8, _⟩ => ⟨S2x1024x7680, .f32⟩
  | .hbm, ⟨9, _⟩ => ⟨S2x1024x7680, .bf16⟩
  | .hbm, ⟨10, _⟩ => ⟨S2x1024x16, .f32⟩
  | .hbm, ⟨11, _⟩ => ⟨S_, .i32⟩
  | .hbm, ⟨12, _⟩ => ⟨S_, .f32⟩
  | .hbm, ⟨13, _⟩ => ⟨S2x1024x128, .f32⟩
  | .hbm, ⟨14, _⟩ => ⟨S2x1024x128, .bf16⟩
  | .hbm, ⟨15, _⟩ => ⟨S2x1x1024, .f32⟩
  | .hbm, ⟨16, _⟩ => ⟨S128x7680, .f32⟩
  | .hbm, ⟨17, _⟩ => ⟨S128x128, .f32⟩
  | .local _ .vmem, ⟨0, _⟩ => ⟨S128x1024, .f32⟩
  | .local _ .vmem, ⟨1, _⟩ => ⟨S1x1x1024, .f32⟩
  | .local _ .vmem, ⟨2, _⟩ => ⟨S128x1024, .f32⟩
  | .local _ .vmem, ⟨3, _⟩ => ⟨S128x1024, .f32⟩
  | .local _ .vmem, ⟨4, _⟩ => ⟨S1x1024x1536, .bf16⟩
  | .local _ .vmem, ⟨5, _⟩ => ⟨S1x1024x1536, .bf16⟩
  | .local _ .vmem, ⟨6, _⟩ => ⟨S1x1024x128, .bf16⟩
  | .local _ .vmem, ⟨7, _⟩ => ⟨S128x1536, .f32⟩
  | .local _ .vmem, ⟨8, _⟩ => ⟨S128x1536, .f32⟩
  | .local _ .vmem, ⟨9, _⟩ => ⟨S128x128, .f32⟩
  | .local _ .vmem, ⟨10, _⟩ => ⟨S128x1024, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem6_1 : DmaSem sig := 8
abbrev cc0_sem7_0 : DmaSem sig := 9

abbrev nD : Nat := 1
abbrev τ : Topo := Topo.v7x

variable {F : FTy → Type} [FloatOps F]

abbrev grid0 : Pipeline.Grid := ⟨2, ![1, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== InprojSampleRefIdeal.lean ====
abbrev S128x1024 : Shape := ⟨2, ![128, 1024]⟩
abbrev S2x1024 : Shape := ⟨2, ![2, 1024]⟩
abbrev S2x1024x7696 : Shape := ⟨3, ![2, 1024, 7696]⟩
abbrev S1x1024 : Shape := ⟨2, ![1, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1x1024x7696 : Shape := ⟨3, ![1, 1024, 7696]⟩
abbrev S1024x7696 : Shape := ⟨2, ![1024, 7696]⟩
abbrev S128x7696 : Shape := ⟨2, ![128, 7696]⟩
abbrev S128x3072 : Shape := ⟨2, ![128, 3072]⟩
abbrev S128x3584 : Shape := ⟨2, ![128, 3584]⟩
abbrev S128x7680 : Shape := ⟨2, ![128, 7680]⟩
abbrev S128x16 : Shape := ⟨2, ![128, 16]⟩
abbrev S128x128 : Shape := ⟨2, ![128, 128]⟩

abbrev nBuf : Space → Nat
  | .hbm => 39
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S2x1024, .f32⟩
  | .hbm, ⟨4, _⟩ => ⟨S2x1024x7696, .f32⟩
  | .hbm, ⟨5, _⟩ => ⟨S1x1024, .f32⟩
  | .hbm, ⟨6, _⟩ => ⟨S1024, .f32⟩
  | .hbm, ⟨7, _⟩ => ⟨S128x1024, .f32⟩
  | .hbm, ⟨8, _⟩ => ⟨S_, .f32⟩
  | .hbm, ⟨9, _⟩ => ⟨S128, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S128x1, .f32⟩
  | .hbm, ⟨18, _⟩ => ⟨S128x1024, .f32⟩
  | .hbm, ⟨19, _⟩ => ⟨S128x1024, .f32⟩
  | .hbm, ⟨20, _⟩ => ⟨S1x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S1x1024x7696, .f32⟩
  | .hbm, ⟨29, _⟩ => ⟨S1024x7696, .f32⟩
  | .hbm, ⟨30, _⟩ => ⟨S128x7696, .f32⟩
  | .hbm, ⟨31, _⟩ => ⟨S128x3072, .f32⟩
  | .hbm, ⟨32, _⟩ => ⟨S128x1024, .f32⟩
  | .hbm, ⟨33, _⟩ => ⟨S128x3584, .f32⟩
  | .hbm, ⟨34, _⟩ => ⟨S128x7680, .f32⟩
  | .hbm, ⟨35, _⟩ => ⟨S128x16, .f32⟩
  | .hbm, ⟨36, _⟩ => ⟨S_, .i32⟩
  | .hbm, ⟨37, _⟩ => ⟨S_, .f32⟩
  | .hbm, ⟨38, _⟩ => ⟨S128x128, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_call0_v0 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Ffn.lean ====
abbrev S16384x1024 : Shape := ⟨2, ![16384, 1024]⟩
abbrev S1x1024 : Shape := ⟨2, ![1, 1024]⟩
abbrev S2x1024 : Shape := ⟨2, ![2, 1024]⟩
abbrev S1x1024x2816 : Shape := ⟨3, ![1, 1024, 2816]⟩
abbrev S1x2816x1024 : Shape := ⟨3, ![1, 2816, 1024]⟩
abbrev S2x1x1024 : Shape := ⟨3, ![2, 1, 1024]⟩
abbrev S512x1024 : Shape := ⟨2, ![512, 1024]⟩
abbrev S1x1x1024 : Shape := ⟨3, ![1, 1, 1024]⟩
abbrev S1x1024x1408 : Shape := ⟨3, ![1, 1024, 1408]⟩
abbrev S1x1408x1024 : Shape := ⟨3, ![1, 1408, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 13
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1x1024x2816, .bf16⟩
  | .hbm, ⟨9, _⟩ => ⟨S1x1024x2816, .bf16⟩
  | .hbm, ⟨10, _⟩ => ⟨S1x2816x1024, .bf16⟩
  | .hbm, ⟨11, _⟩ => ⟨S2x1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .bf16⟩
  | .local _ .vmem, ⟨9, _⟩ => ⟨S1x1024x1408, .bf16⟩
  | .local _ .vmem, ⟨10, _⟩ => ⟨S1x1408x1024, .bf16⟩
  | .local _ .vmem, ⟨11, _⟩ => ⟨S1x1408x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v28 : BitVec 1 := Scalar.cmpi .eq arg1 c1_i32
  let v29 : BitVec 32 := Scalar.extui v28
  let c0_i32_20 : BitVec 32 := 0#32
  let v30 : BitVec 1 := Scalar.cmpi .ne v29 c0_i32_20
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnRefIdeal.lean ====
abbrev S16384x1024 : Shape := ⟨2, ![16384, 1024]⟩
abbrev S1x1024 : Shape := ⟨2, ![1, 1024]⟩
abbrev S2x1024 : Shape := ⟨2, ![2, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x2816 : Shape := ⟨2, ![1024, 2816]⟩
abbrev S2816x1024 : Shape := ⟨2, ![2816, 1024]⟩
abbrev S16384x2816 : Shape := ⟨2, ![16384, 2816]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1x1024, .f32⟩
  | .hbm, ⟨9, _⟩ => ⟨S1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S1024x2816, .f32⟩
  | .hbm, ⟨34, _⟩ => ⟨S1024x2816, .f32⟩
  | .hbm, ⟨35, _⟩ => ⟨S2816x1024, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S_, .f32⟩
  | .hbm, ⟨40, _⟩ => ⟨S16384x2816, .f32⟩
  | .hbm, ⟨41, _⟩ => ⟨S16384x2816, .f32⟩
  | .hbm, ⟨42, _⟩ => ⟨S_, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Merge.lean ====
abbrev S16384x512 : Shape := ⟨2, ![16384, 512]⟩
abbrev S16384x7680 : Shape := ⟨2, ![16384, 7680]⟩
abbrev S16384x1024 : Shape := ⟨2, ![16384, 1024]⟩
abbrev S1x1024 : Shape := ⟨2, ![1, 1024]⟩
abbrev S2x512x1024 : Shape := ⟨3, ![2, 512, 1024]⟩
abbrev S2x1024x1024 : Shape := ⟨3, ![2, 1024, 1024]⟩
abbrev S512x512 : Shape := ⟨2, ![512, 512]⟩
abbrev S512x3072 : Shape := ⟨2, ![512, 3072]⟩
abbrev S512x1024 : Shape := ⟨2, ![512, 1024]⟩
abbrev S1x512x1024 : Shape := ⟨3, ![1, 512, 1024]⟩
abbrev S1x1024x1024 : Shape := ⟨3, ![1, 1024, 1024]⟩
abbrev S1024x1024 : Shape := ⟨2, ![1024, 1024]⟩

abbrev nBuf : Space → Nat
  | .hbm => 15
  | .vmem => 17
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x7680, .f32⟩
  | .hbm, ⟨4, _⟩ => ⟨S16384x1024, .f32⟩
  | .hbm, ⟨5, _⟩ => ⟨S1x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .hbm, ⟨9, _⟩ => ⟨S2x1024x1024, .f32⟩
  | .hbm, ⟨10, _⟩ => ⟨S2x512x1024, .bf16⟩
  | .hbm, ⟨11, _⟩ => ⟨S2x512x1024, .bf16⟩
  | .hbm, ⟨12, _⟩ => ⟨S2x512x1024, .bf16⟩
  | .hbm, ⟨13, _⟩ => ⟨S2x1024x1024, .bf16⟩
  | .hbm, ⟨14, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x3072, .f32⟩
  | .local _ .vmem, ⟨7, _⟩ => ⟨S512x3072, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x1024x1024, .bf16⟩
  | .local _ .vmem, ⟨15, _⟩ => ⟨S512x1024, .f32⟩
  | .local _ .vmem, ⟨16, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S16384x512 : Shape := ⟨2, ![16384, 512]⟩
abbrev S16384x7680 : Shape := ⟨2, ![16384, 7680]⟩
abbrev S16384x1024 : Shape := ⟨2, ![16384, 1024]⟩
abbrev S1x1024 : Shape := ⟨2, ![1, 1024]⟩
abbrev S2x512x1024 : Shape := ⟨3, ![2, 512, 1024]⟩
abbrev S2x1024x1024 : Shape := ⟨3, ![2, 1024, 1024]⟩
abbrev S16384x3072 : Shape := ⟨2, ![16384, 3072]⟩
abbrev S_ : Shape := ⟨0, ![]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 45
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x7680, .f32⟩
  | .hbm, ⟨4, _⟩ => ⟨S16384x1024, .f32⟩
  | .hbm, ⟨5, _⟩ => ⟨S1x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .hbm, ⟨9, _⟩ => ⟨S2x1024x1024, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x3072, .f32⟩
  | .hbm, ⟨14, _⟩ => ⟨S16384x3072, .f32⟩
  | .hbm, ⟨15, _⟩ => ⟨S16384x3072, .f32⟩
  | .hbm, ⟨16, _⟩ => ⟨S_, .f32⟩
  | .hbm, ⟨17, _⟩ => ⟨S16384x3072, .f32⟩
  | .hbm, ⟨18, _⟩ => ⟨S16384x3072, .f32⟩
  | .hbm, ⟨19, _⟩ => ⟨S_, .f32⟩
  | .hbm, ⟨20, _⟩ => ⟨S16384x3072, .f32⟩
  | .hbm, ⟨21, _⟩ => ⟨S16384x3072, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S1x512x1024, .f32⟩
  | .hbm, ⟨26, _⟩ => ⟨S512x1024, .f32⟩
  | .hbm, ⟨27, _⟩ => ⟨S16384x1024, .f32⟩
  | .hbm, ⟨28, _⟩ => ⟨S16384x1024, .f32⟩
  | .hbm, ⟨29, _⟩ => ⟨S1x512x1024, .f32⟩
  | .hbm, ⟨30, _⟩ => ⟨S512x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S1x512x1024, .f32⟩
  | .hbm, ⟨35, _⟩ => ⟨S512x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S1x1024x1024, .f32⟩
  | .hbm, ⟨40, _⟩ => ⟨S1024x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== MoeSample.lean ====
abbrev S128x1024 : Shape := ⟨2, ![128, 1024]⟩
abbrev S2x1024 : Shape := ⟨2, ![2, 1024]⟩
abbrev S1x1024x8 : Shape := ⟨3, ![1, 1024, 8]⟩
abbrev S1x8x1024x1408 : Shape := ⟨4, ![1, 8, 1024, 1408]⟩
abbrev S1x8x1408x1024 : Shape := ⟨4, ![1, 8, 1408, 1024]⟩
abbrev S2x1x1024 : Shape := ⟨3, ![2, 1, 1024]⟩
abbrev S_ : Shape := ⟨0, ![]⟩
abbrev S1x1024x128 : Shape := ⟨3, ![1, 1024, 128]⟩
abbrev S1x1x1024 : Shape := ⟨3, ![1, 1, 1024]⟩
abbrev S1x1x1024x1408 : Shape := ⟨4, ![1, 1, 1024, 1408]⟩
abbrev S1x1x1408x1024 : Shape := ⟨4, ![1, 1, 1408, 1024]⟩
abbrev S128x128 : Shape := ⟨2, ![128, 128]⟩
abbrev S1x1024 : Shape := ⟨2, ![1, 1024]⟩
abbrev S128 : Shape := ⟨1, ![128]⟩
abbrev S128x1 : Shape := ⟨2, ![128, 1]⟩
abbrev S1024x128 : Shape := ⟨2, ![1024, 128]⟩
abbrev S1024x1408 : Shape := ⟨2, ![1024, 1408]⟩
abbrev S128x1408 : Shape := ⟨2, ![128, 1408]⟩
abbrev S1408x1024 : Shape := ⟨2, ![1408, 1024]⟩

abbrev nBuf : Space → Nat
  | .hbm => 17
  | .vmem => 16
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S2x1024, .f32⟩
  | .hbm, ⟨5, _⟩ => ⟨S1x1024x8, .f32⟩
  | .hbm, ⟨6, _⟩ => ⟨S1x8x1024x1408, .f32⟩
  | .hbm, ⟨7, _⟩ => ⟨S1x8x1024x1408, .f32⟩
  | .hbm, ⟨8, _⟩ => ⟨S1x8x1408x1024, .f32⟩
  | .hbm, ⟨9, _⟩ => ⟨S2x1x1024, .f32⟩
  | .hbm, ⟨10, _⟩ => ⟨S1x8x1024x1408, .bf16⟩
  | .hbm, ⟨11, _⟩ => ⟨S1x8x1024x1408, .bf16⟩
  | .hbm, ⟨12, _⟩ => ⟨S1x8x1408x1024, .bf16⟩
  | .hbm, ⟨13, _⟩ => ⟨S_, .i32⟩
  | .hbm, ⟨14, _⟩ => ⟨S_, .f32⟩
  | .hbm, ⟨15, _⟩ => ⟨S1x1024x128, .f32⟩
  | .hbm, ⟨16, _⟩ => ⟨S128x1024, .f32⟩
  | .local _ .vmem, ⟨0, _⟩ => ⟨S128x1024, .f32⟩
  | .local _ .vmem, ⟨1, _⟩ => ⟨S1x1x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S1x1024x128, .f32⟩
  | .local _ .vmem, ⟨6, _⟩ => ⟨S1x1x1024x1408, .bf16⟩
  | .local _ .vmem, ⟨7, _⟩ => ⟨S1x1x1024x1408, .bf16⟩
  | .local _ .vmem, ⟨8, _⟩ => ⟨S1x1x1024x1408, .bf16⟩
  | .local _ .vmem, ⟨9, _⟩ => ⟨S1x1x1024x1408, .bf16⟩
  | .local _ .vmem, ⟨10, _⟩ => ⟨S1x1x1408x1024, .bf16⟩
  | .local _ .vmem, ⟨11, _⟩ => ⟨S1x1x1408x1024, .bf16⟩
  | .local _ .vmem, ⟨12, _⟩ => ⟨S128x1024, .f32⟩
  | .local _ .vmem, ⟨13, _⟩ => ⟨S128x1024, .bf16⟩
  | .local _ .vmem, ⟨14, _⟩ => ⟨S128x128, .f32⟩
  | .local _ .vmem, ⟨15, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_27 : BitVec 32 := 0#32
  let v40 : BitVec 1 := Scalar.cmpi .ne v39 c0_i32_27
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x1024x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x1408x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== MoeSampleIdeal.lean ====
variable {F : FTy → Type} [FloatOps F] [Named F]
def κ : String → Option EReal := fun
  | "neg" => some ⊥
  | _ => none
-- ==== MoeSampleRefIdeal.lean ====
abbrev S128x1024 : Shape := ⟨2, ![128, 1024]⟩
abbrev S2x1024 : Shape := ⟨2, ![2, 1024]⟩
abbrev S1x1024x8 : Shape := ⟨3, ![1, 1024, 8]⟩
abbrev S1x8x1024x1408 : Shape := ⟨4, ![1, 8, 1024, 1408]⟩
abbrev S1x8x1408x1024 : Shape := ⟨4, ![1, 8, 1408, 1024]⟩
abbrev S1x1024 : Shape := ⟨2, ![1, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1024x8 : Shape := ⟨2, ![1024, 8]⟩
abbrev S8x1024x1408 : Shape := ⟨3, ![8, 1024, 1408]⟩
abbrev S8x1408x1024 : Shape := ⟨3, ![8, 1408, 1024]⟩
abbrev S128x8 : Shape := ⟨2, ![128, 8]⟩
abbrev S128x2 : Shape := ⟨2, ![128, 2]⟩
abbrev S128x2x1 : Shape := ⟨3, ![128, 2, 1]⟩
abbrev S1x1x8 : Shape := ⟨3, ![1, 1, 8]⟩
abbrev S128x2x8 : Shape := ⟨3, ![128, 2, 8]⟩
abbrev S1x1024x1408 : Shape := ⟨3, ![1, 1024, 1408]⟩
abbrev S1024x1408 : Shape := ⟨2, ![1024, 1408]⟩
abbrev S1x1408x1024 : Shape := ⟨3, ![1, 1408, 1024]⟩
abbrev S1408x1024 : Shape := ⟨2, ![1408, 1024]⟩
abbrev S128x1408 : Shape := ⟨2, ![128, 1408]⟩

abbrev nBuf : Space → Nat
  | .hbm => 252
  | .vmem => 0
  | .smem => 0
  | _ => 0

abbrev hbmTy0_0 (i : Nat) : BufTy := match i % 128 with
  | 0 => ⟨S128x1024, .f32⟩
  | 1 => ⟨S128x1024, .f32⟩
  | 2 => ⟨S128x1024, .f32⟩
  | 3 => ⟨S128x1024, .f32⟩
  | 4 => ⟨S2x1024, .f32⟩
  | 5 => ⟨S1x1024x8, .f32⟩
  | 6 => ⟨S1x8x1024x1408, .f32⟩
  | 7 => ⟨S1x8x1024x1408, .f32⟩
  | 8 => ⟨S1x8x1408x1024, .f32⟩
  | 9 => ⟨S1x1024, .f32⟩
  | 10 => ⟨S1024, .f32⟩
  | 11 => ⟨S128x1024, .f32⟩
  | 12 => ⟨S_, .f32⟩
  | 13 => ⟨S128, .f32⟩
  | 14 => ⟨S128x1, .f32⟩
  | 15 => ⟨S_, .f32⟩
  | 16 => ⟨S128x1, .f32⟩
  | 17 => ⟨S128x1, .f32⟩
  | 18 => ⟨S_, .f32⟩
  | 19 => ⟨S128x1, .f32⟩
  | 20 => ⟨S128x1, .f32⟩
  | 21 => ⟨S128x1, .f32⟩
  | 22 => ⟨S128x1024, .f32⟩
  | 23 => ⟨S128x1024, .f32⟩
  | 24 => ⟨S1x1024, .f32⟩
  | 25 => ⟨S128x1024, .f32⟩
  | 26 => ⟨S128x1024, .f32⟩
  | 27 => ⟨S_, .f32⟩
  | 28 => ⟨S128x1024, .f32⟩
  | 29 => ⟨S128x1024, .f32⟩
  | 30 => ⟨S128x1024, .f32⟩
  | 31 => ⟨S128x1024, .f32⟩
  | 32 => ⟨S1024x8, .f32⟩
  | 33 => ⟨S8x1024x1408, .f32⟩
  | 34 => ⟨S8x1024x1408, .f32⟩
  | 35 => ⟨S8x1408x1024, .f32⟩
  | 36 => ⟨S128x8, .f32⟩
  | 37 => ⟨S128x2, .f32⟩
  | 38 => ⟨S128x2, .i32⟩
  | 39 => ⟨S_, .f32⟩
  | 40 => ⟨S128, .f32⟩
  | 41 => ⟨S_, .f32⟩
  | 42 => ⟨S128, .f32⟩
  | 43 => ⟨S128, .f32⟩
  | 44 => ⟨S128x1, .f32⟩
  | 45 => ⟨S128x2, .f32⟩
  | 46 => ⟨S128x2, .f32⟩
  | 47 => ⟨S128x2, .f32⟩
  | 48 => ⟨S_, .f32⟩
  | 49 => ⟨S128, .f32⟩
  | 50 => ⟨S128x1, .f32⟩
  | 51 => ⟨S128x2, .f32⟩
  | 52 => ⟨S128x2, .f32⟩
  | 53 => ⟨S128x2x1, .i32⟩
  | 54 => ⟨S1x1x8, .i32⟩
  | 55 => ⟨S128x2x8, .i32⟩
  | 56 => ⟨S128x2x8, .i32⟩
  | 57 => ⟨S128x2x8, .i1⟩
  | 58 => ⟨S128x2x8, .f32⟩
  | 59 => ⟨S128x2x1, .f32⟩
  | 60 => ⟨S128x2x8, .f32⟩
  | 61 => ⟨S128x2x8, .f32⟩
  | 62 => ⟨S_, .f32⟩
  | 63 => ⟨S128x8, .f32⟩
  | 64 => ⟨S_, .f32⟩
  | 65 => ⟨S128x1024, .f32⟩
  | 66 => ⟨S128x1, .f32⟩
  | 67 => ⟨S1x1024x1408, .f32⟩
  | 68 => ⟨S1024x1408, .f32⟩
  | 69 => ⟨S1x1024x1408, .f32⟩
  | 70 => ⟨S1024x1408, .f32⟩
  | 71 => ⟨S1x1408x1024, .f32⟩
  | 72 => ⟨S1408x1024, .f32⟩
  | 73 => ⟨S128x1408, .f32⟩
  | 74 => ⟨S128x1408, .f32⟩
  | 75 => ⟨S128x1408, .f32⟩
  | 76 => ⟨S_, .f32⟩
  | 77 => ⟨S128x1408, .f32⟩
  | 78 => ⟨S128x1408, .f32⟩
  | 79 => ⟨S_, .f32⟩
  | 80 => ⟨S128x1408, .f32⟩
  | 81 => ⟨S128x1408, .f32⟩
  | 82 => ⟨S128x1408, .f32⟩
  | 83 => ⟨S128x1408, .f32⟩
  | 84 => ⟨S128x1408, .f32⟩
  | 85 => ⟨S128x1024, .f32⟩
  | 86 => ⟨S128x1024, .f32⟩
  | 87 => ⟨S128x1024, .f32⟩
  | 88 => ⟨S128x1024, .f32⟩
  | 89 => ⟨S128x1, .f32⟩
  | 90 => ⟨S1x1024x1408, .f32⟩
  | 91 => ⟨S1024x1408, .f32⟩
  | 92 => ⟨S1x1024x1408, .f32⟩
  | 93 => ⟨S1024x1408, .f32⟩
  | 94 => ⟨S1x1408x1024, .f32⟩
  | 95 => ⟨S1408x1024, .f32⟩
  | 96 => ⟨S128x1408, .f32⟩
  | 97 => ⟨S128x1408, .f32⟩
  | 98 => ⟨S128x1408, .f32⟩
  | 99 => ⟨S_, .f32⟩
  | 100 => ⟨S128x1408, .f32⟩
  | 101 => ⟨S128x1408, .f32⟩
  | 102 => ⟨S_, .f32⟩
  | 103 => ⟨S128x1408, .f32⟩
  | 104 => ⟨S128x1408, .f32⟩
  | 105 => ⟨S128x1408, .f32⟩
  | 106 => ⟨S128x1408, .f32⟩
  | 107 => ⟨S128x1408, .f32⟩
  | 108 => ⟨S128x1024, .f32⟩
  | 109 => ⟨S128x1024, .f32⟩
  | 110 => ⟨S128x1024, .f32⟩
  | 111 => ⟨S128x1024, .f32⟩
  | 112 => ⟨S128x1, .f32⟩
  | 113 => ⟨S1x1024x1408, .f32⟩
  | 114 => ⟨S1024x1408, .f32⟩
  | 115 => ⟨S1x1024x1408, .f32⟩
  | 116 => ⟨S1024x1408, .f32⟩
  | 117 => ⟨S1x1408x1024, .f32⟩
  | 118 => ⟨S1408x1024, .f32⟩
  | 119 => ⟨S128x1408, .f32⟩
  | 120 => ⟨S128x1408, .f32⟩
  | 121 => ⟨S128x1408, .f32⟩
  | 122 => ⟨S_, .f32⟩
  | 123 => ⟨S128x1408, .f32⟩
  | 124 => ⟨S128x1408, .f32⟩
  | 125 => ⟨S_, .f32⟩
  | 126 => ⟨S128x1408, .f32⟩
  | 127 => ⟨S128x1408, .f32⟩
  | _ => ⟨S128x1024, .f32⟩

abbrev hbmTy0_1 (i : Nat) : BufTy := match i % 128 with
  | 0 => ⟨S128x1408, .f32⟩
  | 1 => ⟨S128x1408, .f32⟩
  | 2 => ⟨S128x1408, .f32⟩
  | 3 => ⟨S128x1024, .f32⟩
  | 4 => ⟨S128x1024, .f32⟩
  | 5 => ⟨S128x1024, .f32⟩
  | 6 => ⟨S128x1024, .f32⟩
  | 7 => ⟨S128x1, .f32⟩
  | 8 => ⟨S1x1024x1408, .f32⟩
  | 9 => ⟨S1024x1408, .f32⟩
  | 10 => ⟨S1x1024x1408, .f32⟩
  | 11 => ⟨S1024x1408, .f32⟩
  | 12 => ⟨S1x1408x1024, .f32⟩
  | 13 => ⟨S1408x1024, .f32⟩
  | 14 => ⟨S128x1408, .f32⟩
  | 15 => ⟨S128x1408, .f32⟩
  | 16 => ⟨S128x1408, .f32⟩
  | 17 => ⟨S_, .f32⟩
  | 18 => ⟨S128x1408, .f32⟩
  | 19 => ⟨S128x1408, .f32⟩
  | 20 => ⟨S_, .f32⟩
  | 21 => ⟨S128x1408, .f32⟩
  | 22 => ⟨S128x1408, .f32⟩
  | 23 => ⟨S128x1408, .f32⟩
  | 24 => ⟨S128x1408, .f32⟩
  | 25 => ⟨S128x1408, .f32⟩
  | 26 => ⟨S128x1024, .f32⟩
  | 27 => ⟨S128x1024, .f32⟩
  | 28 => ⟨S128x1024, .f32⟩
  | 29 => ⟨S128x1024, .f32⟩
  | 30 => ⟨S128x1, .f32⟩
  | 31 => ⟨S1x1024x1408, .f32⟩
  | 32 => ⟨S1024x1408, .f32⟩
  | 33 => ⟨S1x1024x1408, .f32⟩
  | 34 => ⟨S1024x1408, .f32⟩
  | 35 => ⟨S1x1408x1024, .f32⟩
  | 36 => ⟨S1408x1024, .f32⟩
  | 37 => ⟨S128x1408, .f32⟩
  | 38 => ⟨S128x1408, .f32⟩
  | 39 => ⟨S128x1408, .f32⟩
  | 40 => ⟨S_, .f32⟩
  | 41 => ⟨S128x1408, .f32⟩
  | 42 => ⟨S128x1408, .f32⟩
  | 43 => ⟨S_, .f32⟩
  | 44 => ⟨S128x1408, .f32⟩
  | 45 => ⟨S128x1408, .f32⟩
  | 46 => ⟨S128x1408, .f32⟩
  | 47 => ⟨S128x1408, .f32⟩
  | 48 => ⟨S128x1408, .f32⟩
  | 49 => ⟨S128x1024, .f32⟩
  | 50 => ⟨S128x1024, .f32⟩
  | 51 => ⟨S128x1024, .f32⟩
  | 52 => ⟨S128x1024, .f32⟩
  | 53 => ⟨S128x1, .f32⟩
  | 54 => ⟨S1x1024x1408, .f32⟩
  | 55 => ⟨S1024x1408, .f32⟩
  | 56 => ⟨S1x1024x1408, .f32⟩
  | 57 => ⟨S1024x1408, .f32⟩
  | 58 => ⟨S1x1408x1024, .f32⟩
  | 59 => ⟨S1408x1024, .f32⟩
  | 60 => ⟨S128x1408, .f32⟩
  | 61 => ⟨S128x1408, .f32⟩
  | 62 => ⟨S128x1408, .f32⟩
  | 63 => ⟨S_, .f32⟩
  | 64 => ⟨S128x1408, .f32⟩
  | 65 => ⟨S128x1408, .f32⟩
  | 66 => ⟨S_, .f32⟩
  | 67 => ⟨S128x1408, .f32⟩
  | 68 => ⟨S128x1408, .f32⟩
  | 69 => ⟨S128x1408, .f32⟩
  | 70 => ⟨S128x1408, .f32⟩
  | 71 => ⟨S128x1408, .f32⟩
  | 72 => ⟨S128x1024, .f32⟩
  | 73 => ⟨S128x1024, .f32⟩
  | 74 => ⟨S128x1024, .f32⟩
  | 75 => ⟨S128x1024, .f32⟩
  | 76 => ⟨S128x1, .f32⟩
  | 77 => ⟨S1x1024x1408, .f32⟩
  | 78 => ⟨S1024x1408, .f32⟩
  | 79 => ⟨S1x1024x1408, .f32⟩
  | 80 => ⟨S1024x1408, .f32⟩
  | 81 => ⟨S1x1408x1024, .f32⟩
  | 82 => ⟨S1408x1024, .f32⟩
  | 83 => ⟨S128x1408, .f32⟩
  | 84 => ⟨S128x1408, .f32⟩
  | 85 => ⟨S128x1408, .f32⟩
  | 86 => ⟨S_, .f32⟩
  | 87 => ⟨S128x1408, .f32⟩
  | 88 => ⟨S128x1408, .f32⟩
  | 89 => ⟨S_, .f32⟩
  | 90 => ⟨S128x1408, .f32⟩
  | 91 => ⟨S128x1408, .f32⟩
  | 92 => ⟨S128x1408, .f32⟩
  | 93 => ⟨S128x1408, .f32⟩
  | 94 => ⟨S128x1408, .f32⟩
  | 95 => ⟨S128x1024, .f32⟩
  | 96 => ⟨S128x1024, .f32⟩
  | 97 => ⟨S128x1024, .f32⟩
  | 98 => ⟨S128x1024, .f32⟩
  | 99 => ⟨S128x1, .f32⟩
  | 100 => ⟨S1x1024x1408, .f32⟩
  | 101 => ⟨S1024x1408, .f32⟩
  | 102 => ⟨S1x1024x1408, .f32⟩
  | 103 => ⟨S1024x1408, .f32⟩
  | 104 => ⟨S1x1408x1024, .f32⟩
  | 105 => ⟨S1408x1024, .f32⟩
  | 106 => ⟨S128x1408, .f32⟩
  | 107 => ⟨S128x1408, .f32⟩
  | 108 => ⟨S128x1408, .f32⟩
  | 109 => ⟨S_, .f32⟩
  | 110 => ⟨S128x1408, .f32⟩
  | 111 => ⟨S128x1408, .f32⟩
  | 112 => ⟨S_, .f32⟩
  | 113 => ⟨S128x1408, .f32⟩
  | 114 => ⟨S128x1408, .f32⟩
  | 115 => ⟨S128x1408, .f32⟩
  | 116 => ⟨S128x1408, .f32⟩
  | 117 => ⟨S128x1408, .f32⟩
  | 118 => ⟨S128x1024, .f32⟩
  | 119 => ⟨S128x1024, .f32⟩
  | 120 => ⟨S128x1024, .f32⟩
  | 121 => ⟨S128x1024, .f32⟩
  | 122 => ⟨S128x1024, .f32⟩
  | 123 => ⟨S128x1024, .f32⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_values : Ref sig .tc := ⟨.hbm, 37, rfl⟩
abbrev main_indices : Ref sig .tc := ⟨.hbm, 38, rfl⟩
abbrev main_cst_3 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_v0 : Ref sig .tc := ⟨.hbm, 74, rfl⟩
abbrev main_call1_v1 : Ref sig .tc := ⟨.hbm, 75, rfl⟩
abbrev main_call1_cst : Ref sig .tc := ⟨.hbm, 76, rfl⟩
abbrev main_call1_v2 : Ref sig .tc := ⟨.hbm, 77, rfl⟩
abbrev main_call1_v3 : Ref sig .tc := ⟨.hbm, 78, rfl⟩
abbrev main_call1_cst_0 : Ref sig .tc := ⟨.hbm, 79, rfl⟩
abbrev main_call1_v4 : Ref sig .tc := ⟨.hbm, 80, rfl⟩
abbrev main_call1_v5 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_call2_v0 : Ref sig .tc := ⟨.hbm, 97, rfl⟩
abbrev main_call2_v1 : Ref sig .tc := ⟨.hbm, 98, rfl⟩
abbrev main_call2_cst : Ref sig .tc := ⟨.hbm, 99, rfl⟩
abbrev main_call2_v2 : Ref sig .tc := ⟨.hbm, 100, rfl⟩
abbrev main_call2_v3 : Ref sig .tc := ⟨.hbm, 101, rfl⟩
abbrev main_call2_cst_0 : Ref sig .tc := ⟨.hbm, 102, rfl⟩
abbrev main_call2_v4 : Ref sig .tc := ⟨.hbm, 103, rfl⟩
abbrev main_call2_v5 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_call3_v0 : Ref sig .tc := ⟨.hbm, 120, rfl⟩
abbrev main_call3_v1 : Ref sig .tc := ⟨.hbm, 121, rfl⟩
abbrev main_call3_cst : Ref sig .tc := ⟨.hbm, 122, rfl⟩
abbrev main_call3_v2 : Ref sig .tc := ⟨.hbm, 123, rfl⟩
abbrev main_call3_v3 : Ref sig .tc := ⟨.hbm, 124, rfl⟩
abbrev main_call3_cst_0 : Ref sig .tc := ⟨.hbm, 125, rfl⟩
abbrev main_call3_v4 : Ref sig .tc := ⟨.hbm, 126, rfl⟩
abbrev main_call3_v5 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_call4_v0 : Ref sig .tc := ⟨.hbm, 143, rfl⟩
abbrev main_call4_v1 : Ref sig .tc := ⟨.hbm, 144, rfl⟩
abbrev main_call4_cst : Ref sig .tc := ⟨.hbm, 145, rfl⟩
abbrev main_call4_v2 : Ref sig .tc := ⟨.hbm, 146, rfl⟩
abbrev main_call4_v3 : Ref sig .tc := ⟨.hbm, 147, rfl⟩
abbrev main_call4_cst_0 : Ref sig .tc := ⟨.hbm, 148, rfl⟩
abbrev main_call4_v4 : Ref sig .tc := ⟨.hbm, 149, rfl⟩
abbrev main_call4_v5 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_call5_v0 : Ref sig .tc := ⟨.hbm, 166, rfl⟩
abbrev main_call5_v1 : Ref sig .tc := ⟨.hbm, 167, rfl⟩
abbrev main_call5_cst : Ref sig .tc := ⟨.hbm, 168, rfl⟩
abbrev main_call5_v2 : Ref sig .tc := ⟨.hbm, 169, rfl⟩
abbrev main_call5_v3 : Ref sig .tc := ⟨.hbm, 170, rfl⟩
abbrev main_call5_cst_0 : Ref sig .tc := ⟨.hbm, 171, rfl⟩
abbrev main_call5_v4 : Ref sig .tc := ⟨.hbm, 172, rfl⟩
abbrev main_call5_v5 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_call6_v0 : Ref sig .tc := ⟨.hbm, 189, rfl⟩
abbrev main_call6_v1 : Ref sig .tc := ⟨.hbm, 190, rfl⟩
abbrev main_call6_cst : Ref sig .tc := ⟨.hbm, 191, rfl⟩
abbrev main_call6_v2 : Ref sig .tc := ⟨.hbm, 192, rfl⟩
abbrev main_call6_v3 : Ref sig .tc := ⟨.hbm, 193, rfl⟩
abbrev main_call6_cst_0 : Ref sig .tc := ⟨.hbm, 194, rfl⟩
abbrev main_call6_v4 : Ref sig .tc := ⟨.hbm, 195, rfl⟩
abbrev main_call6_v5 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_call7_v0 : Ref sig .tc := ⟨.hbm, 212, rfl⟩
abbrev main_call7_v1 : Ref sig .tc := ⟨.hbm, 213, rfl⟩
abbrev main_call7_cst : Ref sig .tc := ⟨.hbm, 214, rfl⟩
abbrev main_call7_v2 : Ref sig .tc := ⟨.hbm, 215, rfl⟩
abbrev main_call7_v3 : Ref sig .tc := ⟨.hbm, 216, rfl⟩
abbrev main_call7_cst_0 : Ref sig .tc := ⟨.hbm, 217, rfl⟩
abbrev main_call7_v4 : Ref sig .tc := ⟨.hbm, 218, rfl⟩
abbrev main_call7_v5 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_call8_v0 : Ref sig .tc := ⟨.hbm, 235, rfl⟩
abbrev main_call8_v1 : Ref sig .tc := ⟨.hbm, 236, rfl⟩
abbrev main_call8_cst : Ref sig .tc := ⟨.hbm, 237, rfl⟩
abbrev main_call8_v2 : Ref sig .tc := ⟨.hbm, 238, rfl⟩
abbrev main_call8_v3 : Ref sig .tc := ⟨.hbm, 239, rfl⟩
abbrev main_call8_cst_0 : Ref sig .tc := ⟨.hbm, 240, rfl⟩
abbrev main_call8_v4 : Ref sig .tc := ⟨.hbm, 241, rfl⟩
abbrev main_call8_v5 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩

abbrev nD : Nat := 1
abbrev τ : Topo := Topo.v7x

variable {F : FTy → Type} [FloatOps F]
-- ==== Proof.Moe.Step.lean ====
/-
  What one grid point of the mixture-of-experts kernel leaves in the three carried scratch arrays and in the output
  block, in terms of the values the body computes:

    * the first expert's point stores the normalised rows, the gates and a fresh sum;
    * every other point keeps rows and gates and adds its expert's gated output to the sum;
    * the last expert's point also writes `x + g * sum` to the output block.
-/
module

public import proofs.«01_k».proof.Proof.Gen.MoeIdeal.Value
public import Idealize.ShloMosaic.Lib.Tactic

@[expose] public section

set_option maxRecDepth 16384

noncomputable section

open Idealize.ShloMosaic Idealize.ShloMosaic.TcCoe Idealize.SL.Sem

namespace Cert.MoeIdeal.Step

open Cert.MoeIdeal Cert.MoeIdeal.Gen Cert.MoeIdeal.Value

variable {F : FTy → Type} [FloatOps F] [Named F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The lane numbers of a row of gates. -/
abbrev lanes : IVec S512x128 32 := iota .tc S512x128 32 [1] iota_S512x128_d1_w32

/-- The gates stored at the first expert's point, from the blocks it reads. -/
abbrev gates (x0 : Vec F S512x1024 .f32) (x1 : Vec F S1x1x1024 .f32) (x2 x3 : Vec F S1x1024 .f32) (x5 : Vec F S1x1024x128 .f32) :
    Vec F S512x128 .f32 :=
  k0_pay7 lanes (k0_pay5 lanes x0 x1 x2 x3 x5) (k0_pay6 lanes x0 x1 x2 x3 x5)

/-- The normalised rows stored at the first expert's point. -/
theorem first_h (c : Dev nD) (t : Fin cfg0.N) (h0 : t.val % 8 = 0) (acc) :
    (stAt0 m c t.val t.isLt acc).2.1 = (k0_pay4 (iblk m c 0 t) (iblk m c 1 t) (iblk m c 2 t) (iblk m c 3 t)) := by
  rw [stAt0_A m c t acc h0 (by omega)]
  dsimp only
  unfold sout0_A_0
  rw [View.read_writes_eq_canon _ _ _ (fun y => scover0_A_0 (y := y) ..)]
  unfold kernelRun0_A
  dsimp only
  sl_unfold_words
  simp only [View.canon_cons_unit_zero (S := S512x1024) hz2, View.canon_unit_zero (S := S512x1024) hz2, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    (Memref.isWhole_whole cc0_scratch0).read_unread, (Memref.isWhole_whole cc0_scratch1).read_unread, (Memref.isWhole_whole cc0_scratch2).read_unread, View.readCov_unit_zero (S := S512x1024) _ hz2, View.readCov_unit_zero (S := S512x128) _ hz2,
    View.ld_unit_zero (S := S512x1024) hz2, View.ld_unit_zero (S := S1x1024) hz2, View.ld_unit_zero (S := S512x128) hz2,
    View.ld_unit_zero (S := S1x1x1024) hz3, View.ld_unit_zero (S := S1x1024x128) hz3,
    View.ld_unit_zero (S := S1x1x1024x1408) hz4, View.ld_unit_zero (S := S1x1x1408x1024) hz4]

/-- The gates stored at the first expert's point. -/
theorem first_gate (c : Dev nD) (t : Fin cfg0.N) (h0 : t.val % 8 = 0) (acc) :
    (stAt0 m c t.val t.isLt acc).2.2.1 = (gates (iblk m c 0 t) (iblk m c 1 t) (iblk m c 2 t) (iblk m c 3 t) (iblk m c 5 t)) := by
  rw [stAt0_A m c t acc h0 (by omega)]
  dsimp only
  unfold sout0_A_1
  rw [View.read_writes_eq_canon _ _ _ (fun y => scover0_A_1 (y := y) ..)]
  unfold kernelRun0_A
  dsimp only
  sl_unfold_words
  simp only [View.canon_cons_unit_zero (S := S512x128) hz2, View.canon_unit_zero (S := S512x128) hz2, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    (Memref.isWhole_whole cc0_scratch0).read_unread, (Memref.isWhole_whole cc0_scratch1).read_unread, (Memref.isWhole_whole cc0_scratch2).read_unread, View.readCov_unit_zero (S := S512x1024) _ hz2, View.readCov_unit_zero (S := S512x128) _ hz2,
    View.ld_unit_zero (S := S512x1024) hz2, View.ld_unit_zero (S := S1x1024) hz2, View.ld_unit_zero (S := S512x128) hz2,
    View.ld_unit_zero (S := S1x1x1024) hz3, View.ld_unit_zero (S := S1x1024x128) hz3,
    View.ld_unit_zero (S := S1x1x1024x1408) hz4, View.ld_unit_zero (S := S1x1x1408x1024) hz4]

/-- The sum after the first expert's point: zero plus its gated output. -/
theorem first_acc (c : Dev nD) (t : Fin cfg0.N) (h0 : t.val % 8 = 0) (acc) :
    (stAt0 m c t.val t.isLt acc).2.2.2 = k0_pay1 (k0_pay10 (k0_pay4 (iblk m c 0 t) (iblk m c 1 t) (iblk m c 2 t) (iblk m c 3 t)) (iblk m c 6 t) (iblk m c 7 t) (iblk m c 8 t)) (k0_pay11 (grid0.coords t) (gates (iblk m c 0 t) (iblk m c 1 t) (iblk m c 2 t) (iblk m c 3 t) (iblk m c 5 t))) (k0_pay9 k0_pay8) := by
  rw [stAt0_A m c t acc h0 (by omega)]
  dsimp only
  unfold sout0_A_2
  rw [View.read_writes_eq_canon _ _ _ (fun y => scover0_A_2 (y := y) ..)]
  unfold kernelRun0_A
  dsimp only
  sl_unfold_words
  simp only [View.canon_cons_unit_zero (S := S512x1024) hz2, View.canon_unit_zero (S := S512x1024) hz2, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    (Memref.isWhole_whole cc0_scratch0).read_unread, (Memref.isWhole_whole cc0_scratch1).read_unread, (Memref.isWhole_whole cc0_scratch2).read_unread, View.readCov_unit_zero (S := S512x1024) _ hz2, View.readCov_unit_zero (S := S512x128) _ hz2,
    View.ld_unit_zero (S := S512x1024) hz2, View.ld_unit_zero (S := S1x1024) hz2, View.ld_unit_zero (S := S512x128) hz2,
    View.ld_unit_zero (S := S1x1x1024) hz3, View.ld_unit_zero (S := S1x1024x128) hz3,
    View.ld_unit_zero (S := S1x1x1024x1408) hz4, View.ld_unit_zero (S := S1x1x1408x1024) hz4]

/-- The sum after an expert's point in the middle. -/
theorem mid_acc (c : Dev nD) (t : Fin cfg0.N) (h0 : ¬t.val % 8 = 0) (h1 : ¬t.val % 8 = 7) (acc) :
    (stAt0 m c t.val t.isLt acc).2.2.2 = k0_pay1 (k0_pay10 acc.2.1 (iblk m c 6 t) (iblk m c 7 t) (iblk m c 8 t)) (k0_pay11 (grid0.coords t) acc.2.2.1) acc.2.2.2 := by
  rw [stAt0_B m c t acc h0 h1]
  dsimp only
  unfold sout0_B_2
  rw [View.read_writes_eq_canon _ _ _ (fun y => scover0_B_2 (y := y) ..)]
  unfold kernelRun0_B
  dsimp only
  sl_unfold_words
  simp only [View.canon_cons_unit_zero (S := S512x1024) hz2, View.canon_unit_zero (S := S512x1024) hz2, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    (Memref.isWhole_whole cc0_scratch0).read_unread, (Memref.isWhole_whole cc0_scratch1).read_unread, (Memref.isWhole_whole cc0_scratch2).read_unread, View.readCov_unit_zero (S := S512x1024) _ hz2, View.readCov_unit_zero (S := S512x128) _ hz2,
    View.ld_unit_zero (S := S512x1024) hz2, View.ld_unit_zero (S := S1x1024) hz2, View.ld_unit_zero (S := S512x128) hz2,
    View.ld_unit_zero (S := S1x1x1024) hz3, View.ld_unit_zero (S := S1x1024x128) hz3,
    View.ld_unit_zero (S := S1x1x1024x1408) hz4, View.ld_unit_zero (S := S1x1x1408x1024) hz4]

/-- The output block at the last expert's point. -/
theorem last_out (c : Dev nD) (t : Fin cfg0.N) (h1 : t.val % 8 = 7) (acc) :
    (stAt0 m c t.val t.isLt acc).1 = k0_pay2 (iblk m c 0 t) (iblk m c 4 t) (k0_pay1 (k0_pay10 acc.2.1 (iblk m c 6 t) (iblk m c 7 t) (iblk m c 8 t)) (k0_pay11 (grid0.coords t) acc.2.2.1) acc.2.2.2) := by
  rw [stAt0_C m c t acc (by omega) h1]
  dsimp only
  unfold out0_C_9
  rw [View.read_writes_eq_canon _ _ _ (fun y => cover0_C_9 (y := y) ..)]
  unfold kernelRun0_C
  dsimp only
  sl_unfold_words
  simp only [View.canon_cons_unit_zero (S := S512x1024) hz2, View.canon_unit_zero (S := S512x1024) hz2, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    (Memref.isWhole_whole cc0_scratch0).read_unread, (Memref.isWhole_whole cc0_scratch1).read_unread, (Memref.isWhole_whole cc0_scratch2).read_unread, View.readCov_unit_zero (S := S512x1024) _ hz2, View.readCov_unit_zero (S := S512x128) _ hz2,
    View.ld_unit_zero (S := S512x1024) hz2, View.ld_unit_zero (S := S1x1024) hz2, View.ld_unit_zero (S := S512x128) hz2,
    View.ld_unit_zero (S := S1x1x1024) hz3, View.ld_unit_zero (S := S1x1024x128) hz3,
    View.ld_unit_zero (S := S1x1x1024x1408) hz4, View.ld_unit_zero (S := S1x1x1408x1024) hz4]

/-- The points in the middle keep the rows. -/
theorem mid_h (c : Dev nD) (t : Fin cfg0.N) (h0 : ¬t.val % 8 = 0) (h1 : ¬t.val % 8 = 7) (acc) : (stAt0 m c t.val t.isLt acc).2.1 = acc.2.1 := by
  rw [stAt0_B m c t acc h0 h1]; rfl

/-- The points in the middle keep the gates. -/
theorem mid_gate (c : Dev nD) (t : Fin cfg0.N) (h0 : ¬t.val % 8 = 0) (h1 : ¬t.val % 8 = 7) (acc) : (stAt0 m c t.val t.isLt acc).2.2.1 = acc.2.2.1 := by
  rw [stAt0_B m c t acc h0 h1]; rfl

end Cert.MoeIdeal.Step

end
-- ==== Proof.Moe.Route.lean ====
/-
  Choosing the two greatest of eight numbers, two ways.

  A stable descending sort puts some position first and some position second; ties keep the lower position in front.
  A kernel finds the same two positions by taking a maximum over 128 lanes (the lanes from 8 on hold `-∞`), the least
  lane that attains it, and then the same once more with that lane struck out. `First` is the property both share.
-/
module

public import Idealize.ShloMosaic.Lib.Pointwise
public import Idealize.ShloMosaic.Lib.SortFacts
public import Idealize.ShloMosaic.Lib.SortPrefix

@[expose] public section

noncomputable section

open Idealize.ShloMosaic

namespace Cert.Route

variable {n : Nat}

/-- Position `i` holds the greatest value, and is the first to hold it. -/
def First (v : Fin n → EReal) (i : Fin n) : Prop := ∀ p, p ≠ i → v p < v i ∨ (v p = v i ∧ i < p)

theorem First.le {v : Fin n → EReal} {i : Fin n} (h : First v i) (p : Fin n) : v p ≤ v i := by
  by_cases e : p = i
  · rw [e]
  · rcases h p e with h | h
    · exact h.le
    · exact h.1.le

/-- The maximum over all positions is the value at the first greatest one. -/
theorem First.fold_max {v : Fin n → EReal} {i : Fin n} (h : First v i) :
    Finset.univ.fold max ⊥ v = v i := by
  apply le_antisymm
  · rw [Finset.fold_max_le]
    exact ⟨bot_le, fun x _ => h.le x⟩
  · rw [Finset.le_fold_max]
    exact Or.inr ⟨i, Finset.mem_univ _, le_rfl⟩

theorem le_minsi {c : Int} {a b : BitVec 32} (ha : c ≤ a.toInt) (hb : c ≤ b.toInt) : c ≤ (IntOp.minsi a b).toInt := by
  unfold IntOp.minsi
  split <;> assumption

theorem minsi_of_le {a b : BitVec 32} (h : a.toInt ≤ b.toInt) : IntOp.minsi a b = a := by
  unfold IntOp.minsi
  split
  · rfl
  · rename_i h'
    rw [BitVec.slt_eq_decide, decide_eq_true_eq] at h'
    exact BitVec.eq_of_toInt_eq (by omega)

/-- The signed minimum of a family is any member below all of it. -/
theorem fold_minsi_eq (f : Fin n → BitVec 32) (b : BitVec 32) (i : Fin n) (hb : (f i).toInt ≤ b.toInt)
    (hf : ∀ x, (f i).toInt ≤ (f x).toInt) : Finset.univ.fold IntOp.minsi b f = f i := by
  classical
  rw [← Finset.insert_erase (Finset.mem_univ i), Finset.fold_insert (Finset.notMem_erase i _)]
  apply minsi_of_le
  generalize Finset.univ.erase i = s
  induction s using Finset.induction with
  | empty => exact hb
  | insert a s ha ih =>
    rw [Finset.fold_insert ha]
    exact le_minsi (hf a) ih

theorem toInt_ofNat {k : Nat} (h : k < 2 ^ 31) : (BitVec.ofNat 32 k).toInt = k := by
  rw [BitVec.toInt_eq_toNat_of_lt] <;> rw [BitVec.toNat_ofNat, Nat.mod_eq_of_lt (by omega)]
  omega

/-- The least lane whose value reaches the maximum is the first greatest position. -/
theorem First.fold_min {v : Fin 128 → EReal} {i : Fin 128} (h : First v i) :
    Finset.univ.fold IntOp.minsi 2147483647#32 (fun x : Fin 128 => if v i ≤ v x then BitVec.ofNat 32 x.val else 128#32)
      = BitVec.ofNat 32 i.val := by
  have e : (if v i ≤ v i then BitVec.ofNat 32 i.val else 128#32) = BitVec.ofNat 32 i.val := if_pos le_rfl
  refine (fold_minsi_eq _ _ i ?_ ?_).trans e
  · rw [e, toInt_ofNat (by omega)]
    have : (2147483647#32).toInt = 2147483647 := by decide
    omega
  · intro x
    rw [e, toInt_ofNat (by omega)]
    split
    · rename_i hx
      rw [toInt_ofNat (by omega)]
      by_cases ex : x = i
      · rw [ex]
      · rcases h x ex with h | h
        · exact absurd hx (not_le.mpr h)
        · have := h.2; omega
    · have : (128#32).toInt = 128 := by decide
      omega

/-- Two lane numbers are equal as words exactly when the lanes are. -/
theorem cmpi_lane (a b : Nat) (ha : a < 2 ^ 32) (hb : b < 2 ^ 32) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_eq]
  constructor
  · intro h
    have := congrArg BitVec.toNat h
    rwa [BitVec.toNat_ofNat, BitVec.toNat_ofNat, Nat.mod_eq_of_lt ha, Nat.mod_eq_of_lt hb] at this
  · rintro rfl; rfl

theorem select_ofBool {α : Type} (p : Prop) [Decidable p] (x y : α) :
    Scalar.select (BitVec.ofBool (decide p)) x y = if p then x else y := by
  by_cases h : p <;> simp [h, Scalar.select]

/-- The word of `-∞`. -/
theorem bits_neg_inf : Ideal.ofBits FTy.f32 4286578688#32 = (⊥ : EReal) := by
  show Ideal.ieee 8 23 4286578688#32 = ⊥
  unfold Ideal.ieee
  dsimp only
  rw [if_pos (by decide), if_pos (by decide), if_pos (by decide)]

/-! ## The stable sort -/

/-- Position `a` goes before position `b`: its value is greater, or they tie and it is the lower position. -/
def before (v : Fin n → EReal) (a b : Fin n) : Bool := decide (v b < v a) || (decide (v a = v b) && decide (a < b))

theorem before_total (v : Fin n → EReal) : StrictTotalBefore (before v) :=
  StrictTotalBefore.of_key_then_position (fun x y : EReal => decide (y < x)) v
    (fun a => by simp) (fun a b c hab hbc => by simp only [decide_eq_true_eq] at *; exact hbc.trans hab)
    (fun a b => by
      simp only [decide_eq_true_eq]
      rcases lt_trichotomy a b with h | h | h
      · exact Or.inr (Or.inr h)
      · exact Or.inr (Or.inl h)
      · exact Or.inl h)

/-- Two relations that agree whenever a later position is compared with an earlier one sort alike. -/
theorem stableSort_congr_later {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    refine insertBefore_congr R R' a _ fun b hb => ?_
    exact h.1 b ((perm_stableSort R' l).mem_iff.mp hb)

/-- The stable sort by "greater" is the sort by `before`. -/
theorem sortedFrom_gt (v : Fin n → EReal) :
    sortedFrom (fun a b => decide (v b < v a)) = sortedFrom (before v) := by
  have e : sortPositions n (fun a b => decide (v b < v a)) = sortPositions n (before v) := by
    refine stableSort_congr_later _ _ _ ?_
    refine (List.pairwise_lt_finRange n).imp fun {a b} hab => ?_
    unfold before
    rw [decide_eq_false (not_lt.mpr hab.le), Bool.and_false, Bool.or_false]
  funext k
  unfold sortedFrom
  rw [List.get_of_eq e]
  rfl

/-- The sort never puts a position in front of one that goes before it. -/
theorem not_before (v : Fin n → EReal) (i j : Fin n) (h : i < j) :
    before v (sortedFrom (before v) i) (sortedFrom (before v) j) = true := by
  have hB := before_total v
  have h1 := sortedFrom_noInversion (before v) (before v) hB.asymm (fun _ _ h => h) hB.negTrans i j h
  rcases hB.total _ _ (fun e => h.ne (sortedFrom_injective (before v) e)) with h2 | h2
  · exact h2
  · rw [h1] at h2; exact absurd h2 (by decide)

theorem before_iff (v : Fin n → EReal) (a b : Fin n) : before v a b = true ↔ v b < v a ∨ (v b = v a ∧ a < b) := by
  unfold before
  simp only [Bool.or_eq_true, Bool.and_eq_true, decide_eq_true_eq]
  rw [@eq_comm _ (v a)]

/-- The greatest and the second greatest of eight values: the first two positions of the sort. -/
def top (v : Fin 8 → EReal) (k : Fin 2) : Fin 8 := sortedFrom (before v) (k.castLE (by decide))

theorem top_ne (v : Fin 8 → EReal) : top v 0 ≠ top v 1 :=
  fun e => absurd (sortedFrom_injective (before v) e) (by decide)

theorem top_first (v : Fin 8 → EReal) : First v (top v 0) := by
  intro p hp
  obtain ⟨k, rfl⟩ := sortedFrom_surjective (before v) p
  refine (before_iff v _ _).mp (not_before v _ k ?_)
  have : k ≠ 0 := fun e => hp (by rw [e]; rfl)
  exact Fin.pos_iff_ne_zero.mpr this

theorem top_second (v : Fin 8 → EReal) (p : Fin 8) (h0 : p ≠ top v 0) (h1 : p ≠ top v 1) :
    v p < v (top v 1) ∨ (v p = v (top v 1) ∧ top v 1 < p) := by
  obtain ⟨k, rfl⟩ := sortedFrom_surjective (before v) p
  refine (before_iff v _ _).mp (not_before v _ k ?_)
  have e0 : k ≠ 0 := fun e => h0 (by rw [e]; rfl)
  have e1 : k ≠ 1 := fun e => h1 (by rw [e]; rfl)
  show (1 : Fin 8) < k
  omega

/-! ## The lanes -/

/-- Eight values on 128 lanes, `-∞` on the lanes from 8 on. -/
def spread (v : Fin 8 → EReal) (x : Fin 128) : EReal := if h : x.val < 8 then v ⟨x.val, h⟩ else ⊥

/-- A position as a lane. -/
def lane (i : Fin 8) : Fin 128 := i.castLE (by decide)

theorem spread_lane (v : Fin 8 → EReal) (i : Fin 8) : spread v (lane i) = v i := dif_pos i.isLt

theorem spread_first (v : Fin 8 → EReal) (hv : ∀ i, ⊥ < v i) : First (spread v) (lane (top v 0)) := by
  intro p hp
  rw [spread_lane]
  by_cases h : p.val < 8
  · obtain ⟨q, rfl⟩ : ∃ q : Fin 8, p = lane q := ⟨⟨p.val, h⟩, rfl⟩
    rw [spread_lane]
    exact top_first v q fun e => hp (by rw [e])
  · rw [spread, dif_neg h]
    exact Or.inl (hv _)

theorem struck_first (v : Fin 8 → EReal) (hv : ∀ i, ⊥ < v i) :
    First (fun x => if x = lane (top v 0) then ⊥ else spread v x) (lane (top v 1)) := by
  have hne : lane (top v 1) ≠ lane (top v 0) := fun e => top_ne v (Fin.ext (congrArg (·.val) e.symm :))
  intro p hp
  dsimp only
  rw [if_neg hne, spread_lane]
  by_cases h0 : p = lane (top v 0)
  · rw [if_pos h0]; exact Or.inl (hv _)
  rw [if_neg h0]
  by_cases h : p.val < 8
  · obtain ⟨q, rfl⟩ : ∃ q : Fin 8, p = lane q := ⟨⟨p.val, h⟩, rfl⟩
    rw [spread_lane]
    exact top_second v q (fun e => h0 (by rw [e])) fun e => hp (by rw [e])
  · rw [spread, dif_neg h]
    exact Or.inl (hv _)

/-! ## The weights -/

/-- The weight of expert `e`: the softmax of the two greatest values, at the expert that holds each. -/
def weight (v : Fin 8 → EReal) (e : Fin 8) : EReal :=
  (if e = top v 0 then Ideal.div 1 (1 + Ideal.exp (v (top v 1) - v (top v 0))) else 0)
    + (if e = top v 1 then Ideal.exp (v (top v 1) - v (top v 0)) * Ideal.div 1 (1 + Ideal.exp (v (top v 1) - v (top v 0))) else 0)

/-- The softmax of two real numbers, the first the greater one. -/
theorem softmax_pair (a b : ℝ) :
    Ideal.div (Ideal.exp ((a : EReal) - a)) (Ideal.exp ((a : EReal) - a) + Ideal.exp ((b : EReal) - a))
        = Ideal.div 1 (1 + Ideal.exp ((b : EReal) - a))
      ∧ Ideal.div (Ideal.exp ((b : EReal) - a)) (Ideal.exp ((a : EReal) - a) + Ideal.exp ((b : EReal) - a))
        = Ideal.exp ((b : EReal) - a) * Ideal.div 1 (1 + Ideal.exp ((b : EReal) - a)) := by
  have h0 : Ideal.exp ((a : EReal) - a) = 1 := by
    rw [← EReal.coe_sub, sub_self]; show ((Real.exp 0 : ℝ) : EReal) = 1; rw [Real.exp_zero]; rfl
  have h1 : Ideal.exp ((b : EReal) - a) = ((Real.exp (b - a) : ℝ) : EReal) := by
    rw [← EReal.coe_sub]; rfl
  rw [h0]
  refine ⟨rfl, ?_⟩
  rw [h1]
  have hp : (0 : ℝ) < 1 + Real.exp (b - a) := by positivity
  rw [show (1 : EReal) = ((1 : ℝ) : EReal) from rfl, ← EReal.coe_add, Ideal.div_coe hp.ne', Ideal.div_coe hp.ne',
    EReal.coe_one, one_mul]

/-- The softmax of the two greatest values, scattered to the positions that hold them, is `weight`. -/
theorem softmax_weight (v : Fin 8 → EReal) (u : Fin 8 → ℝ) (hv : ∀ e, v e = (u e : EReal)) (e : Fin 8) :
    (∑ k : Fin 2, (if top v k = e then (1 : EReal) else 0)
        * Ideal.div (Ideal.exp (v (top v k) - v (top v 0))) (∑ k : Fin 2, Ideal.exp (v (top v k) - v (top v 0))))
      = weight v e := by
  have h := softmax_pair (u (top v 0)) (u (top v 1))
  rw [← hv, ← hv] at h
  simp only [Fin.sum_univ_two]
  rw [h.1, h.2]
  unfold weight
  congr 1
  · by_cases h0 : top v 0 = e
    · rw [if_pos h0, if_pos h0.symm, one_mul]
    · rw [if_neg h0, if_neg fun h => h0 h.symm, zero_mul]
  · by_cases h0 : top v 1 = e
    · rw [if_pos h0, if_pos h0.symm, one_mul]
    · rw [if_neg h0, if_neg fun h => h0 h.symm, zero_mul]

/-- The maximum of the two greatest values is the greatest. -/
theorem top_max (v : Fin 8 → EReal) : max ⊥ (Finset.univ.fold max ⊥ fun k : Fin 2 => v (top v k)) = v (top v 0) := by
  have h : Finset.univ.fold max ⊥ (fun k : Fin 2 => v (top v k)) = v (top v 0) := by
    apply le_antisymm
    · rw [Finset.fold_max_le]
      exact ⟨bot_le, fun k _ => (top_first v).le _⟩
    · rw [Finset.le_fold_max]
      exact Or.inr ⟨0, Finset.mem_univ _, le_rfl⟩
  rw [h]
  exact max_eq_right bot_le

end Cert.Route

end
-- ==== Proof.Moe.Spec.lean ====
/-
  One row of a mixture-of-experts layer in plain arithmetic: the modulated normalised row, the router's logits, one
  expert's output and the gated sum of the experts' outputs.
-/
module

public import proofs.«01_k».proof.Proof.Moe.Route

@[expose] public section

noncomputable section

open Idealize.ShloMosaic

namespace Cert.Spec

open Cert.Route

/-- The row scaled by the reciprocal root of its mean square (the two constants are 1024 and the epsilon), times the
    norm's weight, modulated by scale and shift. -/
def hrow (x nw sc sh : Fin 1024 → EReal) (d : Fin 1024) : EReal :=
  x d * Ideal.rsqrt (Ideal.div (∑ k, x k * x k) (Ideal.ofBits FTy.f32 1149239296#32) + Ideal.ofBits FTy.f32 897988541#32)
    * nw d * (1 + sc d) + sh d

/-- The router's logit of expert `e`. -/
def logit (h : Fin 1024 → EReal) (router : Fin 1024 → Fin 8 → EReal) (e : Fin 8) : EReal := ∑ k, h k * router k e

/-- One expert's output: the gated product of two matrix products, with the logistic as gate, times a third matrix. -/
def expert (h : Fin 1024 → EReal) (w1 w3 : Fin 1024 → Fin 1408 → EReal) (w2 : Fin 1408 → Fin 1024 → EReal) (d : Fin 1024) : EReal :=
  ∑ f, ((∑ k, h k * w1 k f) * Ideal.div 1 (1 + Ideal.exp (-(∑ k, h k * w1 k f))) * ∑ k, h k * w3 k f) * w2 f d

/-- The gated sum of the first `n` experts' outputs, in the experts' order. -/
def mix (g y : Fin 8 → EReal) : Nat → EReal
  | 0 => 0
  | n + 1 => mix g y n + (if h : n < 8 then g ⟨n, h⟩ * y ⟨n, h⟩ else 0)

theorem mix_step (g y : Fin 8 → EReal) (n : Nat) (h : n < 8) : mix g y (n + 1) = mix g y n + g ⟨n, h⟩ * y ⟨n, h⟩ := by
  rw [mix, dif_pos h]

/-- The layer at one row: the row plus its gate times the weighted sum of the eight experts' outputs. -/
def layer (x nw sc sh g : Fin 1024 → EReal) (router : Fin 1024 → Fin 8 → EReal) (w1 w3 : Fin 8 → Fin 1024 → Fin 1408 → EReal)
    (w2 : Fin 8 → Fin 1408 → Fin 1024 → EReal) (d : Fin 1024) : EReal :=
  x d + g d * mix (weight (logit (hrow x nw sc sh) router)) (fun e => expert (hrow x nw sc sh) (w1 e) (w3 e) (w2 e) d) 8

end Cert.Spec

end
-- ==== Proof.Moe.Pay.lean ====
/-
  The values the mixture-of-experts body computes, read at one position, in plain arithmetic.
-/
module

public import proofs.«01_k».proof.Proof.Moe.Step
public import proofs.«01_k».proof.Proof.Moe.Spec
public import Idealize.ShloMosaic.Lib.Pointwise

@[expose] public section

set_option maxRecDepth 16384

noncomputable section

open Idealize.ShloMosaic Idealize.ShloMosaic.TcCoe Idealize.SL.Sem

namespace Cert.MoeIdeal.Pay

open Cert.MoeIdeal Cert.MoeIdeal.Gen Cert.MoeIdeal.Step Cert.Route Cert.Spec

theorem neg_eq : (Named.named κ "neg" 4284592614#32 : Ideal FTy.f32) = (⊥ : EReal) :=
  IdealRules.named_const.ideal_named_scalar _ _ _ _ rfl

variable (x0 : FVec Ideal S512x1024 .f32) (x1 : FVec Ideal S1x1x1024 .f32) (x2 x3 : FVec Ideal S1x1024 .f32)
  (x5 : FVec Ideal S1x1024x128 .f32)

/-- The modulated normalised rows. -/
theorem h3_apply (r : Fin 512) (d : Fin 1024) :
    k0_pay3 (F := Ideal) x0 x1 x2 x3 (ix2 r d)
      = hrow (fun k => x0 (ix2 r k)) (fun k => x1 (ix3 0 0 k)) (fun k => x2 (ix2 0 k)) (fun k => x3 (ix2 0 k)) d := by
  unfold hrow
  pointwise [k0_pay3]

theorem h_apply (r : Fin 512) (d : Fin 1024) :
    k0_pay4 (F := Ideal) x0 x1 x2 x3 (ix2 r d)
      = hrow (fun k => x0 (ix2 r k)) (fun k => x1 (ix3 0 0 k)) (fun k => x2 (ix2 0 k)) (fun k => x3 (ix2 0 k)) d := by
  unfold hrow
  pointwise [k0_pay4, k0_pay3]

/-- The logits on 128 lanes, `-∞` from lane 8 on. -/
theorem logits_apply (r : Fin 512) (d : Fin 128) :
    k0_pay5 (F := Ideal) lanes x0 x1 x2 x3 x5 (ix2 r d)
      = spread (fun e => ∑ k, k0_pay3 (F := Ideal) x0 x1 x2 x3 (ix2 r k) * x5 (ix3 0 k (lane e))) d := by
  have e : k0_pay5 (F := Ideal) lanes x0 x1 x2 x3 x5 (ix2 r d)
      = Scalar.select (IntOp.cmpi .slt (BitVec.ofNat 32 d.val) 8#32) (∑ k, k0_pay3 (F := Ideal) x0 x1 x2 x3 (ix2 r k) * x5 (ix3 0 k d)) (Named.named κ "neg" 4284592614#32 : Ideal FTy.f32) := by
    pointwise [k0_pay5]
  have hc : IntOp.cmpi .slt (BitVec.ofNat 32 d.val) 8#32 = BitVec.ofBool (decide (d.val < 8)) := by
    show BitVec.ofBool (BitVec.slt _ _) = _
    rw [BitVec.slt_eq_decide, toInt_ofNat (by omega)]
    have : (8#32).toInt = 8 := by decide
    rw [this]
    congr 1
    rw [Bool.eq_iff_iff, decide_eq_true_eq, decide_eq_true_eq]
    omega
  rw [e, hc, select_ofBool, neg_eq]
  unfold spread
  by_cases h : d.val < 8
  · rw [if_pos h, dif_pos h]; rfl
  · rw [if_neg h, dif_neg h]

/-- The row maximum of the logits. -/
theorem max_apply (r : Fin 512) :
    k0_pay6 (F := Ideal) lanes x0 x1 x2 x3 x5 (ix1 r) = Finset.univ.fold max ⊥ fun x => k0_pay5 (F := Ideal) lanes x0 x1 x2 x3 x5 (ix2 r x) := by
  rw [← bits_neg_inf]
  pointwise [k0_pay6]

/-- The gates of a row whose logits are `u` on the first eight lanes. -/
theorem pick_apply (v : FVec Ideal S512x128 .f32) (w : FVec Ideal S512 .f32) (r : Fin 512) (d : Fin 8) (u : Fin 8 → EReal)
    (hu : ∀ e, ⊥ < u e) (hv : ∀ x, v (ix2 r x) = spread u x) (hw : w (ix1 r) = u (top u 0)) :
    k0_pay7 (F := Ideal) lanes v w (ix2 r (lane d)) = weight u d := by
  have f1 : Finset.univ.fold IntOp.minsi 2147483647#32 (fun x : Fin 128 => if w (ix1 r) ≤ v (ix2 r x) then BitVec.ofNat 32 x.val else 128#32)
      = BitVec.ofNat 32 (lane (top u 0)).val := by
    rw [← (spread_first u hu).fold_min, spread_lane, hw]
    simp only [hv]
  have f2 : ∀ x : Fin 128, Scalar.select (IntOp.cmpi .eq (BitVec.ofNat 32 x.val) (BitVec.ofNat 32 (lane (top u 0)).val))
      (Named.named κ "neg" 4284592614#32 : Ideal FTy.f32) (v (ix2 r x)) = if x = lane (top u 0) then ⊥ else spread u x := by
    intro x
    rw [cmpi_lane _ _ (by omega) (by omega), select_ofBool, hv]
    simp only [Fin.ext_iff]
    rw [neg_eq]
  have hne : lane (top u 1) ≠ lane (top u 0) := fun e => top_ne u (Fin.ext (congrArg (·.val) e.symm :))
  have f3 := (struck_first u hu).fold_max
  have f4 := (struck_first u hu).fold_min
  rw [if_neg hne, spread_lane] at f3 f4
  have k1 : IntOp.cmpi .eq (BitVec.ofNat 32 (lane d).val) (BitVec.ofNat 32 (lane (top u 0)).val) = BitVec.ofBool (decide (d = top u 0)) := by
    rw [cmpi_lane _ _ (by omega) (by omega)]; simp only [Fin.ext_iff]; rfl
  have k2 : IntOp.cmpi .eq (BitVec.ofNat 32 (lane d).val) (BitVec.ofNat 32 (lane (top u 1)).val) = BitVec.ofBool (decide (d = top u 1)) := by
    rw [cmpi_lane _ _ (by omega) (by omega)]; simp only [Fin.ext_iff]; rfl
  unfold weight
  rw [hw] at f1
  have f3' : Finset.univ.fold max (Ideal.ofBits FTy.f32 4286578688#32) (fun x : Fin 128 => if x = lane (top u 0) then ⊥ else spread u x)
      = u (top u 1) := by rw [bits_neg_inf]; exact f3
  pointwise [k0_pay7]
  simp only [f1, f2, f3', f4, hw, k1, k2, select_ofBool]

/-- The three matrix products of one expert. -/
theorem expert_apply (h : FVec Ideal S512x1024 .bf16) (x6 x7 : FVec Ideal S1x1x1024x1408 .bf16) (x8 : FVec Ideal S1x1x1408x1024 .bf16)
    (r : Fin 512) (d : Fin 1024) :
    k0_pay10 (F := Ideal) h x6 x7 x8 (ix2 r d)
      = expert (fun k => h (ix2 r k)) (fun k f => x6 (ix4 0 0 k f)) (fun k f => x7 (ix4 0 0 k f)) (fun f d => x8 (ix4 0 0 f d)) d := by
  unfold expert
  simp only [← zero_sub (_ : EReal)]
  pointwise [k0_pay10]

/-- The gate column of the grid point's expert. -/
theorem gate_apply (i : grid0.Coords) (g : FVec Ideal S512x128 .f32) (r : Fin 512) (e : Fin 8) (he : (i 1 : Nat) = e.val) :
    k0_pay11 (F := Ideal) i g (ix2 r 0) = g (ix2 r (lane e)) := by
  have h : k0_pay11 (F := Ideal) i g (ix2 r 0) = ∑ x : Fin 128, Scalar.select (IntOp.cmpi .eq (BitVec.ofNat 32 x.val) (BitVec.ofNat 32 (i 1 : Nat))) (g (ix2 r x)) (0 : EReal) := by
    pointwise [k0_pay11]
  rw [h, Finset.sum_eq_single (lane e)]
  · rw [he, cmpi_lane _ _ (by omega) (by omega), select_ofBool]; exact if_pos rfl
  · intro x _ hx
    rw [he, cmpi_lane _ _ (by omega) (by omega), select_ofBool]
    exact if_neg fun e => hx (Fin.ext e)
  · intro h; exact absurd (Finset.mem_univ _) h

/-- The sum after one more expert. -/
theorem sum_apply (y : FVec Ideal S512x1024 .f32) (g : FVec Ideal S512x1 .f32) (a : FVec Ideal S512x1024 .f32) (r : Fin 512) (d : Fin 1024) :
    k0_pay1 (F := Ideal) y g a (ix2 r d) = a (ix2 r d) + g (ix2 r 0) * y (ix2 r d) := by
  pointwise [k0_pay1]

/-- The block of zeros the sum starts from. -/
theorem zero_apply (r : Fin 512) (d : Fin 1024) : (k0_pay9 (F := Ideal) k0_pay8) (ix2 r d) = 0 := by
  pointwise [k0_pay9, k0_pay8]

/-- The output block. -/
theorem out_apply (x : FVec Ideal S512x1024 .f32) (g : FVec Ideal S1x1024 .f32) (a : FVec Ideal S512x1024 .f32) (r : Fin 512) (d : Fin 1024) :
    k0_pay2 (F := Ideal) x g a (ix2 r d) = x (ix2 r d) + g (ix2 0 d) * a (ix2 r d) := by
  pointwise [k0_pay2]

end Cert.MoeIdeal.Pay

end
-- ==== Proof.Moe.Blocks.lean ====
/-
  The blocks the mixture-of-experts kernel reads at a grid point `t = 8 * b + e`, as entries of the argument arrays: row
  block `b` of `x`, the whole of each modulation row, row 1 of the norm weights, the router on the first eight lanes, and
  expert `e`'s three weight matrices.
-/
module

public import proofs.«01_k».proof.Proof.Moe.Pay
public import Idealize.ShloMosaic.Lib.KernelVsHost

@[expose] public section

set_option maxRecDepth 16384

noncomputable section

open Idealize.ShloMosaic Idealize.ShloMosaic.TcCoe Idealize.SL.Sem

namespace Cert.MoeIdeal.Blocks

open Cert.MoeIdeal Cert.MoeIdeal.Gen Cert.Route

variable (m : (ℓ : Loc nD τ sig) → Buf (Elt Ideal) ℓ)

/-- The block index of each window at each point. -/
theorem idx : ∀ t : Fin cfg0.N,
    win0_0.index t 0 = t.val / 8
    ∧ win0_0.index t 1 = 0
    ∧ win0_1.index t 0 = 1
    ∧ win0_1.index t 1 = 0
    ∧ win0_1.index t 2 = 0
    ∧ win0_2.index t 0 = 0
    ∧ win0_2.index t 1 = 0
    ∧ win0_3.index t 0 = 0
    ∧ win0_3.index t 1 = 0
    ∧ win0_4.index t 0 = 0
    ∧ win0_4.index t 1 = 0
    ∧ win0_5.index t 0 = 0
    ∧ win0_5.index t 1 = 0
    ∧ win0_5.index t 2 = 0
    ∧ win0_6.index t 0 = 0
    ∧ win0_6.index t 1 = t.val % 8
    ∧ win0_6.index t 2 = 0
    ∧ win0_6.index t 3 = 0
    ∧ win0_7.index t 0 = 0
    ∧ win0_7.index t 1 = t.val % 8
    ∧ win0_7.index t 2 = 0
    ∧ win0_7.index t 3 = 0
    ∧ win0_8.index t 0 = 0
    ∧ win0_8.index t 1 = t.val % 8
    ∧ win0_8.index t 2 = 0
    ∧ win0_8.index t 3 = 0 := by
  decide +kernel

theorem V_v0 (c : Dev nD) : V m c main_v0 = broadcastInDim S2x1x1024 ![0, 2] bcast_S2x1024_S2x1x1024_0_2 (m ((c : Thread nD τ).loc main_arg4)) := by
  show StableHlo.after _ _ (Proc.devRef .tc main_v0) = _
  unfold hostOps0 hostOps0_1
  simp only [List.flatten_cons, List.flatten_nil, List.append_nil, List.cons_append, List.nil_append]
  after_results
  try rfl

theorem V_v1 (c : Dev nD) : (V m c main_v1 : S1x8x1024x1408.Idx → EReal) = m ((c : Thread nD τ).loc main_arg6) := by
  show StableHlo.after _ _ (Proc.devRef .tc main_v1) = _
  unfold hostOps0 hostOps0_1
  simp only [List.flatten_cons, List.flatten_nil, List.append_nil, List.cons_append, List.nil_append]
  after_results
  try rfl

theorem V_v2 (c : Dev nD) : (V m c main_v2 : S1x8x1024x1408.Idx → EReal) = m ((c : Thread nD τ).loc main_arg7) := by
  show StableHlo.after _ _ (Proc.devRef .tc main_v2) = _
  unfold hostOps0 hostOps0_1
  simp only [List.flatten_cons, List.flatten_nil, List.append_nil, List.cons_append, List.nil_append]
  after_results
  try rfl

theorem V_v3 (c : Dev nD) : (V m c main_v3 : S1x8x1408x1024.Idx → EReal) = m ((c : Thread nD τ).loc main_arg8) := by
  show StableHlo.after _ _ (Proc.devRef .tc main_v3) = _
  unfold hostOps0 hostOps0_1
  simp only [List.flatten_cons, List.flatten_nil, List.append_nil, List.cons_append, List.nil_append]
  after_results
  try rfl

theorem V_v4 (c : Dev nD) : ∃ z, V m c main_v4
    = pad S1x1024x128 ![0, 0, 0] ![0, 0, 120] ![0, 0, 0] (m ((c : Thread nD τ).loc main_arg5)) z pads_S1x1024x8_S1x1024x128_000_000_01200 h_S_ := by
  show ∃ z, StableHlo.after _ _ (Proc.devRef .tc main_v4) = _
  unfold hostOps0 hostOps0_1
  simp only [List.flatten_cons, List.flatten_nil, List.append_nil, List.cons_append, List.nil_append]
  after_results
  exact ⟨_, rfl⟩

/-- The row of `x` that row `r` of the block at point `t` is. -/
def rowAt (t : Fin cfg0.N) (r : Fin 512) : Fin 16384 :=
  ⟨512 * (t.val / 8) + r.val, by have : t.val < 256 := Nat.lt_of_lt_of_eq t.isLt N_0; omega⟩

/-- The expert of point `t`. -/
def expertAt (t : Fin cfg0.N) : Fin 8 := ⟨t.val % 8, by omega⟩

variable (c : Dev nD) (t : Fin cfg0.N)

theorem row_at (r : Fin 512) (d : Fin 1024) : (iblk m c 0 t : FVec Ideal S512x1024 .f32) (ix2 r d) = m ((c : Thread nD τ).loc main_arg0) (ix2 (rowAt t r) d) := by
  have hb : ((cfg0.win 0).blk t).view.read (Elt Ideal) (V m c (Pipeline.arrRef spec0 0)) (ix2 r d) = V m c main_arg0 (ix2 (rowAt t r) d) := by
    rw [View.read_apply]
    show V m c main_arg0 _ = V m c main_arg0 _
    congr 1
    funext a
    apply Fin.ext
    match a with
    | ⟨0, _⟩ => show win0_0.index t 0 * 512 + 1 * r.val = (rowAt t r).val; rw [(idx t).1]; show _ = 512 * (t.val / 8) + r.val; omega
    | ⟨1, _⟩ => show win0_0.index t 1 * 1024 + 1 * d.val = d.val; rw [(idx t).2.1]; omega
  refine hb.trans ?_
  exact congrFun (V_main_arg0 m c) _

theorem norm_at (d : Fin 1024) : (iblk m c 1 t : FVec Ideal S1x1x1024 .f32) (ix3 0 0 d) = m ((c : Thread nD τ).loc main_arg4) (ix2 1 d) := by
  have hb : ((cfg0.win 1).blk t).view.read (Elt Ideal) (V m c (Pipeline.arrRef spec0 1)) (ix3 0 0 d) = V m c main_v0 (ix3 1 0 d) := by
    rw [View.read_apply]
    show V m c main_v0 _ = V m c main_v0 _
    congr 1
    funext a
    apply Fin.ext
    match a with
    | ⟨0, _⟩ => show win0_1.index t 0 * 1 + 1 * 0 = 1; rw [(idx t).2.2.1]
    | ⟨1, _⟩ => show win0_1.index t 1 * 1 + 1 * 0 = 0; rw [(idx t).2.2.2.1]
    | ⟨2, _⟩ => show win0_1.index t 2 * 1024 + 1 * d.val = d.val; rw [(idx t).2.2.2.2.1]; omega
  refine hb.trans ?_
  rw [V_v0]
  pointwise []

theorem scale_at (d : Fin 1024) : (iblk m c 2 t : FVec Ideal S1x1024 .f32) (ix2 0 d) = m ((c : Thread nD τ).loc main_arg1) (ix2 0 d) := by
  have hb : ((cfg0.win 2).blk t).view.read (Elt Ideal) (V m c (Pipeline.arrRef spec0 2)) (ix2 0 d) = V m c main_arg1 (ix2 0 d) := by
    rw [View.read_apply]
    show V m c main_arg1 _ = V m c main_arg1 _
    congr 1
    funext a
    apply Fin.ext
    match a with
    | ⟨0, _⟩ => show win0_2.index t 0 * 1 + 1 * 0 = 0; rw [(idx t).2.2.2.2.2.1]
    | ⟨1, _⟩ => show win0_2.index t 1 * 1024 + 1 * d.val = d.val; rw [(idx t).2.2.2.2.2.2.1]; omega
  refine hb.trans ?_
  exact congrFun (V_main_arg1 m c) _

theorem shift_at (d : Fin 1024) : (iblk m c 3 t : FVec Ideal S1x1024 .f32) (ix2 0 d) = m ((c : Thread nD τ).loc main_arg2) (ix2 0 d) := by
  have hb : ((cfg0.win 3).blk t).view.read (Elt Ideal) (V m c (Pipeline.arrRef spec0 3)) (ix2 0 d) = V m c main_arg2 (ix2 0 d) := by
    rw [View.read_apply]
    show V m c main_arg2 _ = V m c main_arg2 _
    congr 1
    funext a
    apply Fin.ext
    match a with
    | ⟨0, _⟩ => show win0_3.index t 0 * 1 + 1 * 0 = 0; rw [(idx t).2.2.2.2.2.2.2.1]
    | ⟨1, _⟩ => show win0_3.index t 1 * 1024 + 1 * d.val = d.val; rw [(idx t).2.2.2.2.2.2.2.2.1]; omega
  refine hb.trans ?_
  exact congrFun (V_main_arg2 m c) _

theorem gate_at (d : Fin 1024) : (iblk m c 4 t : FVec Ideal S1x1024 .f32) (ix2 0 d) = m ((c : Thread nD τ).loc main_arg3) (ix2 0 d) := by
  have hb : ((cfg0.win 4).blk t).view.read (Elt Ideal) (V m c (Pipeline.arrRef spec0 4)) (ix2 0 d) = V m c main_arg3 (ix2 0 d) := by
    rw [View.read_apply]
    show V m c main_arg3 _ = V m c main_arg3 _
    congr 1
    funext a
    apply Fin.ext
    match a with
    | ⟨0, _⟩ => show win0_4.index t 0 * 1 + 1 * 0 = 0; rw [(idx t).2.2.2.2.2.2.2.2.2.1]
    | ⟨1, _⟩ => show win0_4.index t 1 * 1024 + 1 * d.val = d.val; rw [(idx t).2.2.2.2.2.2.2.2.2.2.1]; omega
  refine hb.trans ?_
  exact congrFun (V_main_arg3 m c) _

theorem router_at (k : Fin 1024) (e : Fin 8) : (iblk m c 5 t : FVec Ideal S1x1024x128 .f32) (ix3 0 k (lane e)) = m ((c : Thread nD τ).loc main_arg5) (ix3 0 k e) := by
  have hb : ((cfg0.win 5).blk t).view.read (Elt Ideal) (V m c (Pipeline.arrRef spec0 5)) (ix3 0 k (lane e)) = V m c main_v4 (ix3 0 k (lane e)) := by
    rw [View.read_apply]
    show V m c main_v4 _ = V m c main_v4 _
    congr 1
    funext a
    apply Fin.ext
    match a with
    | ⟨0, _⟩ => show win0_5.index t 0 * 1 + 1 * 0 = 0; rw [(idx t).2.2.2.2.2.2.2.2.2.2.2.1]
    | ⟨1, _⟩ => show win0_5.index t 1 * 1024 + 1 * k.val = k.val; rw [(idx t).2.2.2.2.2.2.2.2.2.2.2.2.1]; omega
    | ⟨2, _⟩ => show win0_5.index t 2 * 128 + 1 * (lane e).val = (lane e).val; rw [(idx t).2.2.2.2.2.2.2.2.2.2.2.2.2.1]; omega
  refine hb.trans ?_
  obtain ⟨z, hz⟩ := V_v4 m c
  rw [hz]
  refine pad_apply_of_inside _ _ _ _ _ _ _ _ _ fun a => ?_
  match a with
  | ⟨0, _⟩ => rfl
  | ⟨1, _⟩ => show k.val = 0 + k.val * (0 + 1); omega
  | ⟨2, _⟩ => show e.val = 0 + e.val * (0 + 1); omega

theorem w1_at (k : Fin 1024) (f : Fin 1408) : (iblk m c 6 t : FVec Ideal S1x1x1024x1408 .bf16) (ix4 0 0 k f) = m ((c : Thread nD τ).loc main_arg6) (ix4 0 (expertAt t) k f) := by
  have hb : ((cfg0.win 6).blk t).view.read (Elt Ideal) (V m c (Pipeline.arrRef spec0 6)) (ix4 0 0 k f) = V m c main_v1 (ix4 0 (expertAt t) k f) := by
    rw [View.read_apply]
    show V m c main_v1 _ = V m c main_v1 _
    congr 1
    funext a
    apply Fin.ext
    match a with
    | ⟨0, _⟩ => show win0_6.index t 0 * 1 + 1 * 0 = 0; rw [(idx t).2.2.2.2.2.2.2.2.2.2.2.2.2.2.1]
    | ⟨1, _⟩ => show win0_6.index t 1 * 1 + 1 * 0 = (expertAt t).val; rw [(idx t).2.2.2.2.2.2.2.2.2.2.2.2.2.2.2.1]; show _ = t.val % 8; omega
    | ⟨2, _⟩ => show win0_6.index t 2 * 1024 + 1 * k.val = k.val; rw [(idx t).2.2.2.2.2.2.2.2.2.2.2.2.2.2.2.2.1]; omega
    | ⟨3, _⟩ => show win0_6.index t 3 * 1408 + 1 * f.val = f.val; rw [(idx t).2.2.2.2.2.2.2.2.2.2.2.2.2.2.2.2.2.1]; omega
  refine hb.trans ?_
  exact congrFun (V_v1 m c) _

theorem w3_at (k : Fin 1024) (f : Fin 1408) : (iblk m c 7 t : FVec Ideal S1x1x1024x1408 .bf16) (ix4 0 0 k f) = m ((c : Thread nD τ).loc main_arg7) (ix4 0 (expertAt t) k f) := by
  have hb : ((cfg0.win 7).blk t).view.read (Elt Ideal) (V m c (Pipeline.arrRef spec0 7)) (ix4 0 0 k f) = V m c main_v2 (ix4 0 (expertAt t) k f) := by
    rw [View.read_apply]
    show V m c main_v2 _ = V m c main_v2 _
    congr 1
    funext a
    apply Fin.ext
    match a with
    | ⟨0, _⟩ => show win0_7.index t 0 * 1 + 1 * 0 = 0; rw [(idx t).2.2.2.2.2.2.2.2.2.2.2.2.2.2.2.2.2.2.1]
    | ⟨1, _⟩ => show win0_7.index t 1 * 1 + 1 * 0 = (expertAt t).val; rw [(idx t).2.2.2.2.2.2.2.2.2.2.2.2.2.2.2.2.2.2.2.1]; show _ = t.val % 8; omega
    | ⟨2, _⟩ => show win0_7.index t 2 * 1024 + 1 * k.val = k.val; rw [(idx t).2.2.2.2.2.2.2.2.2.2.2.2.2.2.2.2.2.2.2.2.1]; omega
    | ⟨3, _⟩ => show win0_7.index t 3 * 1408 + 1 * f.val = f.val; rw [(idx t).2.2.2.2.2.2.2.2.2.2.2.2.2.2.2.2.2.2.2.2.2.1]; omega
  refine hb.trans ?_
  exact congrFun (V_v2 m c) _

theorem w2_at (f : Fin 1408) (d : Fin 1024) : (iblk m c 8 t : FVec Ideal S1x1x1408x1024 .bf16) (ix4 0 0 f d) = m ((c : Thread nD τ).loc main_arg8) (ix4 0 (expertAt t) f d) := by
  have hb : ((cfg0.win 8).blk t).view.read (Elt Ideal) (V m c (Pipeline.arrRef spec0 8)) (ix4 0 0 f d) = V m c main_v3 (ix4 0 (expertAt t) f d) := by
    rw [View.read_apply]
    show V m c main_v3 _ = V m c main_v3 _
    congr 1
    funext a
    apply Fin.ext
    match a with
    | ⟨0, _⟩ => show win0_8.index t 0 * 1 + 1 * 0 = 0; rw [(idx t).2.2.2.2.2.2.2.2.2.2.2.2.2.2.2.2.2.2.2.2.2.2.1]
    | ⟨1, _⟩ => show win0_8.index t 1 * 1 + 1 * 0 = (expertAt t).val; rw [(idx t).2.2.2.2.2.2.2.2.2.2.2.2.2.2.2.2.2.2.2.2.2.2.2.1]; show _ = t.val % 8; omega
    | ⟨2, _⟩ => show win0_8.index t 2 * 1408 + 1 * f.val = f.val; rw [(idx t).2.2.2.2.2.2.2.2.2.2.2.2.2.2.2.2.2.2.2.2.2.2.2.2.1]; omega
    | ⟨3, _⟩ => show win0_8.index t 3 * 1024 + 1 * d.val = d.val; rw [(idx t).2.2.2.2.2.2.2.2.2.2.2.2.2.2.2.2.2.2.2.2.2.2.2.2.2]; omega
  refine hb.trans ?_
  exact congrFun (V_v3 m c) _

end Cert.MoeIdeal.Blocks

end
-- ==== Proof.Moe.State.lean ====
/-
  What the mixture-of-experts kernel holds after each grid point, and the array it leaves.

  The points of one row block run over the eight experts in order. After expert `e`'s point the scratch arrays hold the
  block's normalised rows, its gates and the gated sum of experts `0 … e`; the last expert's point writes the layer's rows.
-/
module

public import proofs.«01_k».proof.Proof.Moe.Blocks

@[expose] public section

set_option maxRecDepth 16384

noncomputable section

open Idealize.ShloMosaic Idealize.ShloMosaic.TcCoe Idealize.SL.Sem

namespace Cert.MoeIdeal.State

open Cert.MoeIdeal Cert.MoeIdeal.Gen Cert.MoeIdeal.Value Cert.MoeIdeal.Step Cert.MoeIdeal.Pay Cert.MoeIdeal.Blocks Cert.Route Cert.Spec

variable (m : (ℓ : Loc nD τ sig) → Buf (Elt Ideal) ℓ) (c : Dev nD)

/-! ## The argument arrays as functions -/

def X (R : Fin 16384) (d : Fin 1024) : EReal := m ((c : Thread nD τ).loc main_arg0) (ix2 R d)
def sc (d : Fin 1024) : EReal := m ((c : Thread nD τ).loc main_arg1) (ix2 0 d)
def sh (d : Fin 1024) : EReal := m ((c : Thread nD τ).loc main_arg2) (ix2 0 d)
def g2 (d : Fin 1024) : EReal := m ((c : Thread nD τ).loc main_arg3) (ix2 0 d)
def nw (d : Fin 1024) : EReal := m ((c : Thread nD τ).loc main_arg4) (ix2 1 d)
def router (k : Fin 1024) (e : Fin 8) : EReal := m ((c : Thread nD τ).loc main_arg5) (ix3 0 k e)
def w1 (e : Fin 8) (k : Fin 1024) (f : Fin 1408) : EReal := m ((c : Thread nD τ).loc main_arg6) (ix4 0 e k f)
def w3 (e : Fin 8) (k : Fin 1024) (f : Fin 1408) : EReal := m ((c : Thread nD τ).loc main_arg7) (ix4 0 e k f)
def w2 (e : Fin 8) (f : Fin 1408) (d : Fin 1024) : EReal := m ((c : Thread nD τ).loc main_arg8) (ix4 0 e f d)

/-- Row `R` normalised and modulated. -/
def H (R : Fin 16384) : Fin 1024 → EReal := hrow (X m c R) (nw m c) (sc m c) (sh m c)

/-- Row `R`'s logits. -/
def U (R : Fin 16384) : Fin 8 → EReal := logit (H m c R) (router m c)

/-- Expert `e`'s output at row `R`. -/
def Y (R : Fin 16384) (d : Fin 1024) (e : Fin 8) : EReal := expert (H m c R) (w1 m c e) (w3 m c e) (w2 m c e) d

variable {m c}

/-! ## The point's values over the arrays -/

theorem h3_at (t : Fin cfg0.N) (r : Fin 512) (d : Fin 1024) :
    k0_pay3 (F := Ideal) (iblk m c 0 t) (iblk m c 1 t) (iblk m c 2 t) (iblk m c 3 t) (ix2 r d) = H m c (rowAt t r) d := by
  rw [h3_apply]
  simp only [row_at, norm_at, scale_at, shift_at]
  rfl

theorem h_at (t : Fin cfg0.N) (r : Fin 512) (d : Fin 1024) :
    k0_pay4 (F := Ideal) (iblk m c 0 t) (iblk m c 1 t) (iblk m c 2 t) (iblk m c 3 t) (ix2 r d) = H m c (rowAt t r) d := by
  rw [h_apply]
  simp only [row_at, norm_at, scale_at, shift_at]
  rfl

theorem logits_at (t : Fin cfg0.N) (r : Fin 512) (x : Fin 128) :
    k0_pay5 (F := Ideal) lanes (iblk m c 0 t) (iblk m c 1 t) (iblk m c 2 t) (iblk m c 3 t) (iblk m c 5 t) (ix2 r x)
      = spread (U m c (rowAt t r)) x := by
  rw [logits_apply]
  simp only [h3_at, router_at]
  rfl

theorem gates_at (hU : ∀ R e, ⊥ < U m c R e) (t : Fin cfg0.N) (r : Fin 512) (e : Fin 8) :
    (gates (F := Ideal) (iblk m c 0 t) (iblk m c 1 t) (iblk m c 2 t) (iblk m c 3 t) (iblk m c 5 t)) (ix2 r (lane e))
      = weight (U m c (rowAt t r)) e := by
  refine pick_apply _ _ r e _ (hU _) (logits_at t r) ?_
  rw [max_apply]
  simp only [logits_at]
  rw [(spread_first _ (hU _)).fold_max, spread_lane]

theorem coord1 (t : Fin cfg0.N) : (grid0.coords t 1 : Nat) = (expertAt t).val := by
  have e : (grid0.coords t 1).val = t.val / 1 % 8 := Pipeline.Grid.coords_val t 1 (by decide) rfl
  rw [e, Nat.div_one]; rfl

theorem expert_at (t : Fin cfg0.N) (r : Fin 512) (d : Fin 1024) (R : Fin 16384) (h : FVec Ideal S512x1024 .bf16)
    (hh : ∀ k, h (ix2 r k) = H m c R k) :
    k0_pay10 (F := Ideal) h (iblk m c 6 t) (iblk m c 7 t) (iblk m c 8 t) (ix2 r d) = Y m c R d (expertAt t) := by
  rw [expert_apply]
  simp only [hh, w1_at, w3_at, w2_at]
  rfl

theorem sum_at (t : Fin cfg0.N) (r : Fin 512) (d : Fin 1024) (R : Fin 16384) (h : FVec Ideal S512x1024 .bf16) (g : FVec Ideal S512x128 .f32)
    (a : FVec Ideal S512x1024 .f32) (hh : ∀ k, h (ix2 r k) = H m c R k) (hg : ∀ e, g (ix2 r (lane e)) = weight (U m c R) e)
    (ha : a (ix2 r d) = mix (weight (U m c R)) (Y m c R d) (t.val % 8)) :
    k0_pay1 (F := Ideal) (k0_pay10 h (iblk m c 6 t) (iblk m c 7 t) (iblk m c 8 t)) (k0_pay11 (grid0.coords t) g) a (ix2 r d)
      = mix (weight (U m c R)) (Y m c R d) (t.val % 8 + 1) := by
  rw [sum_apply, gate_apply _ _ _ (expertAt t) (coord1 t), hg, expert_at t r d R h hh, ha, mix_step _ _ _ (by omega)]
  rfl

/-! ## The induction over the points -/

/-- What the scratch arrays hold after point `t`. -/
structure Holds (m : (ℓ : Loc nD τ sig) → Buf (Elt Ideal) ℓ) (c : Dev nD) (t : Fin cfg0.N)
    (s : Vec Ideal S512x1024 .f32 × Vec Ideal S512x1024 .bf16 × Vec Ideal S512x128 .f32 × Vec Ideal S512x1024 .f32) : Prop where
  h : ∀ r k, s.2.1 (ix2 r k) = H m c (rowAt t r) k
  g : ∀ r e, s.2.2.1 (ix2 r (lane e)) = weight (U m c (rowAt t r)) e
  a : ∀ r d, s.2.2.2 (ix2 r d) = mix (weight (U m c (rowAt t r))) (Y m c (rowAt t r) d) (t.val % 8 + 1)

theorem holds_first (hU : ∀ R e, ⊥ < U m c R e) (t : Fin cfg0.N) (h0 : t.val % 8 = 0) (acc) :
    Holds m c t (stAt0 m c t.val t.isLt acc) where
  h r k := by rw [first_h m c t h0]; exact h_at t r k
  g r e := by rw [first_gate m c t h0]; exact gates_at hU t r e
  a r d := by
    rw [first_acc m c t h0]
    refine sum_at t r d _ _ _ _ (h_at t r) (gates_at hU t r) ?_
    rw [zero_apply, h0]; rfl

theorem rowAt_succ (n : Nat) (hn : n + 1 < cfg0.N) (h0 : ¬ (n + 1) % 8 = 0) (r : Fin 512) :
    rowAt ⟨n + 1, hn⟩ r = rowAt ⟨n, Nat.lt_of_succ_lt hn⟩ r := by
  apply Fin.ext
  show 512 * ((n + 1) / 8) + r.val = 512 * (n / 8) + r.val
  omega

theorem holds_mid (n : Nat) (hn : n + 1 < cfg0.N) (h0 : ¬ (n + 1) % 8 = 0) (h1 : ¬ (n + 1) % 8 = 7) (acc)
    (ih : Holds m c ⟨n, Nat.lt_of_succ_lt hn⟩ acc) : Holds m c ⟨n + 1, hn⟩ (stAt0 m c (n + 1) hn acc) where
  h r k := by rw [mid_h m c ⟨n + 1, hn⟩ h0 h1 acc, ih.h, rowAt_succ n hn h0]
  g r e := by rw [mid_gate m c ⟨n + 1, hn⟩ h0 h1 acc, ih.g, rowAt_succ n hn h0]
  a r d := by
    rw [mid_acc m c ⟨n + 1, hn⟩ h0 h1 acc]
    refine sum_at ⟨n + 1, hn⟩ r d _ _ _ _ (fun k => ?_) (fun e => ?_) ?_
    · rw [ih.h, rowAt_succ n hn h0]
    · rw [ih.g, rowAt_succ n hn h0]
    · rw [ih.a, rowAt_succ n hn h0]
      congr 1
      show n % 8 + 1 = (n + 1) % 8
      omega

theorem holds (hU : ∀ R e, ⊥ < U m c R e) : ∀ (n : Nat) (hn : n < cfg0.N), ¬ n % 8 = 7 → Holds m c ⟨n, hn⟩ (outsAt0 m c n hn)
  | 0, hn, _ => by rw [outsAt0_zero]; exact holds_first hU ⟨0, hn⟩ rfl _
  | n + 1, hn, h1 => by
    rw [outsAt0_succ]
    by_cases h0 : (n + 1) % 8 = 0
    · exact holds_first hU ⟨n + 1, hn⟩ h0 _
    · exact holds_mid n hn h0 h1 _ (holds hU n (Nat.lt_of_succ_lt hn) (by omega))

/-- The layer at row `R` of the arrays. -/
def result (m : (ℓ : Loc nD τ sig) → Buf (Elt Ideal) ℓ) (c : Dev nD) (R : Fin 16384) (d : Fin 1024) : EReal :=
  layer (X m c R) (nw m c) (sc m c) (sh m c) (g2 m c) (router m c) (w1 m c) (w3 m c) (w2 m c) d

/-- The block the last expert's point writes. -/
theorem block_out (hU : ∀ R e, ⊥ < U m c R e) (n : Nat) (hn : n + 1 < cfg0.N) (h1 : (n + 1) % 8 = 7) (r : Fin 512) (d : Fin 1024) :
    (outsAt0 m c (n + 1) hn).1 (ix2 r d) = result m c (rowAt ⟨n + 1, hn⟩ r) d := by
  have ih := holds hU n (Nat.lt_of_succ_lt hn) (by omega)
  have h0 : ¬ (n + 1) % 8 = 0 := by omega
  rw [outsAt0_succ, last_out m c ⟨n + 1, hn⟩ h1, out_apply, row_at, gate_at,
    sum_at ⟨n + 1, hn⟩ r d (rowAt ⟨n + 1, hn⟩ r) _ _ _ (fun k => by rw [ih.h, rowAt_succ n hn h0])
      (fun e => by rw [ih.g, rowAt_succ n hn h0])
      (by rw [ih.a, rowAt_succ n hn h0]; congr 1; show n % 8 + 1 = (n + 1) % 8; omega)]
  show _ + _ * mix _ _ ((n + 1) % 8 + 1) = _
  rw [h1]
  rfl

/-- The array the kernel leaves. -/
theorem G9_apply (hU : ∀ R e, ⊥ < U m c R e) (R : Fin 16384) (d : Fin 1024) : G9 m c (ix2 R d) = result m c R d := by
  have hR := R.isLt
  have hd := d.isLt
  have hrun : run9Of (ix2 R d) = R.val / 512 := by
    show 1 * (R.val / 512 - 0) + 1 * (d.val / 1024 - 0) = _
    omega
  have hN : cfg0.N = 256 := N_0
  have hpt : pt9Of (ix2 R d) = (8 * (R.val / 512) + 6) + 1 := by
    show 8 * run9Of (ix2 R d) + 7 = _
    rw [hrun]
  have hn : (8 * (R.val / 512) + 6) + 1 < cfg0.N := by omega
  unfold G9
  rw [dif_pos (by rw [hpt]; exact hn)]
  rw [fold0_congr m c _ _ ((8 * (R.val / 512) + 6) + 1) (by omega) hpt, ← outsAt0_sweep m c _ hn]
  have hloc : loc9Of (ix2 R d) = ix2 ⟨R.val % 512, by omega⟩ d := by
    funext a
    match a with
    | ⟨0, _⟩ => rfl
    | ⟨1, _⟩ => exact Fin.ext (Nat.mod_eq_of_lt hd)
  rw [hloc, block_out hU _ hn (by omega)]
  congr 1
  apply Fin.ext
  show 512 * (((8 * (R.val / 512) + 6) + 1) / 8) + R.val % 512 = R.val
  omega

end Cert.MoeIdeal.State

end
-- ==== Proof.Moe.Ref.lean ====
/-
  The reference's mixture of experts read at one position, in plain arithmetic.
-/
module

public import proofs.«01_k».proof.Proof.Gen.MoeRefIdeal.Read
public import proofs.«01_k».proof.Proof.Moe.Spec
public import Idealize.ShloMosaic.Lib.Pointwise

@[expose] public section

set_option maxRecDepth 16384

noncomputable section

open Idealize.ShloMosaic Idealize.ShloMosaic.TcCoe Idealize.SL.Sem

namespace Cert.MoeRefIdeal.Ref

open Cert.MoeRefIdeal Cert.MoeRefIdeal.Read Cert.Route Cert.Spec

variable (a0 : FVec Ideal S16384x1024 .f32) (a1 a2 : FVec Ideal S1x1024 .f32) (a4 : FVec Ideal S2x1024 .f32)
  (a5 : FVec Ideal S1x1024x8 .f32) (a6 a7 : FVec Ideal S1x8x1024x1408 .f32) (a8 : FVec Ideal S1x8x1408x1024 .f32)

/-- The modulated normalised rows. -/
theorem h_apply (r : Fin 16384) (d : Fin 1024) :
    val_main_v20 (F := Ideal) a0 a1 a2 a4 (ix2 r d)
      = hrow (fun k => a0 (ix2 r k)) (fun k => a4 (ix2 1 k)) (fun k => a1 (ix2 0 k)) (fun k => a2 (ix2 0 k)) d := by
  unfold hrow
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

/-- The router's logits. -/
theorem logit_apply (r : Fin 16384) (e : Fin 8) :
    val_main_v25 (F := Ideal) a0 a1 a2 a4 a5 (ix2 r e)
      = logit (fun k => val_main_v20 (F := Ideal) a0 a1 a2 a4 (ix2 r k)) (fun k e => a5 (ix3 0 k e)) e := by
  unfold logit
  pointwise [val_main_v25, val_main_v21]

/-! ## The two greatest logits -/

/-- The stable top-2 of a row: its values and its positions. -/
theorem topK_apply (x : FVec Ideal S16384x8 .f32) (h : S16384x8.Slices (fun _ => 0) S16384x2) (r : Fin 16384) (k : Fin 2) :
    (Host.topK S16384x2 1 (FloatOps.cmpfTotal (F := Ideal) (φ := .f32) .gt) x h).1 (ix2 r k)
        = x (ix2 r (top (fun e => x (ix2 r e)) k))
      ∧ (Host.topK S16384x2 1 (FloatOps.cmpfTotal (F := Ideal) (φ := .f32) .gt) x h).2 (ix2 r k)
        = BitVec.ofNat 32 (top (fun e => x (ix2 r e)) k).val := by
  have hal : ∀ (j : S16384x8.Idx) (q : Fin 8), j.along 1 q = ix2 (j 0) q := by
    intro j q
    funext a
    match a with
    | ⟨0, _⟩ => rfl
    | ⟨1, _⟩ => rfl
  have hc : ∀ (a b : EReal), (FloatOps.cmpfTotal (F := Ideal) (φ := .f32) .gt a b == 1#1) = decide (b < a) := by
    intro a b
    show (BitVec.ofBool (decide (b < a)) == 1#1) = _
    cases decide (b < a) <;> rfl
  have hs : sortedFrom (fun q q' : Fin 8 => FloatOps.cmpfTotal (F := Ideal) (φ := .f32) .gt (x (ix2 r q)) (x (ix2 r q')) == 1#1)
      = sortedFrom (before fun e => x (ix2 r e)) := by
    rw [← sortedFrom_gt]
    congr 1
    funext q q'
    exact hc _ _
  have hk : k.val < 8 := by omega
  have hJ : (fun a : Fin 2 => (⟨0 + ((ix2 r k : S16384x2.Idx) (a.cast h.1.symm)).val,
      Nat.lt_of_lt_of_le (Nat.add_lt_add_left ((ix2 r k : S16384x2.Idx) _).isLt _) (h.2 a)⟩ : Fin (S16384x8.size a)))
        = (ix2 r ⟨k.val, hk⟩ : S16384x8.Idx) := by
    funext a
    match a with
    | ⟨0, _⟩ => exact Fin.ext (Nat.zero_add _)
    | ⟨1, _⟩ => exact Fin.ext (Nat.zero_add _)
  have key : ∀ J : S16384x8.Idx, J = ix2 r ⟨k.val, hk⟩ →
      sortedFrom (fun q q' : Fin 8 => FloatOps.cmpfTotal (F := Ideal) (φ := .f32) .gt (x (J.along 1 q)) (x (J.along 1 q')) == 1#1) (J 1)
        = top (fun e => x (ix2 r e)) k := by
    rintro J rfl
    simp only [hal]
    exact congrFun hs _
  constructor
  · show x (Shape.Idx.along (fun a : Fin 2 => (⟨0 + ((ix2 r k : S16384x2.Idx) (a.cast h.1.symm)).val, _⟩ : Fin (S16384x8.size a))) 1 _) = _
    refine (congrArg x (hal _ _)).trans ?_
    exact congrArg x (congrArg₂ ix2 (congrFun hJ 0) (key _ hJ))
  · show BitVec.ofNat 32 (Shape.Idx.along (fun a : Fin 2 => (⟨0 + ((ix2 r k : S16384x2.Idx) (a.cast h.1.symm)).val, _⟩ : Fin (S16384x8.size a))) 1 _ 1).val = _
    exact congrArg (fun q : Fin 8 => BitVec.ofNat 32 q.val) (key _ hJ)

theorem values_apply (r : Fin 16384) (k : Fin 2) :
    val_main_values (F := Ideal) a0 a1 a2 a4 a5 (ix2 r k)
      = val_main_v25 (F := Ideal) a0 a1 a2 a4 a5 (ix2 r (top (fun e => val_main_v25 (F := Ideal) a0 a1 a2 a4 a5 (ix2 r e)) k)) :=
  (topK_apply _ _ r k).1

theorem indices_apply (r : Fin 16384) (k : Fin 2) :
    val_main_indices (F := Ideal) a0 a1 a2 a4 a5 (ix2 r k)
      = BitVec.ofNat 32 (top (fun e => val_main_v25 (F := Ideal) a0 a1 a2 a4 a5 (ix2 r e)) k).val :=
  (topK_apply _ _ r k).2

theorem uitofp_ofBool (p : Prop) [Decidable p] :
    (FloatOps.uitofp .f32 (BitVec.ofBool (decide p)) : Ideal .f32) = if p then (1 : EReal) else 0 := by
  show (((BitVec.ofBool (decide p)).toNat : ℝ) : EReal) = _
  by_cases h : p <;> simp [h]

/-- The gates of a row: the softmax of its two greatest logits, at the experts that hold them. -/
theorem gate_apply (r : Fin 16384) (e : Fin 8) (v : Fin 8 → EReal) (u : Fin 8 → ℝ) (hu : ∀ e, v e = (u e : EReal))
    (hv : ∀ e, val_main_v25 (F := Ideal) a0 a1 a2 a4 a5 (ix2 r e) = v e) :
    val_main_v41 (F := Ideal) a0 a1 a2 a4 a5 (ix2 r e) = weight v e := by
  have hv' : (fun e => val_main_v25 (F := Ideal) a0 a1 a2 a4 a5 (ix2 r e)) = v := funext hv
  have h1 : ∀ k : Fin 2, val_main_values (F := Ideal) a0 a1 a2 a4 a5 (ix2 r k) = v (top v k) := by
    intro k; rw [values_apply, hv', hv]
  have h2 : ∀ k : Fin 2, IntOp.cmpi .eq (val_main_indices (F := Ideal) a0 a1 a2 a4 a5 (ix2 r k)) (BitVec.ofNat 32 e.val)
      = BitVec.ofBool (decide (top v k = e)) := by
    intro k
    rw [indices_apply, hv', cmpi_lane _ _ (by omega) (by omega)]
    simp only [Fin.ext_iff]
  rw [← softmax_weight v u hu e]
  pointwise [val_main_v41, val_main_v40, val_main_v39, val_main_v38, val_main_v37, val_main_v36, val_main_v35, val_main_v34, val_main_v33, val_main_v32, val_main_v31, val_main_v30, val_main_v29, val_main_v28, val_main_v27, val_main_v26, val_main_cst_3, val_main_cst_4, val_main_cst_5, val_main_cst_6, val_main_call0_v0, val_main_call0_v1, val_main_call0_v2, val_main_call0_v3, val_main_call0_v4]
  simp only [h1, h2, uitofp_ofBool, bits_neg_inf, top_max]

/-! ## The experts' outputs -/

theorem y0 (r : Fin 16384) (d : Fin 1024) :
    val_main_v54 (F := Ideal) a0 a1 a2 a4 a6 a7 a8 (ix2 r d)
      = expert (fun k => val_main_v20 (F := Ideal) a0 a1 a2 a4 (ix2 r k)) (fun k f => a6 (ix4 0 0 k f)) (fun k f => a7 (ix4 0 0 k f)) (fun f d => a8 (ix4 0 0 f d)) d := by
  unfold expert
  pointwise [val_main_v54, val_main_v53, val_main_v52, val_main_v51, val_main_v50, val_main_v49, val_main_v48, val_main_v47, val_main_v46, val_main_v45, val_main_v44, val_main_v24, val_main_v23, val_main_v22, val_main_call1_v0, val_main_call1_v1, val_main_call1_v2, val_main_call1_v3, val_main_call1_v4, val_main_call1_v5, val_main_call1_cst, val_main_call1_cst_0]

theorem y1 (r : Fin 16384) (d : Fin 1024) :
    val_main_v69 (F := Ideal) a0 a1 a2 a4 a6 a7 a8 (ix2 r d)
      = expert (fun k => val_main_v20 (F := Ideal) a0 a1 a2 a4 (ix2 r k)) (fun k f => a6 (ix4 0 1 k f)) (fun k f => a7 (ix4 0 1 k f)) (fun f d => a8 (ix4 0 1 f d)) d := by
  unfold expert
  pointwise [val_main_v69, val_main_v68, val_main_v67, val_main_v66, val_main_v65, val_main_v64, val_main_v63, val_main_v62, val_main_v61, val_main_v60, val_main_v59, val_main_v24, val_main_v23, val_main_v22, val_main_call2_v0, val_main_call2_v1, val_main_call2_v2, val_main_call2_v3, val_main_call2_v4, val_main_call2_v5, val_main_call2_cst, val_main_call2_cst_0]

theorem y2 (r : Fin 16384) (d : Fin 1024) :
    val_main_v84 (F := Ideal) a0 a1 a2 a4 a6 a7 a8 (ix2 r d)
      = expert (fun k => val_main_v20 (F := Ideal) a0 a1 a2 a4 (ix2 r k)) (fun k f => a6 (ix4 0 2 k f)) (fun k f => a7 (ix4 0 2 k f)) (fun f d => a8 (ix4 0 2 f d)) d := by
  unfold expert
  pointwise [val_main_v84, val_main_v83, val_main_v82, val_main_v81, val_main_v80, val_main_v79, val_main_v78, val_main_v77, val_main_v76, val_main_v75, val_main_v74, val_main_v24, val_main_v23, val_main_v22, val_main_call3_v0, val_main_call3_v1, val_main_call3_v2, val_main_call3_v3, val_main_call3_v4, val_main_call3_v5, val_main_call3_cst, val_main_call3_cst_0]

theorem y3 (r : Fin 16384) (d : Fin 1024) :
    val_main_v99 (F := Ideal) a0 a1 a2 a4 a6 a7 a8 (ix2 r d)
      = expert (fun k => val_main_v20 (F := Ideal) a0 a1 a2 a4 (ix2 r k)) (fun k f => a6 (ix4 0 3 k f)) (fun k f => a7 (ix4 0 3 k f)) (fun f d => a8 (ix4 0 3 f d)) d := by
  unfold expert
  pointwise [val_main_v99, val_main_v98, val_main_v97, val_main_v96, val_main_v95, val_main_v94, val_main_v93, val_main_v92, val_main_v91, val_main_v90, val_main_v89, val_main_v24, val_main_v23, val_main_v22, val_main_call4_v0, val_main_call4_v1, val_main_call4_v2, val_main_call4_v3, val_main_call4_v4, val_main_call4_v5, val_main_call4_cst, val_main_call4_cst_0]

theorem y4 (r : Fin 16384) (d : Fin 1024) :
    val_main_v114 (F := Ideal) a0 a1 a2 a4 a6 a7 a8 (ix2 r d)
      = expert (fun k => val_main_v20 (F := Ideal) a0 a1 a2 a4 (ix2 r k)) (fun k f => a6 (ix4 0 4 k f)) (fun k f => a7 (ix4 0 4 k f)) (fun f d => a8 (ix4 0 4 f d)) d := by
  unfold expert
  pointwise [val_main_v114, val_main_v113, val_main_v112, val_main_v111, val_main_v110, val_main_v109, val_main_v108, val_main_v107, val_main_v106, val_main_v105, val_main_v104, val_main_v24, val_main_v23, val_main_v22, val_main_call5_v0, val_main_call5_v1, val_main_call5_v2, val_main_call5_v3, val_main_call5_v4, val_main_call5_v5, val_main_call5_cst, val_main_call5_cst_0]

theorem y5 (r : Fin 16384) (d : Fin 1024) :
    val_main_v129 (F := Ideal) a0 a1 a2 a4 a6 a7 a8 (ix2 r d)
      = expert (fun k => val_main_v20 (F := Ideal) a0 a1 a2 a4 (ix2 r k)) (fun k f => a6 (ix4 0 5 k f)) (fun k f => a7 (ix4 0 5 k f)) (fun f d => a8 (ix4 0 5 f d)) d := by
  unfold expert
  pointwise [val_main_v129, val_main_v128, val_main_v127, val_main_v126, val_main_v125, val_main_v124, val_main_v123, val_main_v122, val_main_v121, val_main_v120, val_main_v119, val_main_v24, val_main_v23, val_main_v22, val_main_call6_v0, val_main_call6_v1, val_main_call6_v2, val_main_call6_v3, val_main_call6_v4, val_main_call6_v5, val_main_call6_cst, val_main_call6_cst_0]

theorem y6 (r : Fin 16384) (d : Fin 1024) :
    val_main_v144 (F := Ideal) a0 a1 a2 a4 a6 a7 a8 (ix2 r d)
      = expert (fun k => val_main_v20 (F := Ideal) a0 a1 a2 a4 (ix2 r k)) (fun k f => a6 (ix4 0 6 k f)) (fun k f => a7 (ix4 0 6 k f)) (fun f d => a8 (ix4 0 6 f d)) d := by
  unfold expert
  pointwise [val_main_v144, val_main_v143, val_main_v142, val_main_v141, val_main_v140, val_main_v139, val_main_v138, val_main_v137, val_main_v136, val_main_v135, val_main_v134, val_main_v24, val_main_v23, val_main_v22, val_main_call7_v0, val_main_call7_v1, val_main_call7_v2, val_main_call7_v3, val_main_call7_v4, val_main_call7_v5, val_main_call7_cst, val_main_call7_cst_0]

theorem y7 (r : Fin 16384) (d : Fin 1024) :
    val_main_v159 (F := Ideal) a0 a1 a2 a4 a6 a7 a8 (ix2 r d)
      = expert (fun k => val_main_v20 (F := Ideal) a0 a1 a2 a4 (ix2 r k)) (fun k f => a6 (ix4 0 7 k f)) (fun k f => a7 (ix4 0 7 k f)) (fun f d => a8 (ix4 0 7 f d)) d := by
  unfold expert
  pointwise [val_main_v159, val_main_v158, val_main_v157, val_main_v156, val_main_v155, val_main_v154, val_main_v153, val_main_v152, val_main_v151, val_main_v150, val_main_v149, val_main_v24, val_main_v23, val_main_v22, val_main_call8_v0, val_main_call8_v1, val_main_call8_v2, val_main_call8_v3, val_main_call8_v4, val_main_call8_v5, val_main_call8_cst, val_main_call8_cst_0]

/-! ## The layer -/

/-- The result's entry: the input row plus its gate times the weighted sum of the experts' outputs. -/
theorem out_sum (r : Fin 16384) (d : Fin 1024) (a3 : FVec Ideal S1x1024 .f32) :
    val_main_v165 (F := Ideal) a0 a1 a2 a3 a4 a5 a6 a7 a8 (ix2 r d)
      = a0 (ix2 r d) + a3 (ix2 0 d) * (val_main_v41 (F := Ideal) a0 a1 a2 a4 a5 (ix2 r 0) * val_main_v54 (F := Ideal) a0 a1 a2 a4 a6 a7 a8 (ix2 r d)
        + val_main_v41 (F := Ideal) a0 a1 a2 a4 a5 (ix2 r 1) * val_main_v69 (F := Ideal) a0 a1 a2 a4 a6 a7 a8 (ix2 r d)
        + val_main_v41 (F := Ideal) a0 a1 a2 a4 a5 (ix2 r 2) * val_main_v84 (F := Ideal) a0 a1 a2 a4 a6 a7 a8 (ix2 r d)
        + val_main_v41 (F := Ideal) a0 a1 a2 a4 a5 (ix2 r 3) * val_main_v99 (F := Ideal) a0 a1 a2 a4 a6 a7 a8 (ix2 r d)
        + val_main_v41 (F := Ideal) a0 a1 a2 a4 a5 (ix2 r 4) * val_main_v114 (F := Ideal) a0 a1 a2 a4 a6 a7 a8 (ix2 r d)
        + val_main_v41 (F := Ideal) a0 a1 a2 a4 a5 (ix2 r 5) * val_main_v129 (F := Ideal) a0 a1 a2 a4 a6 a7 a8 (ix2 r d)
        + val_main_v41 (F := Ideal) a0 a1 a2 a4 a5 (ix2 r 6) * val_main_v144 (F := Ideal) a0 a1 a2 a4 a6 a7 a8 (ix2 r d)
        + val_main_v41 (F := Ideal) a0 a1 a2 a4 a5 (ix2 r 7) * val_main_v159 (F := Ideal) a0 a1 a2 a4 a6 a7 a8 (ix2 r d)) := by
  pointwise [val_main_v165, val_main_v164, val_main_v163, val_main_v162, val_main_v161, val_main_v160, val_main_v148, val_main_v147, val_main_v146, val_main_v145, val_main_v133, val_main_v132, val_main_v131, val_main_v130, val_main_v118, val_main_v117, val_main_v116, val_main_v115, val_main_v103, val_main_v102, val_main_v101, val_main_v100, val_main_v88, val_main_v87, val_main_v86, val_main_v85, val_main_v73, val_main_v72, val_main_v71, val_main_v70, val_main_v58, val_main_v57, val_main_v56, val_main_v55, val_main_v43, val_main_v42, val_main_cst_7]

/-- The result's entry is the layer, when the row's logits are real numbers. -/
theorem out_apply (r : Fin 16384) (d : Fin 1024) (a3 : FVec Ideal S1x1024 .f32) (u : Fin 8 → ℝ)
    (hu : ∀ e, logit (hrow (fun k => a0 (ix2 r k)) (fun k => a4 (ix2 1 k)) (fun k => a1 (ix2 0 k)) (fun k => a2 (ix2 0 k)))
      (fun k e => a5 (ix3 0 k e)) e = (u e : EReal)) :
    val_main_v165 (F := Ideal) a0 a1 a2 a3 a4 a5 a6 a7 a8 (ix2 r d)
      = layer (fun k => a0 (ix2 r k)) (fun k => a4 (ix2 1 k)) (fun k => a1 (ix2 0 k)) (fun k => a2 (ix2 0 k)) (fun k => a3 (ix2 0 k))
          (fun k e => a5 (ix3 0 k e)) (fun e k f => a6 (ix4 0 e k f)) (fun e k f => a7 (ix4 0 e k f)) (fun e f d => a8 (ix4 0 e f d)) d := by
  have hh : (fun k => val_main_v20 (F := Ideal) a0 a1 a2 a4 (ix2 r k))
      = hrow (fun k => a0 (ix2 r k)) (fun k => a4 (ix2 1 k)) (fun k => a1 (ix2 0 k)) (fun k => a2 (ix2 0 k)) :=
    funext fun k => h_apply a0 a1 a2 a4 r k
  have hg := fun e => gate_apply a0 a1 a2 a4 a5 r e _ u hu fun e => by rw [logit_apply, hh]
  rw [out_sum, y0, y1, y2, y3, y4, y5, y6, y7, hh]
  simp only [hg]
  unfold layer
  rw [mix_step _ _ 7 (by decide), mix_step _ _ 6 (by decide), mix_step _ _ 5 (by decide), mix_step _ _ 4 (by decide),
    mix_step _ _ 3 (by decide), mix_step _ _ 2 (by decide), mix_step _ _ 1 (by decide), mix_step _ _ 0 (by decide), mix, zero_add]
  rfl

end Cert.MoeRefIdeal.Ref

end
-- ==== Proof.Moe.Real.lean ====
/-
  On finite arrays every number the routing reads is a real number.
-/
module

public import proofs.«01_k».proof.Proof.Moe.Spec

@[expose] public section

noncomputable section

open Idealize.ShloMosaic

namespace Cert.Spec

theorem bits_1024 : ∃ q : ℝ, 0 < q ∧ Ideal.ofBits FTy.f32 1149239296#32 = (q : EReal) := by
  show ∃ q : ℝ, 0 < q ∧ Ideal.ieee 8 23 1149239296#32 = _
  unfold Ideal.ieee
  dsimp only
  rw [if_neg (by decide), if_neg (by decide), if_neg (by decide)]
  refine ⟨_, ?_, rfl⟩
  positivity

theorem bits_eps : ∃ q : ℝ, 0 < q ∧ Ideal.ofBits FTy.f32 897988541#32 = (q : EReal) := by
  show ∃ q : ℝ, 0 < q ∧ Ideal.ieee 8 23 897988541#32 = _
  unfold Ideal.ieee
  dsimp only
  rw [if_neg (by decide), if_neg (by decide), if_neg (by decide)]
  refine ⟨_, ?_, rfl⟩
  positivity

theorem coe_sum {n : Nat} (f : Fin n → ℝ) : (((∑ k, f k : ℝ)) : EReal) = ∑ k, (f k : EReal) := by
  induction n with
  | zero => simp
  | succ n ih => rw [Fin.sum_univ_castSucc, Fin.sum_univ_castSucc, EReal.coe_add, ih]

/-- The modulated normalised row of finite arrays is real. -/
theorem hrow_real (x nw sc sh : Fin 1024 → EReal) (hx : ∀ k, ∃ q : ℝ, x k = q) (hn : ∀ k, ∃ q : ℝ, nw k = q)
    (hsc : ∀ k, ∃ q : ℝ, sc k = q) (hsh : ∀ k, ∃ q : ℝ, sh k = q) (d : Fin 1024) : ∃ q : ℝ, hrow x nw sc sh d = q := by
  choose X hX using hx
  choose N hN using hn
  choose C hC using hsc
  choose S hS using hsh
  obtain ⟨e, he, hE⟩ := bits_eps
  obtain ⟨n, hn, hM⟩ := bits_1024
  unfold hrow
  simp only [hX, hN, hC, hS, hE, hM, ← EReal.coe_mul, ← coe_sum]
  rw [Ideal.div_coe hn.ne', ← EReal.coe_mul, ← EReal.coe_add]
  have hp : 0 < (∑ k, X k * X k) * (1 / n) + e := by
    have : 0 ≤ ∑ k, X k * X k := Finset.sum_nonneg fun k _ => mul_self_nonneg _
    positivity
  have hr : Ideal.rsqrt (((∑ k, X k * X k) * (1 / n) + e : ℝ) : EReal)
      = (((Real.sqrt ((∑ k, X k * X k) * (1 / n) + e))⁻¹ : ℝ) : EReal) := by
    show (if _ < (0 : ℝ) then _ else _) = _
    rw [if_neg (not_lt.mpr hp.le), if_neg hp.ne']
  rw [hr, show (1 : EReal) = ((1 : ℝ) : EReal) from rfl, ← EReal.coe_add, ← EReal.coe_mul, ← EReal.coe_mul,
    ← EReal.coe_mul, ← EReal.coe_add]
  exact ⟨_, rfl⟩

/-- So is a logit. -/
theorem logit_real (h : Fin 1024 → EReal) (router : Fin 1024 → Fin 8 → EReal) (hh : ∀ k, ∃ q : ℝ, h k = q)
    (hr : ∀ k e, ∃ q : ℝ, router k e = q) (e : Fin 8) : ∃ q : ℝ, logit h router e = q := by
  choose H hH using hh
  choose R hR using hr
  unfold logit
  simp only [hH, hR, ← EReal.coe_mul, ← coe_sum]
  exact ⟨_, rfl⟩

end Cert.Spec

end
-- ==== Proof.Moe.Pre.lean ====
/-
  The precondition read: each entry of the five arrays it names is a real number.
-/
module

public import proofs.«01_k».proof.Proof.Gen.Pre_finite_routing
public import Idealize.ShloMosaic.Lib.Pointwise

@[expose] public section

set_option maxRecDepth 16384

noncomputable section

open Idealize.ShloMosaic Idealize.SL.Sem

namespace Cert.Pre_finite_routing

theorem fold_andi {ι : Type} [Fintype ι] (f : ι → BitVec 1) (h : Finset.univ.fold IntOp.andi 1#1 f = 1#1) (i : ι) : f i = 1#1 := by
  classical
  rw [← Finset.insert_erase (Finset.mem_univ i), Finset.fold_insert (Finset.notMem_erase i _)] at h
  revert h
  generalize f i = a
  generalize Finset.fold IntOp.andi 1#1 f _ = b
  revert a b
  decide

theorem bits_inf : Ideal.ofBits FTy.f32 2139095040#32 = (⊤ : EReal) := by
  show Ideal.ieee 8 23 2139095040#32 = ⊤
  unfold Ideal.ieee
  dsimp only
  rw [if_pos (by decide), if_pos (by decide), if_neg (by decide)]

theorem real_of_abs {x : EReal} (h : BitVec.ofBool (decide ((FloatOps.absf (F := Ideal) (φ := .f32) x : EReal) < Ideal.ofBits FTy.f32 2139095040#32)) = 1#1) :
    ∃ q : ℝ, x = q := by
  rw [bits_inf] at h
  have h' : (FloatOps.absf (F := Ideal) (φ := .f32) x : EReal) < ⊤ := by
    by_contra hc
    rw [decide_eq_false hc] at h
    exact absurd h (by decide)
  have h2 : max x (-x) < ⊤ := h'
  induction x using EReal.rec with
  | bot => simp at h2
  | top => simp at h2
  | coe r => exact ⟨r, rfl⟩

variable {a0 : FVec Ideal S16384x1024 .f32} {a1 a2 a3 : FVec Ideal S1x1024 .f32} {a4 : FVec Ideal S2x1024 .f32}
  {a5 : FVec Ideal S1x1024x8 .f32} {a6 a7 : FVec Ideal S1x8x1024x1408 .f32} {a8 : FVec Ideal S1x8x1408x1024 .f32}

theorem real0 (h : fn (F := Ideal) a0 a1 a2 a3 a4 a5 a6 a7 a8 = fun _ => 1#1) (r : Fin 16384) (d : Fin 1024) : ∃ q : ℝ, a0 (ix2 r d) = (q : EReal) := by
  have h := congrFun h (ix1 0)
  pointwise [fn, fn_part1] at h
  exact real_of_abs (fold_andi _ h (r, d))
theorem real1 (h : fn (F := Ideal) a0 a1 a2 a3 a4 a5 a6 a7 a8 = fun _ => 1#1) (d : Fin 1024) : ∃ q : ℝ, a1 (ix2 0 d) = (q : EReal) := by
  have h := congrFun h (ix1 1)
  pointwise [fn, fn_part1] at h
  exact real_of_abs (fold_andi _ h (0, d))
theorem real2 (h : fn (F := Ideal) a0 a1 a2 a3 a4 a5 a6 a7 a8 = fun _ => 1#1) (d : Fin 1024) : ∃ q : ℝ, a2 (ix2 0 d) = (q : EReal) := by
  have h := congrFun h (ix1 2)
  pointwise [fn, fn_part1] at h
  exact real_of_abs (fold_andi _ h (0, d))
theorem real4 (h : fn (F := Ideal) a0 a1 a2 a3 a4 a5 a6 a7 a8 = fun _ => 1#1) (l : Fin 2) (d : Fin 1024) : ∃ q : ℝ, a4 (ix2 l d) = (q : EReal) := by
  have h := congrFun h (ix1 3)
  pointwise [fn, fn_part1] at h
  exact real_of_abs (fold_andi _ h (l, d))
theorem real5 (h : fn (F := Ideal) a0 a1 a2 a3 a4 a5 a6 a7 a8 = fun _ => 1#1) (k : Fin 1024) (e : Fin 8) : ∃ q : ℝ, a5 (ix3 0 k e) = (q : EReal) := by
  have h := congrFun h (ix1 4)
  pointwise [fn, fn_part1] at h
  exact real_of_abs (fold_andi _ h (0, k, e))

end Cert.Pre_finite_routing

end
-- ==== Proof.Moe.Equal.lean ====
/-
  The mixture-of-experts kernel and its reference leave the same array: both are the layer of Spec.lean at every entry.
-/
module

public import proofs.«01_k».proof.Defs
public import proofs.«01_k».proof.Proof.Moe.State
public import proofs.«01_k».proof.Proof.Moe.Ref
public import proofs.«01_k».proof.Proof.Moe.Real
public import proofs.«01_k».proof.Proof.Moe.Pre
public import proofs.«01_k».proof.Proof.Gen.MoeRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.MoeEqual

open Cert.Spec

/-- The reference ends with its arguments unchanged and no semaphore counted (it has none). -/
theorem ref_frame (m : (ℓ : Loc Cert.MoeRefIdeal.nD Cert.MoeRefIdeal.τ Cert.MoeRefIdeal.sig) → Buf (Elt Ideal) ℓ)
    (ρ : Dev Cert.MoeRefIdeal.nD → PrngReg) :
    θ_run (Cert.MoeRefIdeal.defs (F := Ideal)) (onTc (τ := Cert.MoeRefIdeal.τ) (Cert.MoeRefIdeal.main (F := Ideal))) ⟨m, fun _ => 0, ρ⟩
      fun r => (∀ c : Dev Cert.MoeRefIdeal.nD,
        r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
        ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
        ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
        ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
        ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
        ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
        ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
        ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
        ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8))
        ∧ r.2.sem = fun _ => 0 :=
  (θ_run _ _ _).mono (fun r h => ⟨fun c => (h c).2, sem_eq_zero_of_no_sems (by decide) r.2⟩) (Cert.MoeRefIdeal.Value.run m ρ)

/-- The kernel's array at an entry is the reference's at that entry, on the same arguments. -/
theorem entry (m : (ℓ : Loc Cert.MoeIdeal.nD Cert.MoeIdeal.τ Cert.MoeIdeal.sig) → Buf (Elt Ideal) ℓ) (c : Dev Cert.MoeIdeal.nD)
    (h : Cert.Pre_finite_routing.fn (F := Ideal) (m ((c.tc : Thread Cert.MoeIdeal.nD Cert.MoeIdeal.τ).loc Cert.MoeIdeal.main_arg0))
      (m ((c.tc : Thread Cert.MoeIdeal.nD Cert.MoeIdeal.τ).loc Cert.MoeIdeal.main_arg1)) (m ((c.tc : Thread Cert.MoeIdeal.nD Cert.MoeIdeal.τ).loc Cert.MoeIdeal.main_arg2))
      (m ((c.tc : Thread Cert.MoeIdeal.nD Cert.MoeIdeal.τ).loc Cert.MoeIdeal.main_arg3)) (m ((c.tc : Thread Cert.MoeIdeal.nD Cert.MoeIdeal.τ).loc Cert.MoeIdeal.main_arg4))
      (m ((c.tc : Thread Cert.MoeIdeal.nD Cert.MoeIdeal.τ).loc Cert.MoeIdeal.main_arg5)) (m ((c.tc : Thread Cert.MoeIdeal.nD Cert.MoeIdeal.τ).loc Cert.MoeIdeal.main_arg6))
      (m ((c.tc : Thread Cert.MoeIdeal.nD Cert.MoeIdeal.τ).loc Cert.MoeIdeal.main_arg7)) (m ((c.tc : Thread Cert.MoeIdeal.nD Cert.MoeIdeal.τ).loc Cert.MoeIdeal.main_arg8))
      = fun _ => 1#1) (R : Fin 16384) (d : Fin 1024) :
    Cert.MoeIdeal.Value.G9 m c (ix2 R d)
      = Cert.MoeRefIdeal.Read.val_main_v165 (F := Ideal) (m ((c.tc : Thread Cert.MoeIdeal.nD Cert.MoeIdeal.τ).loc Cert.MoeIdeal.main_arg0))
      (m ((c.tc : Thread Cert.MoeIdeal.nD Cert.MoeIdeal.τ).loc Cert.MoeIdeal.main_arg1)) (m ((c.tc : Thread Cert.MoeIdeal.nD Cert.MoeIdeal.τ).loc Cert.MoeIdeal.main_arg2))
      (m ((c.tc : Thread Cert.MoeIdeal.nD Cert.MoeIdeal.τ).loc Cert.MoeIdeal.main_arg3)) (m ((c.tc : Thread Cert.MoeIdeal.nD Cert.MoeIdeal.τ).loc Cert.MoeIdeal.main_arg4))
      (m ((c.tc : Thread Cert.MoeIdeal.nD Cert.MoeIdeal.τ).loc Cert.MoeIdeal.main_arg5)) (m ((c.tc : Thread Cert.MoeIdeal.nD Cert.MoeIdeal.τ).loc Cert.MoeIdeal.main_arg6))
      (m ((c.tc : Thread Cert.MoeIdeal.nD Cert.MoeIdeal.τ).loc Cert.MoeIdeal.main_arg7)) (m ((c.tc : Thread Cert.MoeIdeal.nD Cert.MoeIdeal.τ).loc Cert.MoeIdeal.main_arg8))
        (ix2 R d) := by
  have hreal : ∀ R e, ∃ q : ℝ, Cert.MoeIdeal.State.U m c R e = q := fun R e =>
    logit_real _ _ (hrow_real _ _ _ _ (fun k => Cert.Pre_finite_routing.real0 h R k) (fun k => Cert.Pre_finite_routing.real4 h 1 k)
      (fun k => Cert.Pre_finite_routing.real1 h k) (fun k => Cert.Pre_finite_routing.real2 h k)) (fun k e => Cert.Pre_finite_routing.real5 h k e) e
  choose u hu using hreal
  rw [Cert.MoeIdeal.State.G9_apply (fun R e => by rw [hu]; exact EReal.bot_lt_coe _)]
  exact (Cert.MoeRefIdeal.Ref.out_apply _ _ _ _ _ _ _ _ R d _ (u R) (hu R)).symm

theorem algebraic : @Cert.algebraic_MoeIdeal_MoeRefIdeal_pre_finite_routing Cert.MoeIdeal.Gen.facts Cert.MoeRefIdeal.Gen.facts Cert.Pre_finite_routing.Gen.facts := by
  intro m g m' g' hpre hargs
  refine ⟨Cert.MoeIdeal.Value.G9 m, Cert.MoeIdeal.Value.run m g, ?_⟩
  refine (θ_run _ _ _).mono (fun r h c => ⟨?_, (h c).2⟩) (Cert.MoeRefIdeal.Value.run m' g')
  refine (h c).1.trans ?_
  refine (Cert.MoeRefIdeal.Read.val_main_v165_eq (Idealize.ShloMosaic.StableHlo.launchContents m' c)).trans ?_
  obtain ⟨h0, h1, h2, h3, h4, h5, h6, h7, h8⟩ := hargs c
  funext i
  have hi : i = ix2 (i 0) (i 1) := by
    funext a
    match a with
    | ⟨0, _⟩ => rfl
    | ⟨1, _⟩ => rfl
  rw [hi]
  refine Eq.trans ?_ (entry m c (hpre c) (i 0) (i 1)).symm
  exact congrFun (by rw [← h0, ← h1, ← h2, ← h3, ← h4, ← h5, ← h6, ← h7, ← h8]) _

end Cert.MoeEqual

end
-- ==== Proof.Ffn.Step.lean ====
/-
  What one grid point of the feed-forward kernel leaves in its two carried scratch arrays and in the output block:

    * the point of the first half of the hidden units stores the normalised rows and that half's product;
    * the point of the second half adds its own product and writes `x + g * sum` to the output block.
-/
module

public import proofs.«01_k».proof.Proof.Gen.FfnIdeal.Value
public import Idealize.ShloMosaic.Lib.Tactic

@[expose] public section

set_option maxRecDepth 16384

noncomputable section

open Idealize.ShloMosaic Idealize.ShloMosaic.TcCoe Idealize.SL.Sem

namespace Cert.FfnIdeal.Step

open Cert.FfnIdeal Cert.FfnIdeal.Gen Cert.FfnIdeal.Value

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The normalised rows stored at the first point. -/
theorem first_h (c : Dev nD) (t : Fin cfg0.N) (h0 : t.val % 2 = 0) (acc) :
    (stAt0 m c t.val t.isLt acc).2.1 = (k0_pay2 (iblk m c 0 t) (iblk m c 1 t) (iblk m c 2 t) (iblk m c 3 t)) := by
  rw [stAt0_A m c t acc h0 (by omega)]
  dsimp only
  unfold sout0_A_0
  rw [View.read_writes_eq_canon _ _ _ (fun y => scover0_A_0 (y := y) ..)]
  unfold kernelRun0_A
  dsimp only
  sl_unfold_words
  simp only [View.canon_cons_unit_zero (S := S512x1024) hz2, View.canon_unit_zero (S := S512x1024) hz2, View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
    (Memref.isWhole_whole cc0_scratch0).read_unread, (Memref.isWhole_whole cc0_scratch1).read_unread, View.readCov_unit_zero (S := S512x1024) _ hz2,
    View.ld_unit_zero (S := S512x1024) hz2, View.ld_unit_zero (S := S1x1024) hz2, View.ld_unit_zero (S := S1x1x1024) hz3,
    View.ld_unit_zero (S := S1x1024x1408) hz3, View.ld_unit_zero (S := S1x1408x1024) hz3]

/-- The sum after the first point: zero plus the first half. -/
theorem first_acc (c : Dev nD) (t : Fin cfg0.N) (h0 : t.val % 2 = 0) (acc) :
    (stAt0 m c t.val t.isLt acc).2.2 = k0_pay4 (k0_pay2 (iblk m c 0 t) (iblk m c 1 t) (iblk m c 2 t) (iblk m c 3 t)) (iblk m c 5 t) (iblk m c 6 t) k0_pay3 (iblk m c 7 t) := by
  rw [stAt0_A m c t acc h0 (by omega)]
  dsimp only
  unfold sout0_A_1
  rw [View.read_writes_eq_canon _ _ _ (fun y => scover0_A_1 (y := y) ..)]
  unfold kernelRun0_A
  dsimp only
  sl_unfold_words
  simp only [View.canon_cons_unit_zero (S := S512x1024) hz2, View.canon_unit_zero (S := S512x1024) hz2, View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
    (Memref.isWhole_whole cc0_scratch0).read_unread, (Memref.isWhole_whole cc0_scratch1).read_unread, View.readCov_unit_zero (S := S512x1024) _ hz2,
    View.ld_unit_zero (S := S512x1024) hz2, View.ld_unit_zero (S := S1x1024) hz2, View.ld_unit_zero (S := S1x1x1024) hz3,
    View.ld_unit_zero (S := S1x1024x1408) hz3, View.ld_unit_zero (S := S1x1408x1024) hz3]

/-- The output block at the second point. -/
theorem last_out (c : Dev nD) (t : Fin cfg0.N) (h1 : t.val % 2 = 1) (acc) :
    (stAt0 m c t.val t.isLt acc).1 = k0_pay1 (iblk m c 0 t) (iblk m c 4 t) (k0_pay4 acc.2.1 (iblk m c 5 t) (iblk m c 6 t) acc.2.2 (iblk m c 7 t)) := by
  rw [stAt0_B m c t acc (by omega) h1]
  dsimp only
  unfold out0_B_8
  rw [View.read_writes_eq_canon _ _ _ (fun y => cover0_B_8 (y := y) ..)]
  unfold kernelRun0_B
  dsimp only
  sl_unfold_words
  simp only [View.canon_cons_unit_zero (S := S512x1024) hz2, View.canon_unit_zero (S := S512x1024) hz2, View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
    (Memref.isWhole_whole cc0_scratch0).read_unread, (Memref.isWhole_whole cc0_scratch1).read_unread, View.readCov_unit_zero (S := S512x1024) _ hz2,
    View.ld_unit_zero (S := S512x1024) hz2, View.ld_unit_zero (S := S1x1024) hz2, View.ld_unit_zero (S := S1x1x1024) hz3,
    View.ld_unit_zero (S := S1x1024x1408) hz3, View.ld_unit_zero (S := S1x1408x1024) hz3]

end Cert.FfnIdeal.Step

end
-- ==== Proof.Ffn.Pay.lean ====
/-
  The values the feed-forward body computes, read at one position, in plain arithmetic; and one row of the layer.
-/
module

public import proofs.«01_k».proof.Proof.Ffn.Step
public import proofs.«01_k».proof.Proof.Moe.Spec
public import Idealize.ShloMosaic.Lib.Pointwise

@[expose] public section

set_option maxRecDepth 16384

noncomputable section

open Idealize.ShloMosaic Idealize.ShloMosaic.TcCoe Idealize.SL.Sem

namespace Cert.FfnIdeal.Pay

open Cert.FfnIdeal Cert.FfnIdeal.Gen Cert.Spec

/-- Column `f` of half `j` of the hidden units. -/
def col (j : Fin 2) (f : Fin 1408) : Fin 2816 := ⟨1408 * j.val + f.val, by omega⟩

/-- The hidden unit `f` of a row: the gated product of two matrix products, with the logistic as gate. -/
def unit (h : Fin 1024 → EReal) (w1 w3 : Fin 1024 → Fin 2816 → EReal) (f : Fin 2816) : EReal :=
  (∑ k, h k * w1 k f) * Ideal.div 1 (1 + Ideal.exp (-(∑ k, h k * w1 k f))) * ∑ k, h k * w3 k f

/-- One row of the layer: the row plus its gate times the hidden units' product with the third matrix. -/
def dense (x nw sc sh g : Fin 1024 → EReal) (w1 w3 : Fin 1024 → Fin 2816 → EReal) (w2 : Fin 2816 → Fin 1024 → EReal)
    (d : Fin 1024) : EReal :=
  x d + g d * ∑ f, unit (hrow x nw sc sh) w1 w3 f * w2 f d

/-- Half `j` of the hidden units, as the product it adds. -/
def half (h : Fin 1024 → EReal) (w1 w3 : Fin 1024 → Fin 2816 → EReal) (w2 : Fin 2816 → Fin 1024 → EReal) (j : Fin 2) (d : Fin 1024) : EReal :=
  expert h (fun k f => w1 k (col j f)) (fun k f => w3 k (col j f)) (fun f d => w2 (col j f) d) d

/-- The two halves make up the whole sum. -/
theorem halves (h : Fin 1024 → EReal) (w1 w3 : Fin 1024 → Fin 2816 → EReal) (w2 : Fin 2816 → Fin 1024 → EReal) (d : Fin 1024) :
    0 + half h w1 w3 w2 0 d + half h w1 w3 w2 1 d = ∑ f, unit h w1 w3 f * w2 f d := by
  rw [zero_add]
  refine Eq.trans ?_ (Fin.sum_univ_add (a := 1408) (b := 1408) fun f : Fin (1408 + 1408) => unit h w1 w3 f * w2 f d).symm
  congr 1

/-- The modulated normalised rows. -/
theorem h_apply (x0 : FVec Ideal S512x1024 .f32) (x1 : FVec Ideal S1x1x1024 .f32) (x2 x3 : FVec Ideal S1x1024 .f32) (r : Fin 512) (d : Fin 1024) :
    k0_pay2 (F := Ideal) x0 x1 x2 x3 (ix2 r d)
      = hrow (fun k => x0 (ix2 r k)) (fun k => x1 (ix3 0 0 k)) (fun k => x2 (ix2 0 k)) (fun k => x3 (ix2 0 k)) d := by
  unfold hrow
  pointwise [k0_pay2]

/-- The sum after one half. -/
theorem sum_apply (h : FVec Ideal S512x1024 .bf16) (x5 x6 : FVec Ideal S1x1024x1408 .bf16) (a : FVec Ideal S512x1024 .f32) (x7 : FVec Ideal S1x1408x1024 .bf16)
    (r : Fin 512) (d : Fin 1024) :
    k0_pay4 (F := Ideal) h x5 x6 a x7 (ix2 r d)
      = a (ix2 r d) + expert (fun k => h (ix2 r k)) (fun k f => x5 (ix3 0 k f)) (fun k f => x6 (ix3 0 k f)) (fun f d => x7 (ix3 0 f d)) d := by
  unfold expert
  simp only [← zero_sub (_ : EReal)]
  pointwise [k0_pay4]

/-- The block of zeros the sum starts from. -/
theorem zero_apply (r : Fin 512) (d : Fin 1024) : (k0_pay3 (F := Ideal)) (ix2 r d) = 0 := by
  pointwise [k0_pay3]

/-- The output block. -/
theorem out_apply (x : FVec Ideal S512x1024 .f32) (g : FVec Ideal S1x1024 .f32) (a : FVec Ideal S512x1024 .f32) (r : Fin 512) (d : Fin 1024) :
    k0_pay1 (F := Ideal) x g a (ix2 r d) = x (ix2 r d) + g (ix2 0 d) * a (ix2 r d) := by
  pointwise [k0_pay1]

end Cert.FfnIdeal.Pay

end
-- ==== Proof.Ffn.Blocks.lean ====
/-
  The blocks the feed-forward kernel reads at a grid point `t = 2 * b + j`, as entries of the argument arrays: row block
  `b` of `x`, the whole of each modulation row, row 0 of the norm weights, and half `j` of the hidden units' matrices.
-/
module

public import proofs.«01_k».proof.Proof.Ffn.Pay
public import Idealize.ShloMosaic.Lib.KernelVsHost

@[expose] public section

set_option maxRecDepth 16384

noncomputable section

open Idealize.ShloMosaic Idealize.ShloMosaic.TcCoe Idealize.SL.Sem

namespace Cert.FfnIdeal.Blocks

open Cert.FfnIdeal Cert.FfnIdeal.Gen Cert.FfnIdeal.Pay

variable (m : (ℓ : Loc nD τ sig) → Buf (Elt Ideal) ℓ)

theorem V_v0 (c : Dev nD) : (V m c main_v0 : S1x1024x2816.Idx → EReal) = m ((c : Thread nD τ).loc main_arg5) := by
  show StableHlo.after _ _ (Proc.devRef .tc main_v0) = _
  unfold hostOps0
  after_results
  try rfl

theorem V_v1 (c : Dev nD) : (V m c main_v1 : S1x1024x2816.Idx → EReal) = m ((c : Thread nD τ).loc main_arg6) := by
  show StableHlo.after _ _ (Proc.devRef .tc main_v1) = _
  unfold hostOps0
  after_results
  try rfl

theorem V_v2 (c : Dev nD) : (V m c main_v2 : S1x2816x1024.Idx → EReal) = m ((c : Thread nD τ).loc main_arg7) := by
  show StableHlo.after _ _ (Proc.devRef .tc main_v2) = _
  unfold hostOps0
  after_results
  try rfl

theorem V_v3 (c : Dev nD) : V m c main_v3 = broadcastInDim S2x1x1024 ![0, 2] bcast_S2x1024_S2x1x1024_0_2 (m ((c : Thread nD τ).loc main_arg4)) := by
  show StableHlo.after _ _ (Proc.devRef .tc main_v3) = _
  unfold hostOps0
  after_results
  try rfl

/-- The row of `x` that row `r` of the block at point `t` is. -/
def rowAt (t : Fin cfg0.N) (r : Fin 512) : Fin 16384 :=
  ⟨512 * (t.val / 2) + r.val, by have : t.val < 64 := Nat.lt_of_lt_of_eq t.isLt N_0; omega⟩

/-- The half of the hidden units at point `t`. -/
def halfAt (t : Fin cfg0.N) : Fin 2 := ⟨t.val % 2, by omega⟩

variable (c : Dev nD) (t : Fin cfg0.N)

theorem idx0 : ∀ t : Fin cfg0.N, win0_0.index t 0 = t.val / 2 ∧ win0_0.index t 1 = 0 := by
  decide +kernel

theorem row_at (r : Fin 512) (d : Fin 1024) : (iblk m c 0 t : FVec Ideal S512x1024 .f32) (ix2 r d) = m ((c : Thread nD τ).loc main_arg0) (ix2 (rowAt t r) d) := by
  have hb : ((cfg0.win 0).blk t).view.read (Elt Ideal) (V m c (Pipeline.arrRef spec0 0)) (ix2 r d) = V m c main_arg0 (ix2 (rowAt t r) d) := by
    rw [View.read_apply]
    show V m c main_arg0 _ = V m c main_arg0 _
    congr 1
    funext a
    apply Fin.ext
    match a with
    | ⟨0, _⟩ => show win0_0.index t 0 * 512 + 1 * (r).val = (rowAt t r).val; rw [(idx0 t).1]; show _ = 512 * (t.val / 2) + r.val; omega
    | ⟨1, _⟩ => show win0_0.index t 1 * 1024 + 1 * (d).val = (d).val; rw [(idx0 t).2]; omega
  refine hb.trans ?_
  exact congrFun (V_main_arg0 m c) _

theorem idx1 : ∀ t : Fin cfg0.N, win0_1.index t 0 = 0 ∧ win0_1.index t 1 = 0 ∧ win0_1.index t 2 = 0 := by
  decide +kernel

theorem norm_at (d : Fin 1024) : (iblk m c 1 t : FVec Ideal S1x1x1024 .f32) (ix3 0 0 d) = m ((c : Thread nD τ).loc main_arg4) (ix2 0 d) := by
  have hb : ((cfg0.win 1).blk t).view.read (Elt Ideal) (V m c (Pipeline.arrRef spec0 1)) (ix3 0 0 d) = V m c main_v3 (ix3 0 0 d) := by
    rw [View.read_apply]
    show V m c main_v3 _ = V m c main_v3 _
    congr 1
    funext a
    apply Fin.ext
    match a with
    | ⟨0, _⟩ => show win0_1.index t 0 * 1 + 1 * 0 = 0; rw [(idx1 t).1]
    | ⟨1, _⟩ => show win0_1.index t 1 * 1 + 1 * 0 = 0; rw [(idx1 t).2.1]
    | ⟨2, _⟩ => show win0_1.index t 2 * 1024 + 1 * (d).val = (d).val; rw [(idx1 t).2.2]; omega
  refine hb.trans ?_
  rw [V_v3]
  pointwise []

theorem idx2 : ∀ t : Fin cfg0.N, win0_2.index t 0 = 0 ∧ win0_2.index t 1 = 0 := by
  decide +kernel

theorem scale_at (d : Fin 1024) : (iblk m c 2 t : FVec Ideal S1x1024 .f32) (ix2 0 d) = m ((c : Thread nD τ).loc main_arg1) (ix2 0 d) := by
  have hb : ((cfg0.win 2).blk t).view.read (Elt Ideal) (V m c (Pipeline.arrRef spec0 2)) (ix2 0 d) = V m c main_arg1 (ix2 0 d) := by
    rw [View.read_apply]
    show V m c main_arg1 _ = V m c main_arg1 _
    congr 1
    funext a
    apply Fin.ext
    match a with
    | ⟨0, _⟩ => show win0_2.index t 0 * 1 + 1 * 0 = 0; rw [(idx2 t).1]
    | ⟨1, _⟩ => show win0_2.index t 1 * 1024 + 1 * (d).val = (d).val; rw [(idx2 t).2]; omega
  refine hb.trans ?_
  exact congrFun (V_main_arg1 m c) _

theorem idx3 : ∀ t : Fin cfg0.N, win0_3.index t 0 = 0 ∧ win0_3.index t 1 = 0 := by
  decide +kernel

theorem shift_at (d : Fin 1024) : (iblk m c 3 t : FVec Ideal S1x1024 .f32) (ix2 0 d) = m ((c : Thread nD τ).loc main_arg2) (ix2 0 d) := by
  have hb : ((cfg0.win 3).blk t).view.read (Elt Ideal) (V m c (Pipeline.arrRef spec0 3)) (ix2 0 d) = V m c main_arg2 (ix2 0 d) := by
    rw [View.read_apply]
    show V m c main_arg2 _ = V m c main_arg2 _
    congr 1
    funext a
    apply Fin.ext
    match a with
    | ⟨0, _⟩ => show win0_3.index t 0 * 1 + 1 * 0 = 0; rw [(idx3 t).1]
    | ⟨1, _⟩ => show win0_3.index t 1 * 1024 + 1 * (d).val = (d).val; rw [(idx3 t).2]; omega
  refine hb.trans ?_
  exact congrFun (V_main_arg2 m c) _

theorem idx4 : ∀ t : Fin cfg0.N, win0_4.index t 0 = 0 ∧ win0_4.index t 1 = 0 := by
  decide +kernel

theorem gate_at (d : Fin 1024) : (iblk m c 4 t : FVec Ideal S1x1024 .f32) (ix2 0 d) = m ((c : Thread nD τ).loc main_arg3) (ix2 0 d) := by
  have hb : ((cfg0.win 4).blk t).view.read (Elt Ideal) (V m c (Pipeline.arrRef spec0 4)) (ix2 0 d) = V m c main_arg3 (ix2 0 d) := by
    rw [View.read_apply]
    show V m c main_arg3 _ = V m c main_arg3 _
    congr 1
    funext a
    apply Fin.ext
    match a with
    | ⟨0, _⟩ => show win0_4.index t 0 * 1 + 1 * 0 = 0; rw [(idx4 t).1]
    | ⟨1, _⟩ => show win0_4.index t 1 * 1024 + 1 * (d).val = (d).val; rw [(idx4 t).2]; omega
  refine hb.trans ?_
  exact congrFun (V_main_arg3 m c) _

theorem idx5 : ∀ t : Fin cfg0.N, win0_5.index t 0 = 0 ∧ win0_5.index t 1 = 0 ∧ win0_5.index t 2 = t.val % 2 := by
  decide +kernel

theorem w1_at (k : Fin 1024) (f : Fin 1408) : (iblk m c 5 t : FVec Ideal S1x1024x1408 .bf16) (ix3 0 k f) = m ((c : Thread nD τ).loc main_arg5) (ix3 0 k (col (halfAt t) f)) := by
  have hb : ((cfg0.win 5).blk t).view.read (Elt Ideal) (V m c (Pipeline.arrRef spec0 5)) (ix3 0 k f) = V m c main_v0 (ix3 0 k (col (halfAt t) f)) := by
    rw [View.read_apply]
    show V m c main_v0 _ = V m c main_v0 _
    congr 1
    funext a
    apply Fin.ext
    match a with
    | ⟨0, _⟩ => show win0_5.index t 0 * 1 + 1 * 0 = 0; rw [(idx5 t).1]
    | ⟨1, _⟩ => show win0_5.index t 1 * 1024 + 1 * (k).val = (k).val; rw [(idx5 t).2.1]; omega
    | ⟨2, _⟩ => show win0_5.index t 2 * 1408 + 1 * (f).val = (col (halfAt t) f).val; rw [(idx5 t).2.2]; show _ = 1408 * (t.val % 2) + f.val; omega
  refine hb.trans ?_
  exact congrFun (V_v0 m c) _

theorem idx6 : ∀ t : Fin cfg0.N, win0_6.index t 0 = 0 ∧ win0_6.index t 1 = 0 ∧ win0_6.index t 2 = t.val % 2 := by
  decide +kernel

theorem w3_at (k : Fin 1024) (f : Fin 1408) : (iblk m c 6 t : FVec Ideal S1x1024x1408 .bf16) (ix3 0 k f) = m ((c : Thread nD τ).loc main_arg6) (ix3 0 k (col (halfAt t) f)) := by
  have hb : ((cfg0.win 6).blk t).view.read (Elt Ideal) (V m c (Pipeline.arrRef spec0 6)) (ix3 0 k f) = V m c main_v1 (ix3 0 k (col (halfAt t) f)) := by
    rw [View.read_apply]
    show V m c main_v1 _ = V m c main_v1 _
    congr 1
    funext a
    apply Fin.ext
    match a with
    | ⟨0, _⟩ => show win0_6.index t 0 * 1 + 1 * 0 = 0; rw [(idx6 t).1]
    | ⟨1, _⟩ => show win0_6.index t 1 * 1024 + 1 * (k).val = (k).val; rw [(idx6 t).2.1]; omega
    | ⟨2, _⟩ => show win0_6.index t 2 * 1408 + 1 * (f).val = (col (halfAt t) f).val; rw [(idx6 t).2.2]; show _ = 1408 * (t.val % 2) + f.val; omega
  refine hb.trans ?_
  exact congrFun (V_v1 m c) _

theorem idx7 : ∀ t : Fin cfg0.N, win0_7.index t 0 = 0 ∧ win0_7.index t 1 = t.val % 2 ∧ win0_7.index t 2 = 0 := by
  decide +kernel

theorem w2_at (f : Fin 1408) (d : Fin 1024) : (iblk m c 7 t : FVec Ideal S1x1408x1024 .bf16) (ix3 0 f d) = m ((c : Thread nD τ).loc main_arg7) (ix3 0 (col (halfAt t) f) d) := by
  have hb : ((cfg0.win 7).blk t).view.read (Elt Ideal) (V m c (Pipeline.arrRef spec0 7)) (ix3 0 f d) = V m c main_v2 (ix3 0 (col (halfAt t) f) d) := by
    rw [View.read_apply]
    show V m c main_v2 _ = V m c main_v2 _
    congr 1
    funext a
    apply Fin.ext
    match a with
    | ⟨0, _⟩ => show win0_7.index t 0 * 1 + 1 * 0 = 0; rw [(idx7 t).1]
    | ⟨1, _⟩ => show win0_7.index t 1 * 1408 + 1 * (f).val = (col (halfAt t) f).val; rw [(idx7 t).2.1]; show _ = 1408 * (t.val % 2) + f.val; omega
    | ⟨2, _⟩ => show win0_7.index t 2 * 1024 + 1 * (d).val = (d).val; rw [(idx7 t).2.2]; omega
  refine hb.trans ?_
  exact congrFun (V_v2 m c) _

end Cert.FfnIdeal.Blocks

end
-- ==== Proof.Ffn.State.lean ====
/-
  What the feed-forward kernel holds after each grid point, and the array it leaves: every row block's first point leaves
  its normalised rows and the first half's product, and its second point writes the layer's rows.
-/
module

public import proofs.«01_k».proof.Proof.Ffn.Blocks

@[expose] public section

set_option maxRecDepth 16384

noncomputable section

open Idealize.ShloMosaic Idealize.ShloMosaic.TcCoe Idealize.SL.Sem

namespace Cert.FfnIdeal.State

open Cert.FfnIdeal Cert.FfnIdeal.Gen Cert.FfnIdeal.Value Cert.FfnIdeal.Step Cert.FfnIdeal.Pay Cert.FfnIdeal.Blocks Cert.Spec

variable (m : (ℓ : Loc nD τ sig) → Buf (Elt Ideal) ℓ) (c : Dev nD)

/-! ## The argument arrays as functions -/

def X (R : Fin 16384) (d : Fin 1024) : EReal := m ((c : Thread nD τ).loc main_arg0) (ix2 R d)
def sc (d : Fin 1024) : EReal := m ((c : Thread nD τ).loc main_arg1) (ix2 0 d)
def sh (d : Fin 1024) : EReal := m ((c : Thread nD τ).loc main_arg2) (ix2 0 d)
def g2 (d : Fin 1024) : EReal := m ((c : Thread nD τ).loc main_arg3) (ix2 0 d)
def nw (d : Fin 1024) : EReal := m ((c : Thread nD τ).loc main_arg4) (ix2 0 d)
def w1 (k : Fin 1024) (f : Fin 2816) : EReal := m ((c : Thread nD τ).loc main_arg5) (ix3 0 k f)
def w3 (k : Fin 1024) (f : Fin 2816) : EReal := m ((c : Thread nD τ).loc main_arg6) (ix3 0 k f)
def w2 (f : Fin 2816) (d : Fin 1024) : EReal := m ((c : Thread nD τ).loc main_arg7) (ix3 0 f d)

/-- Row `R` normalised and modulated. -/
def H (R : Fin 16384) : Fin 1024 → EReal := hrow (X m c R) (nw m c) (sc m c) (sh m c)

/-- The layer at row `R` of the arrays. -/
def result (R : Fin 16384) (d : Fin 1024) : EReal :=
  dense (X m c R) (nw m c) (sc m c) (sh m c) (g2 m c) (w1 m c) (w3 m c) (w2 m c) d

variable {m c}

theorem h_at (t : Fin cfg0.N) (r : Fin 512) (d : Fin 1024) :
    k0_pay2 (F := Ideal) (iblk m c 0 t) (iblk m c 1 t) (iblk m c 2 t) (iblk m c 3 t) (ix2 r d) = H m c (rowAt t r) d := by
  rw [h_apply]
  simp only [row_at, norm_at, scale_at, shift_at]
  rfl

theorem sum_at (t : Fin cfg0.N) (r : Fin 512) (d : Fin 1024) (R : Fin 16384) (h : FVec Ideal S512x1024 .bf16) (a : FVec Ideal S512x1024 .f32)
    (hh : ∀ k, h (ix2 r k) = H m c R k) :
    k0_pay4 (F := Ideal) h (iblk m c 5 t) (iblk m c 6 t) a (iblk m c 7 t) (ix2 r d)
      = a (ix2 r d) + half (H m c R) (w1 m c) (w3 m c) (w2 m c) (halfAt t) d := by
  rw [sum_apply]
  simp only [hh, w1_at, w3_at, w2_at]
  rfl

/-- What the scratch arrays hold after a row block's first point. -/
structure Holds (m : (ℓ : Loc nD τ sig) → Buf (Elt Ideal) ℓ) (c : Dev nD) (t : Fin cfg0.N)
    (s : Vec Ideal S512x1024 .f32 × Vec Ideal S512x1024 .bf16 × Vec Ideal S512x1024 .f32) : Prop where
  h : ∀ r k, s.2.1 (ix2 r k) = H m c (rowAt t r) k
  a : ∀ r d, s.2.2 (ix2 r d) = 0 + half (H m c (rowAt t r)) (w1 m c) (w3 m c) (w2 m c) 0 d

theorem holds_first (t : Fin cfg0.N) (h0 : t.val % 2 = 0) (acc) : Holds m c t (stAt0 m c t.val t.isLt acc) where
  h r k := by rw [first_h m c t h0]; exact h_at t r k
  a r d := by
    rw [first_acc m c t h0, sum_at t r d _ _ _ (h_at t r), zero_apply]
    have e : halfAt t = 0 := Fin.ext h0
    rw [e]

theorem holds (n : Nat) (hn : n < cfg0.N) (h0 : n % 2 = 0) : Holds m c ⟨n, hn⟩ (outsAt0 m c n hn) := by
  cases n with
  | zero => rw [outsAt0_zero]; exact holds_first ⟨0, hn⟩ rfl _
  | succ n => rw [outsAt0_succ]; exact holds_first ⟨n + 1, hn⟩ h0 _

/-- The block a row block's second point writes. -/
theorem block_out (n : Nat) (hn : n + 1 < cfg0.N) (h1 : (n + 1) % 2 = 1) (r : Fin 512) (d : Fin 1024) :
    (outsAt0 m c (n + 1) hn).1 (ix2 r d) = result m c (rowAt ⟨n + 1, hn⟩ r) d := by
  have ih := holds (m := m) (c := c) n (Nat.lt_of_succ_lt hn) (by omega)
  have hr : rowAt ⟨n, Nat.lt_of_succ_lt hn⟩ r = rowAt ⟨n + 1, hn⟩ r := by
    apply Fin.ext
    show 512 * (n / 2) + r.val = 512 * ((n + 1) / 2) + r.val
    omega
  have e : halfAt ⟨n + 1, hn⟩ = 1 := Fin.ext h1
  rw [outsAt0_succ, last_out m c ⟨n + 1, hn⟩ h1, out_apply, row_at, gate_at,
    sum_at ⟨n + 1, hn⟩ r d (rowAt ⟨n + 1, hn⟩ r) _ _ (fun k => by rw [ih.h, hr]), ih.a, hr, e, halves]
  rfl

/-- The array the kernel leaves. -/
theorem G8_apply (R : Fin 16384) (d : Fin 1024) : G8 m c (ix2 R d) = result m c R d := by
  have hR := R.isLt
  have hd := d.isLt
  have hrun : run8Of (ix2 R d) = R.val / 512 := by
    show 1 * (R.val / 512 - 0) + 1 * (d.val / 1024 - 0) = _
    omega
  have hN : cfg0.N = 64 := N_0
  have hpt : pt8Of (ix2 R d) = 2 * (R.val / 512) + 1 := by
    show 2 * run8Of (ix2 R d) + 1 = _
    rw [hrun]
  have hn : 2 * (R.val / 512) + 1 < cfg0.N := by omega
  unfold G8
  rw [dif_pos (by rw [hpt]; exact hn)]
  rw [fold0_congr m c _ _ (2 * (R.val / 512) + 1) (by omega) hpt, ← outsAt0_sweep m c _ hn]
  have hloc : loc8Of (ix2 R d) = ix2 ⟨R.val % 512, by omega⟩ d := by
    funext a
    match a with
    | ⟨0, _⟩ => rfl
    | ⟨1, _⟩ => exact Fin.ext (Nat.mod_eq_of_lt hd)
  rw [hloc, block_out _ hn (by omega)]
  congr 1
  apply Fin.ext
  show 512 * ((2 * (R.val / 512) + 1) / 2) + R.val % 512 = R.val
  omega

end Cert.FfnIdeal.State

end
-- ==== Proof.Ffn.Equal.lean ====
/-
  The feed-forward kernel and its reference leave the same array.
-/
module

public import proofs.«01_k».proof.Defs
public import proofs.«01_k».proof.Proof.Ffn.State
public import proofs.«01_k».proof.Proof.Gen.FfnRefIdeal.Run
public import proofs.«01_k».proof.Proof.Gen.FfnRefIdeal.Read
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.FfnEqual

open Cert.Spec

/-- The reference's entry is the layer. -/
theorem ref_apply (a0 : FVec Ideal Cert.FfnRefIdeal.S16384x1024 .f32) (a1 a2 a3 : FVec Ideal Cert.FfnRefIdeal.S1x1024 .f32) (a4 : FVec Ideal Cert.FfnRefIdeal.S2x1024 .f32)
    (a5 a6 : FVec Ideal Cert.FfnRefIdeal.S1x1024x2816 .f32) (a7 : FVec Ideal Cert.FfnRefIdeal.S1x2816x1024 .f32) (r : Fin 16384) (d : Fin 1024) :
    Cert.FfnRefIdeal.Read.val_main_v31 (F := Ideal) a0 a1 a2 a3 a4 a5 a6 a7 (ix2 r d)
      = Cert.FfnIdeal.Pay.dense (fun k => a0 (ix2 r k)) (fun k => a4 (ix2 0 k)) (fun k => a1 (ix2 0 k)) (fun k => a2 (ix2 0 k)) (fun k => a3 (ix2 0 k))
          (fun k f => a5 (ix3 0 k f)) (fun k f => a6 (ix3 0 k f)) (fun f d => a7 (ix3 0 f d)) d := by
  unfold Cert.FfnIdeal.Pay.dense Cert.FfnIdeal.Pay.unit hrow
  pointwise [Cert.FfnRefIdeal.Read.val_main_v31, Cert.FfnRefIdeal.Read.val_main_v30, Cert.FfnRefIdeal.Read.val_main_v29, Cert.FfnRefIdeal.Read.val_main_v28, Cert.FfnRefIdeal.Read.val_main_v27, Cert.FfnRefIdeal.Read.val_main_v26, Cert.FfnRefIdeal.Read.val_main_v25, Cert.FfnRefIdeal.Read.val_main_call0_v5, Cert.FfnRefIdeal.Read.val_main_call0_v4, Cert.FfnRefIdeal.Read.val_main_call0_cst_0, Cert.FfnRefIdeal.Read.val_main_call0_v3, Cert.FfnRefIdeal.Read.val_main_call0_v2, Cert.FfnRefIdeal.Read.val_main_call0_cst, Cert.FfnRefIdeal.Read.val_main_call0_v1, Cert.FfnRefIdeal.Read.val_main_call0_v0, Cert.FfnRefIdeal.Read.val_main_v24, Cert.FfnRefIdeal.Read.val_main_v23, Cert.FfnRefIdeal.Read.val_main_v22, Cert.FfnRefIdeal.Read.val_main_v21, Cert.FfnRefIdeal.Read.val_main_v20, Cert.FfnRefIdeal.Read.val_main_v19, Cert.FfnRefIdeal.Read.val_main_v18, Cert.FfnRefIdeal.Read.val_main_v17, Cert.FfnRefIdeal.Read.val_main_v16, Cert.FfnRefIdeal.Read.val_main_v15, Cert.FfnRefIdeal.Read.val_main_cst_2, Cert.FfnRefIdeal.Read.val_main_v14, Cert.FfnRefIdeal.Read.val_main_v13, Cert.FfnRefIdeal.Read.val_main_v12, Cert.FfnRefIdeal.Read.val_main_v11, Cert.FfnRefIdeal.Read.val_main_v10, Cert.FfnRefIdeal.Read.val_main_v9, Cert.FfnRefIdeal.Read.val_main_v8, Cert.FfnRefIdeal.Read.val_main_v7, Cert.FfnRefIdeal.Read.val_main_cst_1, Cert.FfnRefIdeal.Read.val_main_v6, Cert.FfnRefIdeal.Read.val_main_v5, Cert.FfnRefIdeal.Read.val_main_cst_0, Cert.FfnRefIdeal.Read.val_main_v4, Cert.FfnRefIdeal.Read.val_main_v3, Cert.FfnRefIdeal.Read.val_main_cst, Cert.FfnRefIdeal.Read.val_main_v2, Cert.FfnRefIdeal.Read.val_main_v1, Cert.FfnRefIdeal.Read.val_main_v0]

/-- The reference ends with its arguments unchanged and no semaphore counted (it has none). -/
theorem ref_frame (m : (ℓ : Loc Cert.FfnRefIdeal.nD Cert.FfnRefIdeal.τ Cert.FfnRefIdeal.sig) → Buf (Elt Ideal) ℓ)
    (ρ : Dev Cert.FfnRefIdeal.nD → PrngReg) :
    θ_run (Cert.FfnRefIdeal.defs (F := Ideal)) (onTc (τ := Cert.FfnRefIdeal.τ) (Cert.FfnRefIdeal.main (F := Ideal))) ⟨m, fun _ => 0, ρ⟩
      fun r => (∀ c : Dev Cert.FfnRefIdeal.nD,
        r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
        ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
        ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
        ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
        ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
        ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
        ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
        ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
        ∧ r.2.sem = fun _ => 0 :=
  (θ_run _ _ _).mono (fun r h => ⟨fun c => (h c).2, sem_eq_zero_of_no_sems (by decide) r.2⟩) (Cert.FfnRefIdeal.Value.run m ρ)

/-- The kernel's array at an entry is the reference's at that entry, on the same arguments. -/
theorem entry (m : (ℓ : Loc Cert.FfnIdeal.nD Cert.FfnIdeal.τ Cert.FfnIdeal.sig) → Buf (Elt Ideal) ℓ) (c : Dev Cert.FfnIdeal.nD) (R : Fin 16384) (d : Fin 1024) :
    (Cert.FfnIdeal.Value.G8 m c : Cert.FfnIdeal.S16384x1024.Idx → EReal) (ix2 R d)
      = Cert.FfnRefIdeal.Read.val_main_v31 (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (ix2 R d) := by
  rw [Cert.FfnIdeal.State.G8_apply]
  exact (ref_apply _ _ _ _ _ _ _ _ R d).symm

theorem algebraic : @Cert.algebraic_FfnIdeal_FfnRefIdeal Cert.FfnIdeal.Gen.facts Cert.FfnRefIdeal.Gen.facts := by
  intro m g m' g' _ hargs
  refine ⟨Cert.FfnIdeal.Value.G8 m, Cert.FfnIdeal.Value.run m g, ?_⟩
  refine (θ_run _ _ _).mono (fun r h c => ⟨?_, (h c).2⟩) (Cert.FfnRefIdeal.Value.run m' g')
  refine (h c).1.trans ?_
  refine (Cert.FfnRefIdeal.Read.val_main_v31_eq m' c).trans ?_
  obtain ⟨h0, h1, h2, h3, h4, h5, h6, h7⟩ := hargs c
  funext i
  have hi : i = ix2 (i 0) (i 1) := by
    funext a
    match a with
    | ⟨0, _⟩ => rfl
    | ⟨1, _⟩ => rfl
  rw [hi]
  refine Eq.trans ?_ (entry m c (i 0) (i 1)).symm
  exact congrFun (by rw [← h0, ← h1, ← h2, ← h3, ← h4, ← h5, ← h6, ← h7]) _

end Cert.FfnEqual

end
-- ==== Proof.Merge.Step.lean ====
/-
  What one grid point of the merge kernel leaves in its output block, in terms of the values the body computes; and those
  values read at one position, in plain arithmetic.
-/
module

public import proofs.«01_k».proof.Proof.Gen.MergeIdeal.Value
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.MergeIdeal.Step

open Cert.MergeIdeal Cert.MergeIdeal.Gen Cert.MergeIdeal.Value

section
variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The block a point writes. -/
theorem block (c : Dev nD) (t : Fin cfg0.N) : outsAt0 m c t = k0_pay1 (k0_pay2 (iblk m c 2 t) (iblk m c 8 t)) (k0_pay3 (X0_3 m c t) (iblk m c 0 t) (iblk m c 6 t) (iblk m c 1 t) (iblk m c 7 t)) (k0_pay4 (X0_3 m c t)) (iblk m c 9 t) (iblk m c 4 t) (iblk m c 5 t) := by
  unfold outsAt0
  unfold out0_A_10
  rw [View.read_writes_eq_canon _ _ _ (fun y => cover0_A_10 (y := y) ..)]
  unfold kernelRun0_A
  dsimp only
  sl_unfold_words
  simp only [View.canon_cons_unit_zero (S := S512x1024) hz2, View.canon_unit_zero (S := S512x1024) hz2, View.readAt_eq_ld,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
    View.ld_unit_zero (S := S512x1024) hz2, View.ld_unit_zero (S := S1x1024) hz2, View.ld_unit_zero (S := S512x512) hz2,
    View.ld_unit_zero (S := S512x3072) hz2, View.ld_unit_zero (S := S1x512x1024) hz3, View.ld_unit_zero (S := S1x1024x1024) hz3]

end

/-- The logistic gate. -/
def gate (x : EReal) : EReal := Ideal.div 1 (1 + Ideal.exp (-x))

/-- One row of the layer: the row plus its gate times the gated sum of the three branches' products, multiplied by the
    output matrix. -/
def merge (x g : Fin 1024 → EReal) (p : Fin 3072 → EReal) (oa ob oc : Fin 512 → EReal) (wa wb wc : Fin 512 → Fin 1024 → EReal)
    (wo : Fin 1024 → Fin 1024 → EReal) (d : Fin 1024) : EReal :=
  x d + g d * ∑ j : Fin 1024, (gate (p ⟨j.val, by omega⟩) * (∑ k, oa k * wa k j) + gate (p ⟨1024 + j.val, by omega⟩) * (∑ k, ob k * wb k j)
    + gate (p ⟨2048 + j.val, by omega⟩) * ∑ k, oc k * wc k j) * wo j d

/-- The block's entry. -/
theorem block_apply (p : FVec Ideal S512x3072 .f32) (oa ob oc : FVec Ideal S512x512 .bf16) (wa wb wc : FVec Ideal S1x512x1024 .bf16)
    (wo : FVec Ideal S1x1024x1024 .bf16) (x : FVec Ideal S512x1024 .f32) (g : FVec Ideal S1x1024 .f32) (r : Fin 512) (d : Fin 1024) :
    k0_pay1 (F := Ideal) (k0_pay2 oc wc) (k0_pay3 p oa wa ob wb) (k0_pay4 p) wo x g (ix2 r d)
      = merge (fun d => x (ix2 r d)) (fun d => g (ix2 0 d)) (fun k => p (ix2 r k)) (fun k => oa (ix2 r k)) (fun k => ob (ix2 r k)) (fun k => oc (ix2 r k))
          (fun k j => wa (ix3 0 k j)) (fun k j => wb (ix3 0 k j)) (fun k j => wc (ix3 0 k j)) (fun j d => wo (ix3 0 j d)) d := by
  unfold merge gate
  simp only [← zero_sub (_ : EReal)]
  pointwise [k0_pay1, k0_pay2, k0_pay3, k0_pay4]

end Cert.MergeIdeal.Step

end
-- ==== Proof.Merge.Blocks.lean ====
/-
  The blocks the merge kernel reads at grid point `t`, as entries of the argument arrays: row block `t` of the branches'
  outputs, of the gates' columns and of `x`, and the whole of the first layer's matrices.
-/
module

public import proofs.«01_k».proof.Proof.Merge.Step
public import Idealize.ShloMosaic.Lib.KernelVsHost

@[expose] public section

set_option maxRecDepth 16384

noncomputable section

open Idealize.ShloMosaic Idealize.ShloMosaic.TcCoe Idealize.SL.Sem

namespace Cert.MergeIdeal.Blocks

open Cert.MergeIdeal Cert.MergeIdeal.Gen Cert.MergeIdeal.Step

variable (m : (ℓ : Loc nD τ sig) → Buf (Elt Ideal) ℓ)

theorem V_v0 (c : Dev nD) : (V m c main_v0 : S2x512x1024.Idx → EReal) = m ((c : Thread nD τ).loc main_arg6) := by
  show StableHlo.after _ _ (Proc.devRef .tc main_v0) = _
  unfold hostOps0
  after_results
  try rfl

theorem V_v1 (c : Dev nD) : (V m c main_v1 : S2x512x1024.Idx → EReal) = m ((c : Thread nD τ).loc main_arg7) := by
  show StableHlo.after _ _ (Proc.devRef .tc main_v1) = _
  unfold hostOps0
  after_results
  try rfl

theorem V_v2 (c : Dev nD) : (V m c main_v2 : S2x512x1024.Idx → EReal) = m ((c : Thread nD τ).loc main_arg8) := by
  show StableHlo.after _ _ (Proc.devRef .tc main_v2) = _
  unfold hostOps0
  after_results
  try rfl

theorem V_v3 (c : Dev nD) : (V m c main_v3 : S2x1024x1024.Idx → EReal) = m ((c : Thread nD τ).loc main_arg9) := by
  show StableHlo.after _ _ (Proc.devRef .tc main_v3) = _
  unfold hostOps0
  after_results
  try rfl

/-- The row of the arrays that row `r` of the block at point `t` is. -/
def rowAt (t : Fin cfg0.N) (r : Fin 512) : Fin 16384 :=
  ⟨512 * t.val + r.val, by have : t.val < 32 := Nat.lt_of_lt_of_eq t.isLt N_0; omega⟩

variable (c : Dev nD) (t : Fin cfg0.N)

theorem idx0 : ∀ t : Fin cfg0.N, win0_0.index t 0 = t.val ∧ win0_0.index t 1 = 0 := by
  decide +kernel

theorem oa_at (r : Fin 512) (k : Fin 512) : (iblk m c 0 t : FVec Ideal S512x512 .bf16) (ix2 r k) = m ((c : Thread nD τ).loc main_arg0) (ix2 (rowAt t r) k) := by
  have hb : ((cfg0.win 0).blk t).view.read (Elt Ideal) (V m c (Pipeline.arrRef spec0 0)) (ix2 r k) = V m c main_arg0 (ix2 (rowAt t r) k) := by
    rw [View.read_apply]
    show V m c main_arg0 _ = V m c main_arg0 _
    congr 1
    funext a
    apply Fin.ext
    match a with
    | ⟨0, _⟩ => show win0_0.index t 0 * 512 + 1 * (r).val = (rowAt t r).val; rw [(idx0 t).1]; show _ = 512 * t.val + r.val; omega
    | ⟨1, _⟩ => show win0_0.index t 1 * 512 + 1 * (k).val = (k).val; rw [(idx0 t).2]; omega
  refine hb.trans ?_
  exact congrFun (V_main_arg0 m c) _

theorem idx1 : ∀ t : Fin cfg0.N, win0_1.index t 0 = t.val ∧ win0_1.index t 1 = 0 := by
  decide +kernel

theorem ob_at (r : Fin 512) (k : Fin 512) : (iblk m c 1 t : FVec Ideal S512x512 .bf16) (ix2 r k) = m ((c : Thread nD τ).loc main_arg1) (ix2 (rowAt t r) k) := by
  have hb : ((cfg0.win 1).blk t).view.read (Elt Ideal) (V m c (Pipeline.arrRef spec0 1)) (ix2 r k) = V m c main_arg1 (ix2 (rowAt t r) k) := by
    rw [View.read_apply]
    show V m c main_arg1 _ = V m c main_arg1 _
    congr 1
    funext a
    apply Fin.ext
    match a with
    | ⟨0, _⟩ => show win0_1.index t 0 * 512 + 1 * (r).val = (rowAt t r).val; rw [(idx1 t).1]; show _ = 512 * t.val + r.val; omega
    | ⟨1, _⟩ => show win0_1.index t 1 * 512 + 1 * (k).val = (k).val; rw [(idx1 t).2]; omega
  refine hb.trans ?_
  exact congrFun (V_main_arg1 m c) _

theorem idx2 : ∀ t : Fin cfg0.N, win0_2.index t 0 = t.val ∧ win0_2.index t 1 = 0 := by
  decide +kernel

theorem oc_at (r : Fin 512) (k : Fin 512) : (iblk m c 2 t : FVec Ideal S512x512 .bf16) (ix2 r k) = m ((c : Thread nD τ).loc main_arg2) (ix2 (rowAt t r) k) := by
  have hb : ((cfg0.win 2).blk t).view.read (Elt Ideal) (V m c (Pipeline.arrRef spec0 2)) (ix2 r k) = V m c main_arg2 (ix2 (rowAt t r) k) := by
    rw [View.read_apply]
    show V m c main_arg2 _ = V m c main_arg2 _
    congr 1
    funext a
    apply Fin.ext
    match a with
    | ⟨0, _⟩ => show win0_2.index t 0 * 512 + 1 * (r).val = (rowAt t r).val; rw [(idx2 t).1]; show _ = 512 * t.val + r.val; omega
    | ⟨1, _⟩ => show win0_2.index t 1 * 512 + 1 * (k).val = (k).val; rw [(idx2 t).2]; omega
  refine hb.trans ?_
  exact congrFun (V_main_arg2 m c) _

theorem idx3 : ∀ t : Fin cfg0.N, win0_3.index t 0 = t.val ∧ win0_3.index t 1 = 0 := by
  decide +kernel

theorem gates_at (r : Fin 512) (k : Fin 3072) : (X0_3 m c t : FVec Ideal S512x3072 .f32) (ix2 r k) = m ((c : Thread nD τ).loc main_arg3) (ix2 (rowAt t r) ⟨k.val, by omega⟩) := by
  have hb : (X0_3 m c t : FVec Ideal S512x3072 .f32) (ix2 r k) = V m c main_arg3 (ix2 (rowAt t r) ⟨k.val, by omega⟩) := by
    unfold X0_3 Pipeline.Window.fill
    rw [dif_pos (moved0_3 t _)]
    unfold iblk
    rw [View.read_apply]
    show V m c main_arg3 _ = V m c main_arg3 _
    congr 1
    funext a
    apply Fin.ext
    match a with
    | ⟨0, _⟩ => show win0_3.index t 0 * 512 + 1 * (r).val = (rowAt t r).val; rw [(idx3 t).1]; show _ = 512 * t.val + r.val; omega
    | ⟨1, _⟩ => show win0_3.index t 1 * 3072 + 1 * (k).val = k.val; rw [(idx3 t).2]; omega
  refine hb.trans ?_
  exact congrFun (V_main_arg3 m c) _

theorem idx4 : ∀ t : Fin cfg0.N, win0_4.index t 0 = t.val ∧ win0_4.index t 1 = 0 := by
  decide +kernel

theorem row_at (r : Fin 512) (d : Fin 1024) : (iblk m c 4 t : FVec Ideal S512x1024 .f32) (ix2 r d) = m ((c : Thread nD τ).loc main_arg4) (ix2 (rowAt t r) d) := by
  have hb : ((cfg0.win 4).blk t).view.read (Elt Ideal) (V m c (Pipeline.arrRef spec0 4)) (ix2 r d) = V m c main_arg4 (ix2 (rowAt t r) d) := by
    rw [View.read_apply]
    show V m c main_arg4 _ = V m c main_arg4 _
    congr 1
    funext a
    apply Fin.ext
    match a with
    | ⟨0, _⟩ => show win0_4.index t 0 * 512 + 1 * (r).val = (rowAt t r).val; rw [(idx4 t).1]; show _ = 512 * t.val + r.val; omega
    | ⟨1, _⟩ => show win0_4.index t 1 * 1024 + 1 * (d).val = (d).val; rw [(idx4 t).2]; omega
  refine hb.trans ?_
  exact congrFun (V_main_arg4 m c) _

theorem idx5 : ∀ t : Fin cfg0.N, win0_5.index t 0 = 0 ∧ win0_5.index t 1 = 0 := by
  decide +kernel

theorem gate_at (d : Fin 1024) : (iblk m c 5 t : FVec Ideal S1x1024 .f32) (ix2 0 d) = m ((c : Thread nD τ).loc main_arg5) (ix2 0 d) := by
  have hb : ((cfg0.win 5).blk t).view.read (Elt Ideal) (V m c (Pipeline.arrRef spec0 5)) (ix2 0 d) = V m c main_arg5 (ix2 0 d) := by
    rw [View.read_apply]
    show V m c main_arg5 _ = V m c main_arg5 _
    congr 1
    funext a
    apply Fin.ext
    match a with
    | ⟨0, _⟩ => show win0_5.index t 0 * 1 + 1 * 0 = 0; rw [(idx5 t).1]
    | ⟨1, _⟩ => show win0_5.index t 1 * 1024 + 1 * (d).val = (d).val; rw [(idx5 t).2]; omega
  refine hb.trans ?_
  exact congrFun (V_main_arg5 m c) _

theorem idx6 : ∀ t : Fin cfg0.N, win0_6.index t 0 = 0 ∧ win0_6.index t 1 = 0 ∧ win0_6.index t 2 = 0 := by
  decide +kernel

theorem wa_at (k : Fin 512) (j : Fin 1024) : (iblk m c 6 t : FVec Ideal S1x512x1024 .bf16) (ix3 0 k j) = m ((c : Thread nD τ).loc main_arg6) (ix3 0 k j) := by
  have hb : ((cfg0.win 6).blk t).view.read (Elt Ideal) (V m c (Pipeline.arrRef spec0 6)) (ix3 0 k j) = V m c main_v0 (ix3 0 k j) := by
    rw [View.read_apply]
    show V m c main_v0 _ = V m c main_v0 _
    congr 1
    funext a
    apply Fin.ext
    match a with
    | ⟨0, _⟩ => show win0_6.index t 0 * 1 + 1 * 0 = 0; rw [(idx6 t).1]
    | ⟨1, _⟩ => show win0_6.index t 1 * 512 + 1 * (k).val = (k).val; rw [(idx6 t).2.1]; omega
    | ⟨2, _⟩ => show win0_6.index t 2 * 1024 + 1 * (j).val = (j).val; rw [(idx6 t).2.2]; omega
  refine hb.trans ?_
  exact congrFun (V_v0 m c) _

theorem idx7 : ∀ t : Fin cfg0.N, win0_7.index t 0 = 0 ∧ win0_7.index t 1 = 0 ∧ win0_7.index t 2 = 0 := by
  decide +kernel

theorem wb_at (k : Fin 512) (j : Fin 1024) : (iblk m c 7 t : FVec Ideal S1x512x1024 .bf16) (ix3 0 k j) = m ((c : Thread nD τ).loc main_arg7) (ix3 0 k j) := by
  have hb : ((cfg0.win 7).blk t).view.read (Elt Ideal) (V m c (Pipeline.arrRef spec0 7)) (ix3 0 k j) = V m c main_v1 (ix3 0 k j) := by
    rw [View.read_apply]
    show V m c main_v1 _ = V m c main_v1 _
    congr 1
    funext a
    apply Fin.ext
    match a with
    | ⟨0, _⟩ => show win0_7.index t 0 * 1 + 1 * 0 = 0; rw [(idx7 t).1]
    | ⟨1, _⟩ => show win0_7.index t 1 * 512 + 1 * (k).val = (k).val; rw [(idx7 t).2.1]; omega
    | ⟨2, _⟩ => show win0_7.index t 2 * 1024 + 1 * (j).val = (j).val; rw [(idx7 t).2.2]; omega
  refine hb.trans ?_
  exact congrFun (V_v1 m c) _

theorem idx8 : ∀ t : Fin cfg0.N, win0_8.index t 0 = 0 ∧ win0_8.index t 1 = 0 ∧ win0_8.index t 2 = 0 := by
  decide +kernel

theorem wc_at (k : Fin 512) (j : Fin 1024) : (iblk m c 8 t : FVec Ideal S1x512x1024 .bf16) (ix3 0 k j) = m ((c : Thread nD τ).loc main_arg8) (ix3 0 k j) := by
  have hb : ((cfg0.win 8).blk t).view.read (Elt Ideal) (V m c (Pipeline.arrRef spec0 8)) (ix3 0 k j) = V m c main_v2 (ix3 0 k j) := by
    rw [View.read_apply]
    show V m c main_v2 _ = V m c main_v2 _
    congr 1
    funext a
    apply Fin.ext
    match a with
    | ⟨0, _⟩ => show win0_8.index t 0 * 1 + 1 * 0 = 0; rw [(idx8 t).1]
    | ⟨1, _⟩ => show win0_8.index t 1 * 512 + 1 * (k).val = (k).val; rw [(idx8 t).2.1]; omega
    | ⟨2, _⟩ => show win0_8.index t 2 * 1024 + 1 * (j).val = (j).val; rw [(idx8 t).2.2]; omega
  refine hb.trans ?_
  exact congrFun (V_v2 m c) _

theorem idx9 : ∀ t : Fin cfg0.N, win0_9.index t 0 = 0 ∧ win0_9.index t 1 = 0 ∧ win0_9.index t 2 = 0 := by
  decide +kernel

theorem wo_at (j : Fin 1024) (d : Fin 1024) : (iblk m c 9 t : FVec Ideal S1x1024x1024 .bf16) (ix3 0 j d) = m ((c : Thread nD τ).loc main_arg9) (ix3 0 j d) := by
  have hb : ((cfg0.win 9).blk t).view.read (Elt Ideal) (V m c (Pipeline.arrRef spec0 9)) (ix3 0 j d) = V m c main_v3 (ix3 0 j d) := by
    rw [View.read_apply]
    show V m c main_v3 _ = V m c main_v3 _
    congr 1
    funext a
    apply Fin.ext
    match a with
    | ⟨0, _⟩ => show win0_9.index t 0 * 1 + 1 * 0 = 0; rw [(idx9 t).1]
    | ⟨1, _⟩ => show win0_9.index t 1 * 1024 + 1 * (j).val = (j).val; rw [(idx9 t).2.1]; omega
    | ⟨2, _⟩ => show win0_9.index t 2 * 1024 + 1 * (d).val = (d).val; rw [(idx9 t).2.2]; omega
  refine hb.trans ?_
  exact congrFun (V_v3 m c) _

theorem idx10 : ∀ t : Fin cfg0.N, win0_10.index t 0 = t.val ∧ win0_10.index t 1 = 0 := by
  decide +kernel

end Cert.MergeIdeal.Blocks

end
-- ==== Proof.Merge.State.lean ====
/-
  The array the merge kernel leaves: every point writes its row block, once.
-/
module

public import proofs.«01_k».proof.Proof.Merge.Blocks

@[expose] public section

set_option maxRecDepth 16384

noncomputable section

open Idealize.ShloMosaic Idealize.ShloMosaic.TcCoe Idealize.SL.Sem

namespace Cert.MergeIdeal.State

open Cert.MergeIdeal Cert.MergeIdeal.Gen Cert.MergeIdeal.Value Cert.MergeIdeal.Step Cert.MergeIdeal.Blocks

variable (m : (ℓ : Loc nD τ sig) → Buf (Elt Ideal) ℓ) (c : Dev nD)

/-- The layer at row `R` of the arrays. -/
def result (R : Fin 16384) (d : Fin 1024) : EReal :=
  merge (fun d => m ((c : Thread nD τ).loc main_arg4) (ix2 R d)) (fun d => m ((c : Thread nD τ).loc main_arg5) (ix2 0 d))
    (fun k => m ((c : Thread nD τ).loc main_arg3) (ix2 R ⟨k.val, by omega⟩))
    (fun k => m ((c : Thread nD τ).loc main_arg0) (ix2 R k)) (fun k => m ((c : Thread nD τ).loc main_arg1) (ix2 R k))
    (fun k => m ((c : Thread nD τ).loc main_arg2) (ix2 R k)) (fun k j => m ((c : Thread nD τ).loc main_arg6) (ix3 0 k j))
    (fun k j => m ((c : Thread nD τ).loc main_arg7) (ix3 0 k j)) (fun k j => m ((c : Thread nD τ).loc main_arg8) (ix3 0 k j))
    (fun j d => m ((c : Thread nD τ).loc main_arg9) (ix3 0 j d)) d

/-- The block point `t` writes. -/
theorem block_at (t : Fin cfg0.N) (r : Fin 512) (d : Fin 1024) : outsAt0 m c t (ix2 r d) = result m c (rowAt t r) d := by
  rw [block, block_apply]
  simp only [oa_at, ob_at, oc_at, gates_at, row_at, gate_at, wa_at, wb_at, wc_at, wo_at]
  rfl

/-- The array the kernel leaves. -/
theorem array_apply (R : Fin 16384) (d : Fin 1024) :
    ((dats m 0 c).arrAt 10 cfg0.N : S16384x1024.Idx → EReal) (ix2 R d) = result m c R d := by
  have hR := R.isLt
  have hN : cfg0.N = 32 := N_0
  let t : Fin cfg0.N := ⟨R.val / 512, by omega⟩
  let r : Fin 512 := ⟨R.val % 512, by omega⟩
  have hr : rowAt t r = R := by
    apply Fin.ext
    show 512 * (R.val / 512) + R.val % 512 = R.val
    omega
  have h1 := congrFun ((blocks10 m c t (flush0_10 t)).trans (flushed10 m c t)) (ix2 r d)
  have h2 : ((cfg0.win 10).blk t).view.read (Elt Ideal) ((dats m 0 c).arrAt 10 cfg0.N) (ix2 r d)
      = ((dats m 0 c).arrAt 10 cfg0.N : S16384x1024.Idx → EReal) (ix2 R d) := by
    rw [View.read_apply]
    show ((dats m 0 c).arrAt 10 cfg0.N : S16384x1024.Idx → EReal) _ = ((dats m 0 c).arrAt 10 cfg0.N : S16384x1024.Idx → EReal) _
    congr 1
    funext a
    apply Fin.ext
    match a with
    | ⟨0, _⟩ => show win0_10.index t 0 * 512 + 1 * r.val = R.val; rw [(idx10 t).1]; show R.val / 512 * 512 + 1 * (R.val % 512) = R.val; omega
    | ⟨1, _⟩ => show win0_10.index t 1 * 1024 + 1 * d.val = d.val; rw [(idx10 t).2]; omega
  refine h2.symm.trans (h1.trans ?_)
  show outsAt0 m c t (ix2 r d) = _
  rw [block_at, hr]

end Cert.MergeIdeal.State

end
-- ==== Proof.Merge.Equal.lean ====
/-
  The merge kernel and its reference leave the same array.
-/
module

public import proofs.«01_k».proof.Defs
public import proofs.«01_k».proof.Proof.Merge.State
public import proofs.«01_k».proof.Proof.Gen.MergeRefIdeal.Run
public import proofs.«01_k».proof.Proof.Gen.MergeRefIdeal.Read
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.MergeEqual

/-- The reference's entry is the layer. -/
theorem ref_apply (a0 a1 a2 : FVec Ideal Cert.MergeRefIdeal.S16384x512 .bf16) (a3 : FVec Ideal Cert.MergeRefIdeal.S16384x7680 .f32) (a4 : FVec Ideal Cert.MergeRefIdeal.S16384x1024 .f32)
    (a5 : FVec Ideal Cert.MergeRefIdeal.S1x1024 .f32) (a6 a7 a8 : FVec Ideal Cert.MergeRefIdeal.S2x512x1024 .f32) (a9 : FVec Ideal Cert.MergeRefIdeal.S2x1024x1024 .f32) (r : Fin 16384) (d : Fin 1024) :
    Cert.MergeRefIdeal.Read.val_main_v32 (F := Ideal) a0 a1 a2 a3 a4 a5 a6 a7 a8 a9 (ix2 r d)
      = Cert.MergeIdeal.Step.merge (fun d => a4 (ix2 r d)) (fun d => a5 (ix2 0 d)) (fun k => a3 (ix2 r ⟨k.val, by omega⟩)) (fun k => a0 (ix2 r k))
          (fun k => a1 (ix2 r k)) (fun k => a2 (ix2 r k)) (fun k j => a6 (ix3 0 k j)) (fun k j => a7 (ix3 0 k j)) (fun k j => a8 (ix3 0 k j))
          (fun j d => a9 (ix3 0 j d)) d := by
  unfold Cert.MergeIdeal.Step.merge Cert.MergeIdeal.Step.gate
  pointwise [Cert.MergeRefIdeal.Read.val_main_v32, Cert.MergeRefIdeal.Read.val_main_v31, Cert.MergeRefIdeal.Read.val_main_v30, Cert.MergeRefIdeal.Read.val_main_v29, Cert.MergeRefIdeal.Read.val_main_v28, Cert.MergeRefIdeal.Read.val_main_v27, Cert.MergeRefIdeal.Read.val_main_v26, Cert.MergeRefIdeal.Read.val_main_v25, Cert.MergeRefIdeal.Read.val_main_v24, Cert.MergeRefIdeal.Read.val_main_v23, Cert.MergeRefIdeal.Read.val_main_v22, Cert.MergeRefIdeal.Read.val_main_v21, Cert.MergeRefIdeal.Read.val_main_v20, Cert.MergeRefIdeal.Read.val_main_v19, Cert.MergeRefIdeal.Read.val_main_v18, Cert.MergeRefIdeal.Read.val_main_v17, Cert.MergeRefIdeal.Read.val_main_v16, Cert.MergeRefIdeal.Read.val_main_v15, Cert.MergeRefIdeal.Read.val_main_v14, Cert.MergeRefIdeal.Read.val_main_v13, Cert.MergeRefIdeal.Read.val_main_v12, Cert.MergeRefIdeal.Read.val_main_v11, Cert.MergeRefIdeal.Read.val_main_v10, Cert.MergeRefIdeal.Read.val_main_v9, Cert.MergeRefIdeal.Read.val_main_v8, Cert.MergeRefIdeal.Read.val_main_cst_0, Cert.MergeRefIdeal.Read.val_main_v7, Cert.MergeRefIdeal.Read.val_main_v6, Cert.MergeRefIdeal.Read.val_main_cst, Cert.MergeRefIdeal.Read.val_main_v5, Cert.MergeRefIdeal.Read.val_main_v4, Cert.MergeRefIdeal.Read.val_main_v3, Cert.MergeRefIdeal.Read.val_main_v2, Cert.MergeRefIdeal.Read.val_main_v1, Cert.MergeRefIdeal.Read.val_main_v0]

/-- The reference ends with its arguments unchanged and no semaphore counted (it has none). -/
theorem ref_frame (m : (ℓ : Loc Cert.MergeRefIdeal.nD Cert.MergeRefIdeal.τ Cert.MergeRefIdeal.sig) → Buf (Elt Ideal) ℓ)
    (ρ : Dev Cert.MergeRefIdeal.nD → PrngReg) :
    θ_run (Cert.MergeRefIdeal.defs (F := Ideal)) (onTc (τ := Cert.MergeRefIdeal.τ) (Cert.MergeRefIdeal.main (F := Ideal))) ⟨m, fun _ => 0, ρ⟩
      fun r => (∀ c : Dev Cert.MergeRefIdeal.nD,
        r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
        ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
        ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
        ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
        ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
        ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
        ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
        ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
        ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
        ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
        ∧ r.2.sem = fun _ => 0 :=
  (θ_run _ _ _).mono (fun r h => ⟨fun c => (h c).2, sem_eq_zero_of_no_sems (by decide) r.2⟩) (Cert.MergeRefIdeal.Value.run m ρ)

/-- The kernel's array at an entry is the reference's at that entry, on the same arguments. -/
theorem entry (m : (ℓ : Loc Cert.MergeIdeal.nD Cert.MergeIdeal.τ Cert.MergeIdeal.sig) → Buf (Elt Ideal) ℓ) (c : Dev Cert.MergeIdeal.nD) (R : Fin 16384) (d : Fin 1024) :
    ((Cert.MergeIdeal.Gen.dats m 0 c).arrAt 10 Cert.MergeIdeal.cfg0.N : Cert.MergeIdeal.S16384x1024.Idx → EReal) (ix2 R d)
      = Cert.MergeRefIdeal.Read.val_main_v32 (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (ix2 R d) := by
  rw [Cert.MergeIdeal.State.array_apply]
  exact (ref_apply _ _ _ _ _ _ _ _ _ _ R d).symm

theorem algebraic : @Cert.algebraic_MergeIdeal_MergeRefIdeal Cert.MergeIdeal.Gen.facts Cert.MergeRefIdeal.Gen.facts := by
  intro m g m' g' _ hargs
  refine ⟨fun c => (Cert.MergeIdeal.Gen.dats m 0 c).arrAt 10 Cert.MergeIdeal.cfg0.N, Cert.MergeIdeal.Value.run_blocks m g, ?_⟩
  refine (θ_run _ _ _).mono (fun r h c => ⟨?_, (h c).2⟩) (Cert.MergeRefIdeal.Value.run m' g')
  refine (h c).1.trans ?_
  refine (Cert.MergeRefIdeal.Read.val_main_v32_eq _ _ _ _ _ _ _ _ _ _).trans ?_
  obtain ⟨h0, h1, h2, h3, h4, h5, h6, h7, h8, h9⟩ := hargs c
  funext i
  have hi : i = ix2 (i 0) (i 1) := by
    funext a
    match a with
    | ⟨0, _⟩ => rfl
    | ⟨1, _⟩ => rfl
  rw [hi]
  refine Eq.trans ?_ (entry m c (i 0) (i 1)).symm
  exact congrFun (by rw [← h0, ← h1, ← h2, ← h3, ← h4, ← h5, ← h6, ← h7, ← h8, ← h9]) _

end Cert.MergeEqual

end
-- ==== Proof.Inproj.Run.lean ====
/-
  The body of the input projection's kernel, run once: at the first column block of a row block it stores the
  normalised rows in the scratch array and the gates' product in the second output; at every column block it stores
  the product of the scratch array with the block's weights in the first output.
-/
module

public import proofs.«01_k».proof.Proof.Gen.InprojIdeal.Frame
public import proofs.«01_k».proof.Proof.Gen.InprojIdeal.Skeleton
public import Idealize.ShloMosaic.Lib.Pipeline.Value

@[expose] public section

set_option maxRecDepth 16384

noncomputable section

namespace Cert.InprojIdeal.Frame

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- The body at a first column block. -/
theorem run_first (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024x1536 .bf16) (harg6 : arg6.IsWhole) (arg7 : Memref sig .tc .vmem S1x1024x128 .bf16) (harg7 : arg7.IsWhole) (arg8 : Memref sig .tc .vmem S1024x1536 .f32) (harg8 : arg8.IsWhole) (arg9 : Memref sig .tc .vmem S1024x128 .f32) (harg9 : arg9.IsWhole) (arg10 : Memref sig .tc .vmem S1024x1024 .bf16) (harg10 : arg10.IsWhole) (hc : k0_cond1 i = 1#1)
    (x0 : Vec F S1024x1024 .f32) (x1 : Vec F S1x1x1024 .f32) (x2 : Vec F S1x1024 .f32) (x3 : Vec F S1x1024 .f32) (x4 : Vec F S1x1024x1536 .bf16) (x5 : Vec F S1x1024x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 (k0_pay2 x0 x1 x2 x3) x4) ∗ owns (c : Thread nD τ) arg9 fullShare (k0_pay3 x0 x1 x2 x3 x5) ∗ owns (c : Thread nD τ) arg10 fullShare (k0_pay2 x0 x1 x2 x3)) -∗ K ⟨⟩))
      ⊢ wp frame (wpE (defs₀ (F := F)) Variants.none c none) E (cc0__inproj_kernel i arg2 harg2 arg3 harg3 arg4 harg4 arg5 harg5 arg6 harg6 arg7 harg7 arg8 harg8 arg9 harg9 arg10 harg10) K := by
  simp only [cc0__inproj_kernel_eq_skeleton]; unfold cc0__inproj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    rw [View.read_writes_eq_canon _ _ _ (fun y => View.cover_of_tiledL _ S1024x1536.size (by sl_kernel_rfl) y)]
    sl_unfold_words
    simp only [View.canon_cons_unit_zero (S := S1024x1024) hz2, View.canon_unit_zero (S := S1024x1024) hz2, View.readCov_unit_zero (S := S1024x1024) _ hz2, View.ld_unit_zero (S := S1024x1024) hz2, View.canon_cons_unit_zero (S := S1024x128) hz2, View.canon_unit_zero (S := S1024x128) hz2, View.readCov_unit_zero (S := S1024x128) _ hz2, View.ld_unit_zero (S := S1024x128) hz2, View.canon_cons_unit_zero (S := S1024x1536) hz2, View.canon_unit_zero (S := S1024x1536) hz2, View.readCov_unit_zero (S := S1024x1536) _ hz2, View.ld_unit_zero (S := S1024x1536) hz2, View.canon_cons_unit_zero (S := S1x1024) hz2, View.canon_unit_zero (S := S1x1024) hz2, View.readCov_unit_zero (S := S1x1024) _ hz2, View.ld_unit_zero (S := S1x1024) hz2, View.ld_unit_zero (S := S1x1024x128) hz3, View.ld_unit_zero (S := S1x1024x1536) hz3, View.ld_unit_zero (S := S1x1x1024) hz3, View.readAt_eq_ld, harg2.read_unread, harg3.read_unread, harg4.read_unread, harg5.read_unread, harg6.read_unread, harg7.read_unread, harg8.read_unread, harg9.read_unread, harg10.read_unread]
  isplitl [H7]
  · iexists _; isplitr
    swap; · iexact H7
    ipureintro
    rw [View.read_writes_eq_canon _ _ _ (fun y => View.cover_of_tiledL _ S1024x128.size (by sl_kernel_rfl) y)]
    sl_unfold_words
    simp only [View.canon_cons_unit_zero (S := S1024x1024) hz2, View.canon_unit_zero (S := S1024x1024) hz2, View.readCov_unit_zero (S := S1024x1024) _ hz2, View.ld_unit_zero (S := S1024x1024) hz2, View.canon_cons_unit_zero (S := S1024x128) hz2, View.canon_unit_zero (S := S1024x128) hz2, View.readCov_unit_zero (S := S1024x128) _ hz2, View.ld_unit_zero (S := S1024x128) hz2, View.canon_cons_unit_zero (S := S1024x1536) hz2, View.canon_unit_zero (S := S1024x1536) hz2, View.readCov_unit_zero (S := S1024x1536) _ hz2, View.ld_unit_zero (S := S1024x1536) hz2, View.canon_cons_unit_zero (S := S1x1024) hz2, View.canon_unit_zero (S := S1x1024) hz2, View.readCov_unit_zero (S := S1x1024) _ hz2, View.ld_unit_zero (S := S1x1024) hz2, View.ld_unit_zero (S := S1x1024x128) hz3, View.ld_unit_zero (S := S1x1024x1536) hz3, View.ld_unit_zero (S := S1x1x1024) hz3, View.readAt_eq_ld, harg2.read_unread, harg3.read_unread, harg4.read_unread, harg5.read_unread, harg6.read_unread, harg7.read_unread, harg8.read_unread, harg9.read_unread, harg10.read_unread]
  iexists _; isplitr
  swap; · iexact H8
  ipureintro
  rw [View.read_writes_eq_canon _ _ _ (fun y => View.cover_of_tiledL _ S1024x1024.size (by sl_kernel_rfl) y)]
  sl_unfold_words
  simp only [View.canon_cons_unit_zero (S := S1024x1024) hz2, View.canon_unit_zero (S := S1024x1024) hz2, View.readCov_unit_zero (S := S1024x1024) _ hz2, View.ld_unit_zero (S := S1024x1024) hz2, View.canon_cons_unit_zero (S := S1024x128) hz2, View.canon_unit_zero (S := S1024x128) hz2, View.readCov_unit_zero (S := S1024x128) _ hz2, View.ld_unit_zero (S := S1024x128) hz2, View.canon_cons_unit_zero (S := S1024x1536) hz2, View.canon_unit_zero (S := S1024x1536) hz2, View.readCov_unit_zero (S := S1024x1536) _ hz2, View.ld_unit_zero (S := S1024x1536) hz2, View.canon_cons_unit_zero (S := S1x1024) hz2, View.canon_unit_zero (S := S1x1024) hz2, View.readCov_unit_zero (S := S1x1024) _ hz2, View.ld_unit_zero (S := S1x1024) hz2, View.ld_unit_zero (S := S1x1024x128) hz3, View.ld_unit_zero (S := S1x1024x1536) hz3, View.ld_unit_zero (S := S1x1x1024) hz3, View.readAt_eq_ld, harg2.read_unread, harg3.read_unread, harg4.read_unread, harg5.read_unread, harg6.read_unread, harg7.read_unread, harg8.read_unread, harg9.read_unread, harg10.read_unread]

set_option maxHeartbeats 1000000 in
/-- The body at a later column block: the second output and the scratch array stay. -/
theorem run_rest (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024x1536 .bf16) (harg6 : arg6.IsWhole) (arg7 : Memref sig .tc .vmem S1x1024x128 .bf16) (harg7 : arg7.IsWhole) (arg8 : Memref sig .tc .vmem S1024x1536 .f32) (harg8 : arg8.IsWhole) (arg9 : Memref sig .tc .vmem S1024x128 .f32) (harg9 : arg9.IsWhole) (arg10 : Memref sig .tc .vmem S1024x1024 .bf16) (harg10 : arg10.IsWhole) (hc : ¬ k0_cond1 i = 1#1)
    (x0 : Vec F S1024x1024 .f32) (x1 : Vec F S1x1x1024 .f32) (x2 : Vec F S1x1024 .f32) (x3 : Vec F S1x1024 .f32) (x4 : Vec F S1x1024x1536 .bf16) (x5 : Vec F S1x1024x128 .bf16) (x7 : Vec F S1024x128 .f32) (x8 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ owns (c : Thread nD τ) arg10 fullShare x8
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 x8 x4) ∗ owns (c : Thread nD τ) arg9 fullShare x7 ∗ owns (c : Thread nD τ) arg10 fullShare x8) -∗ K ⟨⟩))
      ⊢ wp frame (wpE (defs₀ (F := F)) Variants.none c none) E (cc0__inproj_kernel i arg2 harg2 arg3 harg3 arg4 harg4 arg5 harg5 arg6 harg6 arg7 harg7 arg8 harg8 arg9 harg9 arg10 harg10) K := by
  simp only [cc0__inproj_kernel_eq_skeleton]; unfold cc0__inproj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    rw [View.read_writes_eq_canon _ _ _ (fun y => View.cover_of_tiledL _ S1024x1536.size (by sl_kernel_rfl) y)]
    sl_unfold_words
    simp only [View.canon_cons_unit_zero (S := S1024x1024) hz2, View.canon_unit_zero (S := S1024x1024) hz2, View.readCov_unit_zero (S := S1024x1024) _ hz2, View.ld_unit_zero (S := S1024x1024) hz2, View.canon_cons_unit_zero (S := S1024x128) hz2, View.canon_unit_zero (S := S1024x128) hz2, View.readCov_unit_zero (S := S1024x128) _ hz2, View.ld_unit_zero (S := S1024x128) hz2, View.canon_cons_unit_zero (S := S1024x1536) hz2, View.canon_unit_zero (S := S1024x1536) hz2, View.readCov_unit_zero (S := S1024x1536) _ hz2, View.ld_unit_zero (S := S1024x1536) hz2, View.canon_cons_unit_zero (S := S1x1024) hz2, View.canon_unit_zero (S := S1x1024) hz2, View.readCov_unit_zero (S := S1x1024) _ hz2, View.ld_unit_zero (S := S1x1024) hz2, View.ld_unit_zero (S := S1x1024x128) hz3, View.ld_unit_zero (S := S1x1024x1536) hz3, View.ld_unit_zero (S := S1x1x1024) hz3, View.readAt_eq_ld, harg2.read_unread, harg3.read_unread, harg4.read_unread, harg5.read_unread, harg6.read_unread, harg7.read_unread, harg8.read_unread, harg9.read_unread, harg10.read_unread]
  isplitl [H7]
  · iexists _; isplitr; · ipureintro; exact harg9.read_unread _
    iexact H7
  iexists _; isplitr; · ipureintro; exact harg10.read_unread _
  iexact H8

end Cert.InprojIdeal.Frame

end
-- ==== Proof.Inproj.Body.lean ====
/-
  The input projection's pipeline, point by point: what its body leaves in the two outputs and in the scratch array, the
  body obligation from the two runs, and the run of the whole program.

  A row block's five points are `5 * b, …, 5 * b + 4`. The scratch array and the second output are stored at the first of
  them and stay until the last, at whose end the second output is written back.
-/
module

public import proofs.«01_k».proof.Proof.Inproj.Run
public import Idealize.ShloMosaic.Lib.Claim

@[expose] public section

set_option maxRecDepth 16384

noncomputable section

namespace Cert.InprojIdeal.Frame

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of `t`'s row block. -/
def base (t : Fin cfg0.N) : Fin cfg0.N := ⟨5 * (t.val / 5), by have := t.isLt; omega⟩

/-- The normalised rows of `t`'s row block. -/
def hval (c : Dev nD) (t : Fin cfg0.N) : Vec F S1024x1024 .bf16 :=
  k0_pay2 (iblk m c 0 (base t)) (iblk m c 1 (base t)) (iblk m c 2 (base t)) (iblk m c 3 (base t))

/-- The gates' product of `t`'s row block. -/
def gval (c : Dev nD) (t : Fin cfg0.N) : Vec F S1024x128 .f32 :=
  k0_pay3 (iblk m c 0 (base t)) (iblk m c 1 (base t)) (iblk m c 2 (base t)) (iblk m c 3 (base t)) (iblk m c 5 (base t))

theorem base_first (t : Fin cfg0.N) (h : t.val % 5 = 0) : base t = t :=
  Fin.ext (by show 5 * (t.val / 5) = t.val; omega)

theorem base_prev (t : Fin cfg0.N) (h : t.val % 5 ≠ 0) (hp : t.val - 1 < cfg0.N) : base ⟨t.val - 1, hp⟩ = base t :=
  Fin.ext (by show 5 * ((t.val - 1) / 5) = 5 * (t.val / 5); omega)

theorem hval_prev (c : Dev nD) (t : Fin cfg0.N) (h : t.val % 5 ≠ 0) (hp : t.val - 1 < cfg0.N) :
    hval m c ⟨t.val - 1, hp⟩ = hval m c t := by
  unfold hval; rw [base_prev t h hp]

theorem gval_prev (c : Dev nD) (t : Fin cfg0.N) (h : t.val % 5 ≠ 0) (hp : t.val - 1 < cfg0.N) :
    gval m c ⟨t.val - 1, hp⟩ = gval m c t := by
  unfold gval; rw [base_prev t h hp]

/-- The body's condition holds at the first point of a row block. -/
theorem hcond : ∀ t : Fin cfg0.N, k0_cond1 (grid0.coords t) = 1#1 ↔ t.val % 5 = 0 := by decide +kernel

theorem idle7 (t : Fin cfg0.N) (h : t.val % 5 ≠ 0) : cfg0.idle 7 (grid0.coords t) = true := by
  show (!(k0_cond1 (grid0.coords t) == 1#1)) = true
  rw [Bool.not_eq_true', beq_eq_false_iff_ne]
  exact fun e => h ((hcond t).mp e)

theorem live7 (t : Fin cfg0.N) (h : t.val % 5 = 0) : cfg0.idle 7 (grid0.coords t) = false := by
  show (!(k0_cond1 (grid0.coords t) == 1#1)) = false
  rw [Bool.not_eq_false', beq_iff_eq]
  exact (hcond t).mpr h

abbrev scM0_0 : Memref sig .tc .vmem S1024x1024 .bf16 := Memref.whole cc0_scratch0

theorem PhiA0_eq (c : Dev nD) :
    (Pipeline.ΦA spec0 c : sProp 𝕄)
      = iprop((∃ d, owns (c : Thread nD τ) scM0_0 fullShare d) ∗ (∃ r, prngReg c r)) := by
  unfold Pipeline.ΦA; rw [scopedRest0_eq]; simp only [scM0_0, owns_whole]; try rfl

/-- What holds between points: the scratch array at the rows the point before left in it. -/
def PhiS (c : Dev nD) : (n : ℕ) → n ≤ cfg0.N → sProp 𝕄
  | 0, _ => Pipeline.ΦA spec0 c
  | n + 1, hn => iprop(owns (c : Thread nD τ) scM0_0 fullShare (hval m c ⟨n, hn⟩) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM0_0 fullShare (hval m c ⟨n, hn⟩) ∗ (∃ r, prngReg c r)) := rfl

theorem PhiS_pos (c : Dev nD) (n : ℕ) (h : n ≤ cfg0.N) (hz : n ≠ 0) :
    PhiS m c n h = iprop(owns (c : Thread nD τ) scM0_0 fullShare (hval m c ⟨n - 1, by omega⟩) ∗ (∃ r, prngReg c r)) := by
  cases n with
  | zero => exact absurd rfl hz
  | succ n => rfl

/-- The pipeline's proof data: each input's buffer at its block, the outputs at the products. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay4 (hval m c t) (iblk m c 4 t)
    | ⟨7, _⟩ => gval m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = k0_pay4 (hval m c t) (iblk m c 4 t) := by dsimp only [dats]
theorem after0_7 (c : Dev nD) (t : Fin cfg0.N) : (dats m 0 c).after 7 t = gval m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Past a row block's first point the second output's buffer holds the gates' product. -/
theorem before0_7 (c : Dev nD) : ∀ (k : ℕ) (t : Fin cfg0.N), t.val % 5 = k + 1 → ∀ d, (dats m 0 c).before 7 t d = gval m c t := by
  intro k
  induction k with
  | zero =>
    intro t ht d
    have hlt := t.isLt
    have hz : t.val ≠ 0 := by omega
    have hp : t.val - 1 < cfg0.N := by omega
    have hfl : (cfg0.win 7).flush ⟨t.val - 1, hp⟩ = false := by
      rw [Bool.eq_false_iff]
      exact fun e => by have := (flush0_7 ⟨t.val - 1, hp⟩).mp e; dsimp only at this; omega
    rw [(dats m 0 c).before_of_pos 7 t hz ((cfg0.win 7).fetch_out rfl t), hfl, if_neg Bool.false_ne_true]
    unfold Dat.left
    rw [live7 ⟨t.val - 1, hp⟩ (by dsimp only; omega)]
    dsimp only
    unfold Dat.kept
    rw [Pipeline.fill_of_clip_none 7 _ (fun _ => rfl) d ((dats m 0 c).after 7 ⟨t.val - 1, hp⟩), Pipeline.Window.fill_cut, after0_7,
      gval_prev m c t (by omega)]
  | succ k ih =>
    intro t ht d
    have hlt := t.isLt
    have hz : t.val ≠ 0 := by omega
    have hp : t.val - 1 < cfg0.N := by omega
    have hfl : (cfg0.win 7).flush ⟨t.val - 1, hp⟩ = false := by
      rw [Bool.eq_false_iff]
      exact fun e => by have := (flush0_7 ⟨t.val - 1, hp⟩).mp e; dsimp only at this; omega
    rw [(dats m 0 c).before_of_pos 7 t hz ((cfg0.win 7).fetch_out rfl t), hfl, if_neg Bool.false_ne_true]
    unfold Dat.left
    rw [idle7 ⟨t.val - 1, hp⟩ (by dsimp only; omega)]
    dsimp only
    rw [ih ⟨t.val - 1, hp⟩ (by dsimp only; omega) d, gval_prev m c t (by omega)]

/-- What the second output's buffer must hold after a point past the first of its row block. -/
theorem leaves7 (c : Dev nD) (t : Fin cfg0.N) (h : t.val % 5 ≠ 0) :
    owns (c : Thread nD τ) (st0_7 t) fullShare (gval m c t) ⊢ ((dats m 0 c).leavesExact 7 t : sProp 𝕄) := by
  unfold Dat.leavesExact
  rw [idle7 t h]
  dsimp only
  cases hf : (cfg0.win 7).flush t
  · dsimp only
    iintro H
    iexists (gval m c t)
    rw [before0_7 m c (t.val % 5 - 1) t (by omega)]
    iexact H
  · dsimp only
    rw [after0_7]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (st0_0 t) fullShare ((dats m 0 c).after 0 t) from rfl, after0_0]
  rw [show (dats m 0 c).leavesExact 1 t = owns (c : Thread nD τ) (st0_1 t) fullShare ((dats m 0 c).after 1 t) from rfl, after0_1]
  rw [show (dats m 0 c).leavesExact 2 t = owns (c : Thread nD τ) (st0_2 t) fullShare ((dats m 0 c).after 2 t) from rfl, after0_2]
  rw [show (dats m 0 c).leavesExact 3 t = owns (c : Thread nD τ) (st0_3 t) fullShare ((dats m 0 c).after 3 t) from rfl, after0_3]
  rw [show (dats m 0 c).leavesExact 4 t = owns (c : Thread nD τ) (st0_4 t) fullShare ((dats m 0 c).after 4 t) from rfl, after0_4]
  rw [show (dats m 0 c).leavesExact 5 t = owns (c : Thread nD τ) (st0_5 t) fullShare ((dats m 0 c).after 5 t) from rfl, after0_5]
  rw [show (dats m 0 c).leavesExact 6 t = owns (c : Thread nD τ) (st0_6 t) fullShare ((dats m 0 c).after 6 t) from rfl, after0_6]
  by_cases h0 : t.val % 5 = 0
  · rw [show (dats m 0 c).leavesExact 7 t = owns (c : Thread nD τ) (st0_7 t) fullShare ((dats m 0 c).after 7 t) from by
      unfold Dat.leavesExact; rw [live7 t h0], after0_7]
    have eh : hval m c t = k0_pay2 (iblk m c 0 t) (iblk m c 1 t) (iblk m c 2 t) (iblk m c 3 t) := by unfold hval; rw [base_first t h0]
    have eg : gval m c t = k0_pay3 (iblk m c 0 t) (iblk m c 1 t) (iblk m c 2 t) (iblk m c 3 t) (iblk m c 5 t) := by unfold gval; rw [base_first t h0]
    rw [show (⟨t.val, t.isLt⟩ : Fin cfg0.N) = t from rfl, eh, eg]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_first c (grid0.coords t) _ _ _ _ _ _ _ _ _ _ _ _ _ _ _ _ _ _ ((hcond t).mpr h0) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, H6, H7, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_first c (grid0.coords t) _ _ _ _ _ _ _ _ _ _ _ _ _ _ _ _ _ _ ((hcond t).mpr h0) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexists _; iexact HS0
      iintro ⟨H0, H1, H2, H3, H4, H5, H6, H7, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hz : t.val ≠ 0 := fun e => h0 (by rw [e])
    rw [PhiS_castSucc m c t, PhiS_pos m c _ _ hz]
    simp only [before0_7 m c (t.val % 5 - 1) t (by omega), hval_prev m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_rest c (grid0.coords t) _ _ _ _ _ _ _ _ _ _ _ _ _ _ _ _ _ _ (fun h => h0 ((hcond t).mp h)) (iblk m c 0 t) (iblk m c 1 t) (iblk m c 2 t) (iblk m c 3 t) (iblk m c 4 t) (iblk m c 5 t) (gval m c t) (hval m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    iintro ⟨H0, H1, H2, H3, H4, H5, H6, H7, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (leaves7 m c t h0)
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 80 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The program ends with its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.InprojIdeal.Frame

end
-- ==== Proof.Inproj.Pay.lean ====
/-
  The values the input projection's body computes, read at one position, in plain arithmetic.
-/
module

public import proofs.«01_k».proof.Proof.Inproj.Body
public import proofs.«01_k».proof.Proof.Moe.Spec
public import Idealize.ShloMosaic.Lib.Pointwise

@[expose] public section

set_option maxRecDepth 16384

noncomputable section

open Idealize.ShloMosaic Idealize.ShloMosaic.TcCoe Idealize.SL.Sem

namespace Cert.InprojIdeal.Pay

open Cert.InprojIdeal Cert.InprojIdeal.Gen Cert.Spec

/-- The column of the weight that column `j` of the first result takes: the projections lie in another order there. -/
def colOf (j : Fin 7680) : Fin 7696 :=
  if h : j.val < 3072 then ⟨4624 + j.val, by omega⟩ else if h' : j.val - 3072 < 1024 then ⟨j.val - 3072, by omega⟩ else ⟨1040 + (j.val - 3072 - 1024), by omega⟩

/-- The gates' weight: sixteen columns of the weight, then zeros. -/
def gateW (w : Fin 1024 → Fin 7696 → EReal) (k : Fin 1024) (j : Fin 128) : EReal :=
  if h : j.val < 16 then w k ⟨1024 + j.val, by omega⟩ else 0

/-- The number zero converted to a float is zero. -/
theorem zero_conv : (FloatOps.sitofp (F := Ideal) FTy.f32 0#32 : EReal) = 0 := by
  show (((0#32).toInt : ℝ) : EReal) = 0
  simp

/-- One entry of a projected row. -/
def proj (h : Fin 1024 → EReal) (w : Fin 1024 → EReal) : EReal := ∑ k, h k * w k

/-- The modulated normalised rows. -/
theorem h_apply (x0 : FVec Ideal S1024x1024 .f32) (x1 : FVec Ideal S1x1x1024 .f32) (x2 x3 : FVec Ideal S1x1024 .f32) (r d : Fin 1024) :
    k0_pay2 (F := Ideal) x0 x1 x2 x3 (ix2 r d)
      = hrow (fun k => x0 (ix2 r k)) (fun k => x1 (ix3 0 0 k)) (fun k => x2 (ix2 0 k)) (fun k => x3 (ix2 0 k)) d := by
  unfold hrow
  pointwise [k0_pay2, k0_pay1]

/-- A block of the first result. -/
theorem main_apply (h : FVec Ideal S1024x1024 .bf16) (w : FVec Ideal S1x1024x1536 .bf16) (r : Fin 1024) (j : Fin 1536) :
    k0_pay4 (F := Ideal) h w (ix2 r j) = proj (fun k => h (ix2 r k)) (fun k => w (ix3 0 k j)) := by
  unfold proj
  pointwise [k0_pay4]

/-- A block of the gates. -/
theorem gate_apply (x0 : FVec Ideal S1024x1024 .f32) (x1 : FVec Ideal S1x1x1024 .f32) (x2 x3 : FVec Ideal S1x1024 .f32)
    (w : FVec Ideal S1x1024x128 .bf16) (r : Fin 1024) (j : Fin 128) :
    k0_pay3 (F := Ideal) x0 x1 x2 x3 w (ix2 r j)
      = proj (hrow (fun k => x0 (ix2 r k)) (fun k => x1 (ix3 0 0 k)) (fun k => x2 (ix2 0 k)) (fun k => x3 (ix2 0 k))) (fun k => w (ix3 0 k j)) := by
  unfold proj hrow
  pointwise [k0_pay3, k0_pay1]

end Cert.InprojIdeal.Pay

end
-- ==== Proof.Inproj.Blocks.lean ====
/-
  The blocks the input projection's body is handed, as entries of the arguments.
-/
module

public import proofs.«01_k».proof.Proof.Inproj.Pay

@[expose] public section

set_option maxRecDepth 16384

noncomputable section

open Idealize.ShloMosaic Idealize.ShloMosaic.TcCoe Idealize.SL.Sem

namespace Cert.InprojIdeal.Blocks

open Cert.InprojIdeal Cert.InprojIdeal.Gen Cert.InprojIdeal.Pay

variable (m : (ℓ : Loc nD τ sig) → Buf (Elt Ideal) ℓ)

/-- The weight with its columns in the order of the first result. -/
theorem V_v4 (c : Dev nD) : V m c main_v4 = (truncf .bf16 (concatenate S2x1024x7680 2 [⟨S2x1024x3072, extractStridedSlice S2x1024x3072 ![0, 0, 4624] (m ((c : Thread nD τ).loc main_arg4)) slices_S2x1024x7696_S2x1024x3072_0_0_4624⟩,
      ⟨S2x1024x1024, extractStridedSlice S2x1024x1024 ![0, 0, 0] (m ((c : Thread nD τ).loc main_arg4)) slices_S2x1024x7696_S2x1024x1024_0_0_0⟩,
      ⟨S2x1024x3584, extractStridedSlice S2x1024x3584 ![0, 0, 1040] (m ((c : Thread nD τ).loc main_arg4)) slices_S2x1024x7696_S2x1024x3584_0_0_1040⟩]
      concatenates_S2x1024x3072_S2x1024x1024_S2x1024x3584_S2x1024x7680_d2 : FVec Ideal S2x1024x7680 .f32) bitsLt_bf16_f32 : FVec Ideal S2x1024x7680 .bf16) := by
  show StableHlo.after _ _ (Proc.devRef .tc main_v4) = _
  unfold hostOps0 hostOps0_1 hostOps0_2
  simp only [List.flatten_cons, List.flatten_nil, List.append_nil, List.cons_append, List.nil_append]
  after_results
  try rfl

/-- The gates' weight, filled up with zeros. -/
theorem V_v7 (c : Dev nD) : V m c main_v7 = (truncf .bf16 (pad S2x1024x128 ![0, 0, 0] ![0, 0, 112] ![0, 0, 0] (extractStridedSlice S2x1024x16 ![0, 0, 1024] (m ((c : Thread nD τ).loc main_arg4)) slices_S2x1024x7696_S2x1024x16_0_0_1024)
      (sitofp .f32 (constantI S_ 32 0#32)) pads_S2x1024x16_S2x1024x128_000_000_01120 h_S_ : FVec Ideal S2x1024x128 .f32) bitsLt_bf16_f32 : FVec Ideal S2x1024x128 .bf16) := by
  show StableHlo.after _ _ (Proc.devRef .tc main_v7) = _
  unfold hostOps0 hostOps0_1 hostOps0_2
  simp only [List.flatten_cons, List.flatten_nil, List.append_nil, List.cons_append, List.nil_append]
  after_results
  try rfl

/-- The norm's weight. -/
theorem V_v8 (c : Dev nD) : V m c main_v8 = broadcastInDim S2x1x1024 ![0, 2] bcast_S2x1024_S2x1x1024_0_2 (m ((c : Thread nD τ).loc main_arg3)) := by
  show StableHlo.after _ _ (Proc.devRef .tc main_v8) = _
  unfold hostOps0 hostOps0_1 hostOps0_2
  simp only [List.flatten_cons, List.flatten_nil, List.append_nil, List.cons_append, List.nil_append]
  after_results
  try rfl

/-- An entry of the reordered weight. -/
theorem v4_apply (c : Dev nD) (k : Fin 1024) (j : Fin 7680) :
    (V m c main_v4 : FVec Ideal S2x1024x7680 .bf16) (ix3 0 k j) = m ((c : Thread nD τ).loc main_arg4) (ix3 0 k (colOf j)) := by
  rw [V_v4]
  unfold colOf
  generalize m ((c : Thread nD τ).loc main_arg4) = w
  pointwise []
  split
  · rfl
  · split <;> rfl

/-- An entry of the gates' weight. -/
theorem v7_apply (c : Dev nD) (k : Fin 1024) (j : Fin 128) :
    (V m c main_v7 : FVec Ideal S2x1024x128 .bf16) (ix3 0 k j) = gateW (fun k j => m ((c : Thread nD τ).loc main_arg4) (ix3 0 k j)) k j := by
  rw [V_v7]
  unfold gateW
  generalize m ((c : Thread nD τ).loc main_arg4) = w
  pointwise []
  rw [zero_conv]

/-- The row of `x` that row `r` of the block at point `t` is. -/
def rowAt (t : Fin cfg0.N) (r : Fin 1024) : Fin 16384 :=
  ⟨1024 * (t.val / 5) + r.val, by have : t.val < 80 := Nat.lt_of_lt_of_eq t.isLt N_0; omega⟩

/-- The column of the first result that column `j` of the block at point `t` is. -/
def colAt (t : Fin cfg0.N) (j : Fin 1536) : Fin 7680 :=
  ⟨1536 * (t.val % 5) + j.val, by omega⟩

variable (c : Dev nD) (t : Fin cfg0.N)

theorem idx0 : ∀ t : Fin cfg0.N, win0_0.index t 0 = t.val / 5 ∧ win0_0.index t 1 = 0 := by
  decide +kernel

theorem row_at (r d : Fin 1024) : (iblk m c 0 t : FVec Ideal S1024x1024 .f32) (ix2 r d) = m ((c : Thread nD τ).loc main_arg0) (ix2 (rowAt t r) d) := by
  have hb : ((cfg0.win 0).blk t).view.read (Elt Ideal) (V m c (Pipeline.arrRef spec0 0)) (ix2 r d) = V m c main_arg0 (ix2 (rowAt t r) d) := by
    rw [View.read_apply]
    show V m c main_arg0 _ = V m c main_arg0 _
    congr 1
    funext a
    apply Fin.ext
    match a with
    | ⟨0, _⟩ => show win0_0.index t 0 * 1024 + 1 * (r).val = (rowAt t r).val; rw [(idx0 t).1]; show _ = 1024 * (t.val / 5) + r.val; omega
    | ⟨1, _⟩ => show win0_0.index t 1 * 1024 + 1 * (d).val = (d).val; rw [(idx0 t).2]; omega
  refine hb.trans ?_
  exact congrFun (V_main_arg0 m c) _

theorem idx1 : ∀ t : Fin cfg0.N, win0_1.index t 0 = 0 ∧ win0_1.index t 1 = 0 ∧ win0_1.index t 2 = 0 := by
  decide +kernel

theorem norm_at (d : Fin 1024) : (iblk m c 1 t : FVec Ideal S1x1x1024 .f32) (ix3 0 0 d) = m ((c : Thread nD τ).loc main_arg3) (ix2 0 d) := by
  have hb : ((cfg0.win 1).blk t).view.read (Elt Ideal) (V m c (Pipeline.arrRef spec0 1)) (ix3 0 0 d) = V m c main_v8 (ix3 0 0 d) := by
    rw [View.read_apply]
    show V m c main_v8 _ = V m c main_v8 _
    congr 1
    funext a
    apply Fin.ext
    match a with
    | ⟨0, _⟩ => show win0_1.index t 0 * 1 + 1 * 0 = 0; rw [(idx1 t).1]
    | ⟨1, _⟩ => show win0_1.index t 1 * 1 + 1 * 0 = 0; rw [(idx1 t).2.1]
    | ⟨2, _⟩ => show win0_1.index t 2 * 1024 + 1 * (d).val = (d).val; rw [(idx1 t).2.2]; omega
  refine hb.trans ?_
  rw [V_v8]
  pointwise []

theorem idx2 : ∀ t : Fin cfg0.N, win0_2.index t 0 = 0 ∧ win0_2.index t 1 = 0 := by
  decide +kernel

theorem scale_at (d : Fin 1024) : (iblk m c 2 t : FVec Ideal S1x1024 .f32) (ix2 0 d) = m ((c : Thread nD τ).loc main_arg1) (ix2 0 d) := by
  have hb : ((cfg0.win 2).blk t).view.read (Elt Ideal) (V m c (Pipeline.arrRef spec0 2)) (ix2 0 d) = V m c main_arg1 (ix2 0 d) := by
    rw [View.read_apply]
    show V m c main_arg1 _ = V m c main_arg1 _
    congr 1
    funext a
    apply Fin.ext
    match a with
    | ⟨0, _⟩ => show win0_2.index t 0 * 1 + 1 * 0 = 0; rw [(idx2 t).1]
    | ⟨1, _⟩ => show win0_2.index t 1 * 1024 + 1 * (d).val = (d).val; rw [(idx2 t).2]; omega
  refine hb.trans ?_
  exact congrFun (V_main_arg1 m c) _

theorem idx3 : ∀ t : Fin cfg0.N, win0_3.index t 0 = 0 ∧ win0_3.index t 1 = 0 := by
  decide +kernel

theorem shift_at (d : Fin 1024) : (iblk m c 3 t : FVec Ideal S1x1024 .f32) (ix2 0 d) = m ((c : Thread nD τ).loc main_arg2) (ix2 0 d) := by
  have hb : ((cfg0.win 3).blk t).view.read (Elt Ideal) (V m c (Pipeline.arrRef spec0 3)) (ix2 0 d) = V m c main_arg2 (ix2 0 d) := by
    rw [View.read_apply]
    show V m c main_arg2 _ = V m c main_arg2 _
    congr 1
    funext a
    apply Fin.ext
    match a with
    | ⟨0, _⟩ => show win0_3.index t 0 * 1 + 1 * 0 = 0; rw [(idx3 t).1]
    | ⟨1, _⟩ => show win0_3.index t 1 * 1024 + 1 * (d).val = (d).val; rw [(idx3 t).2]; omega
  refine hb.trans ?_
  exact congrFun (V_main_arg2 m c) _

theorem idx4 : ∀ t : Fin cfg0.N, win0_4.index t 0 = 0 ∧ win0_4.index t 1 = 0 ∧ win0_4.index t 2 = t.val % 5 := by
  decide +kernel

theorem weight_at (k : Fin 1024) (j : Fin 1536) : (iblk m c 4 t : FVec Ideal S1x1024x1536 .bf16) (ix3 0 k j) = m ((c : Thread nD τ).loc main_arg4) (ix3 0 k (colOf (colAt t j))) := by
  have hb : ((cfg0.win 4).blk t).view.read (Elt Ideal) (V m c (Pipeline.arrRef spec0 4)) (ix3 0 k j) = V m c main_v4 (ix3 0 k (colAt t j)) := by
    rw [View.read_apply]
    show V m c main_v4 _ = V m c main_v4 _
    congr 1
    funext a
    apply Fin.ext
    match a with
    | ⟨0, _⟩ => show win0_4.index t 0 * 1 + 1 * 0 = 0; rw [(idx4 t).1]
    | ⟨1, _⟩ => show win0_4.index t 1 * 1024 + 1 * (k).val = (k).val; rw [(idx4 t).2.1]; omega
    | ⟨2, _⟩ => show win0_4.index t 2 * 1536 + 1 * (j).val = (colAt t j).val; rw [(idx4 t).2.2]; show _ = 1536 * (t.val % 5) + j.val; omega
  refine hb.trans ?_
  exact v4_apply m c k (colAt t j)

theorem idx5 : ∀ t : Fin cfg0.N, win0_5.index t 0 = 0 ∧ win0_5.index t 1 = 0 ∧ win0_5.index t 2 = 0 := by
  decide +kernel

theorem gate_at (k : Fin 1024) (j : Fin 128) : (iblk m c 5 t : FVec Ideal S1x1024x128 .bf16) (ix3 0 k j) = gateW (fun k j => m ((c : Thread nD τ).loc main_arg4) (ix3 0 k j)) k j := by
  have hb : ((cfg0.win 5).blk t).view.read (Elt Ideal) (V m c (Pipeline.arrRef spec0 5)) (ix3 0 k j) = V m c main_v7 (ix3 0 k j) := by
    rw [View.read_apply]
    show V m c main_v7 _ = V m c main_v7 _
    congr 1
    funext a
    apply Fin.ext
    match a with
    | ⟨0, _⟩ => show win0_5.index t 0 * 1 + 1 * 0 = 0; rw [(idx5 t).1]
    | ⟨1, _⟩ => show win0_5.index t 1 * 1024 + 1 * (k).val = (k).val; rw [(idx5 t).2.1]; omega
    | ⟨2, _⟩ => show win0_5.index t 2 * 128 + 1 * (j).val = (j).val; rw [(idx5 t).2.2]; omega
  refine hb.trans ?_
  exact v7_apply m c k j

end Cert.InprojIdeal.Blocks

end
-- ==== Proof.Inproj.Arrays.lean ====
/-
  The two arrays the input projection leaves.
-/
module

public import proofs.«01_k».proof.Proof.Inproj.Blocks

@[expose] public section

set_option maxRecDepth 16384

noncomputable section

open Idealize.ShloMosaic Idealize.ShloMosaic.TcCoe Idealize.SL.Sem

namespace Cert.InprojIdeal.Arrays

open Cert.InprojIdeal Cert.InprojIdeal.Gen Cert.InprojIdeal.Frame Cert.InprojIdeal.Pay Cert.InprojIdeal.Blocks Cert.Spec

variable (m : (ℓ : Loc nD τ sig) → Buf (Elt Ideal) ℓ)

/-- A block of rows starts at the point that computes it. -/
theorem rowAt_base (t : Fin cfg0.N) (r : Fin 1024) : rowAt (base t) r = rowAt t r := by
  apply Fin.ext
  show 1024 * (5 * (t.val / 5) / 5) + r.val = 1024 * (t.val / 5) + r.val
  omega

/-- The first result: every row of the input, normalised, modulated and projected. -/
def G6 (c : Dev nD) : S16384x7680.Idx → EReal := fun i =>
  proj (hrow (fun k => m ((c : Thread nD τ).loc main_arg0) (ix2 (i 0) k)) (fun k => m ((c : Thread nD τ).loc main_arg3) (ix2 0 k)) (fun k => m ((c : Thread nD τ).loc main_arg1) (ix2 0 k)) (fun k => m ((c : Thread nD τ).loc main_arg2) (ix2 0 k))) (fun k => m ((c : Thread nD τ).loc main_arg4) (ix3 0 k (colOf (i 1))))

theorem idx6 : ∀ t : Fin cfg0.N, win0_6.index t 0 = t.val / 5 ∧ win0_6.index t 1 = t.val % 5 := by
  decide +kernel

theorem mem_blk6 (t : Fin cfg0.N) (i : S16384x7680.Idx) :
    i ∈ ((cfg0.win 6).blk t).view.set ↔ ∀ a : Fin 2, win0_6.index t a * S1024x1536.size a ≤ (i a).val ∧ (i a).val < win0_6.index t a * S1024x1536.size a + S1024x1536.size a := by
  show i ∈ ((View.whole main_v9_0).slice (win0_6.rect t)).set ↔ _
  rw [View.set_slice_whole, Rect.mem_set_unit]
  exact Iff.rfl

/-- What a point writes of it. -/
theorem point6 (c : Dev nD) (t : Fin cfg0.N) (r : Fin 1024) (j : Fin 1536) :
    k0_pay4 (F := Ideal) (hval m c t) (iblk m c 4 t) (ix2 r j) = G6 m c (ix2 (rowAt t r) (colAt t j)) := by
  refine (main_apply _ _ r j).trans ?_
  unfold hval
  simp only [h_apply, row_at, norm_at, scale_at, shift_at, weight_at, rowAt_base]
  rfl

theorem flushed6 (c : Dev nD) (t : Fin cfg0.N) : (dats m 0 c).flushed 6 t = ((cfg0.win 6).blk t).view.read (Elt Ideal) (G6 m c) := by
  show (cfg0.win 6).cut (grid0.coords t) ((dats m 0 c).after 6 t) = _
  rw [after0_6]
  have key : ∀ (r : Fin 1024) (j : Fin 1536), (k0_pay4 (F := Ideal) (hval m c t) (iblk m c 4 t)) (ix2 r j) = ((cfg0.win 6).blk t).view.read (Elt Ideal) (G6 m c) (ix2 r j) := by
    intro r j
    rw [point6, View.read_apply]
    show G6 m c _ = G6 m c _
    congr 1
    funext a
    apply Fin.ext
    match a with
    | ⟨0, _⟩ => show 1024 * (t.val / 5) + r.val = win0_6.index t 0 * 1024 + 1 * r.val; rw [(idx6 t).1]; omega
    | ⟨1, _⟩ => show 1536 * (t.val % 5) + j.val = win0_6.index t 1 * 1536 + 1 * j.val; rw [(idx6 t).2]; omega
  funext y
  have hy : (y : S1024x1536.Idx) = ix2 (y 0) (y 1) := by
    funext a
    match a with
    | ⟨0, _⟩ => rfl
    | ⟨1, _⟩ => rfl
  exact (congrArg (k0_pay4 (F := Ideal) (hval m c t) (iblk m c 4 t)) hy).trans ((key (y 0) (y 1)).trans (congrArg (((cfg0.win 6).blk t).view.read (Elt Ideal) (G6 m c)) hy.symm))

theorem covered6 (i : S16384x7680.Idx) : ∃ t : Fin cfg0.N, (cfg0.win 6).flush t = true ∧ i ∈ ((cfg0.win 6).blk t).view.set := by
  have h0 : (i 0).val < 16384 := (i 0).isLt
  have h1 : (i 1).val < 7680 := (i 1).isLt
  obtain ⟨t, ht⟩ : ∃ t : Fin cfg0.N, t.val = 5 * ((i 0).val / 1024) + (i 1).val / 1536 :=
    ⟨⟨5 * ((i 0).val / 1024) + (i 1).val / 1536, lt_of_lt_of_eq (by omega) N_0.symm⟩, rfl⟩
  refine ⟨t, flush0_6 t, ?_⟩
  rw [mem_blk6]
  intro a
  match a with
  | ⟨0, _⟩ => show win0_6.index t 0 * 1024 ≤ (i 0).val ∧ (i 0).val < win0_6.index t 0 * 1024 + 1024; rw [(idx6 t).1, ht]; omega
  | ⟨1, _⟩ => show win0_6.index t 1 * 1536 ≤ (i 1).val ∧ (i 1).val < win0_6.index t 1 * 1536 + 1536; rw [(idx6 t).2, ht]; omega

theorem final6 (c : Dev nD) : (dats m 0 c).arrAt 6 cfg0.N = G6 m c :=
  (dats m 0 c).arrAt_eq_of_cover 6 _ (fun t _ => flushed6 m c t) (covered6)

/-- The second result: the gates. -/
def G7 (c : Dev nD) : S16384x128.Idx → EReal := fun i =>
  proj (hrow (fun k => m ((c : Thread nD τ).loc main_arg0) (ix2 (i 0) k)) (fun k => m ((c : Thread nD τ).loc main_arg3) (ix2 0 k)) (fun k => m ((c : Thread nD τ).loc main_arg1) (ix2 0 k)) (fun k => m ((c : Thread nD τ).loc main_arg2) (ix2 0 k))) (fun k => gateW (fun k j => m ((c : Thread nD τ).loc main_arg4) (ix3 0 k j)) k (i 1))

theorem idx7 : ∀ t : Fin cfg0.N, win0_7.index t 0 = t.val / 5 ∧ win0_7.index t 1 = 0 := by
  decide +kernel

theorem mem_blk7 (t : Fin cfg0.N) (i : S16384x128.Idx) :
    i ∈ ((cfg0.win 7).blk t).view.set ↔ ∀ a : Fin 2, win0_7.index t a * S1024x128.size a ≤ (i a).val ∧ (i a).val < win0_7.index t a * S1024x128.size a + S1024x128.size a := by
  show i ∈ ((View.whole main_v9_1).slice (win0_7.rect t)).set ↔ _
  rw [View.set_slice_whole, Rect.mem_set_unit]
  exact Iff.rfl

/-- What a point writes of it. -/
theorem point7 (c : Dev nD) (t : Fin cfg0.N) (r : Fin 1024) (j : Fin 128) :
    gval (F := Ideal) m c t (ix2 r j) = G7 m c (ix2 (rowAt t r) j) := by
  unfold gval
  refine (gate_apply _ _ _ _ _ r j).trans ?_
  simp only [row_at, norm_at, scale_at, shift_at, gate_at, rowAt_base]
  rfl

theorem flushed7 (c : Dev nD) (t : Fin cfg0.N) : (dats m 0 c).flushed 7 t = ((cfg0.win 7).blk t).view.read (Elt Ideal) (G7 m c) := by
  show (cfg0.win 7).cut (grid0.coords t) ((dats m 0 c).after 7 t) = _
  rw [after0_7]
  have key : ∀ (r : Fin 1024) (j : Fin 128), (gval (F := Ideal) m c t) (ix2 r j) = ((cfg0.win 7).blk t).view.read (Elt Ideal) (G7 m c) (ix2 r j) := by
    intro r j
    rw [point7, View.read_apply]
    show G7 m c _ = G7 m c _
    congr 1
    funext a
    apply Fin.ext
    match a with
    | ⟨0, _⟩ => show 1024 * (t.val / 5) + r.val = win0_7.index t 0 * 1024 + 1 * r.val; rw [(idx7 t).1]; omega
    | ⟨1, _⟩ => show j.val = win0_7.index t 1 * 128 + 1 * j.val; rw [(idx7 t).2]; omega
  funext y
  have hy : (y : S1024x128.Idx) = ix2 (y 0) (y 1) := by
    funext a
    match a with
    | ⟨0, _⟩ => rfl
    | ⟨1, _⟩ => rfl
  exact (congrArg (gval (F := Ideal) m c t) hy).trans ((key (y 0) (y 1)).trans (congrArg (((cfg0.win 7).blk t).view.read (Elt Ideal) (G7 m c)) hy.symm))

theorem covered7 (i : S16384x128.Idx) : ∃ t : Fin cfg0.N, (cfg0.win 7).flush t = true ∧ i ∈ ((cfg0.win 7).blk t).view.set := by
  have h0 : (i 0).val < 16384 := (i 0).isLt
  have h1 : (i 1).val < 128 := (i 1).isLt
  obtain ⟨t, ht⟩ : ∃ t : Fin cfg0.N, t.val = 5 * ((i 0).val / 1024) + 4 :=
    ⟨⟨5 * ((i 0).val / 1024) + 4, lt_of_lt_of_eq (by omega) N_0.symm⟩, rfl⟩
  refine ⟨t, (flush0_7 t).mpr (by omega), ?_⟩
  rw [mem_blk7]
  intro a
  match a with
  | ⟨0, _⟩ => show win0_7.index t 0 * 1024 ≤ (i 0).val ∧ (i 0).val < win0_7.index t 0 * 1024 + 1024; rw [(idx7 t).1, ht]; omega
  | ⟨1, _⟩ => show win0_7.index t 1 * 128 ≤ (i 1).val ∧ (i 1).val < win0_7.index t 1 * 128 + 128; rw [(idx7 t).2]; omega

theorem final7 (c : Dev nD) : (dats m 0 c).arrAt 7 cfg0.N = G7 m c :=
  (dats m 0 c).arrAt_eq_of_cover 7 _ (fun t _ => flushed7 m c t) (covered7)

end Cert.InprojIdeal.Arrays

end
-- ==== Proof.Inproj.Ref.lean ====
/-
  The reference's two arrays, read at one entry.
-/
module

public import proofs.«01_k».proof.Proof.Inproj.Pay
public import proofs.«01_k».proof.Proof.Gen.InprojRefIdeal.Read
public import Idealize.ShloMosaic.Lib.Pointwise

@[expose] public section

set_option maxRecDepth 16384

noncomputable section

open Idealize.ShloMosaic Idealize.ShloMosaic.TcCoe Idealize.SL.Sem

namespace Cert.InprojEqual

open Cert.InprojRefIdeal Cert.InprojRefIdeal.Read Cert.InprojIdeal.Pay Cert.Spec

variable (a0 : FVec Ideal S16384x1024 .f32) (a1 a2 : FVec Ideal S1x1024 .f32) (a3 : FVec Ideal S2x1024 .f32) (a4 : FVec Ideal S2x1024x7696 .f32)

/-- All the projections of a row. -/
theorem ref_all (r : Fin 16384) (j : Fin 7696) :
    val_main_v23 (F := Ideal) a0 a1 a2 a3 a4 (ix2 r j) = proj (hrow (fun k => a0 (ix2 r k)) (fun k => a3 (ix2 0 k)) (fun k => a1 (ix2 0 k)) (fun k => a2 (ix2 0 k))) (fun k => a4 (ix3 0 k j)) := by
  unfold proj hrow
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_cst_2, val_main_v15, val_main_v16, val_main_v17, val_main_v18, val_main_v19, val_main_v20, val_main_v21, val_main_v22, val_main_v23]

/-- The first result. -/
theorem ref_main (r : Fin 16384) (j : Fin 7680) :
    val_main_v27 (F := Ideal) a0 a1 a2 a3 a4 (ix2 r j) = proj (hrow (fun k => a0 (ix2 r k)) (fun k => a3 (ix2 0 k)) (fun k => a1 (ix2 0 k)) (fun k => a2 (ix2 0 k))) (fun k => a4 (ix3 0 k (colOf j))) := by
  rw [← ref_all]
  unfold colOf
  pointwise [val_main_v27, val_main_v26, val_main_v25, val_main_v24]
  split
  · rfl
  · split <;> rfl

/-- The gates. -/
theorem ref_gate (r : Fin 16384) (j : Fin 128) :
    val_main_v29 (F := Ideal) a0 a1 a2 a3 a4 (ix2 r j) = proj (hrow (fun k => a0 (ix2 r k)) (fun k => a3 (ix2 0 k)) (fun k => a1 (ix2 0 k)) (fun k => a2 (ix2 0 k))) (fun k => gateW (fun k j => a4 (ix3 0 k j)) k j) := by
  have e : val_main_v29 (F := Ideal) a0 a1 a2 a3 a4 (ix2 r j)
      = if h : j.val < 16 then val_main_v23 (F := Ideal) a0 a1 a2 a3 a4 (ix2 r ⟨1024 + j.val, by omega⟩) else 0 := by
    pointwise [val_main_v29, val_main_v28, val_main_call0_v0, val_main_c]
    rw [zero_conv]
  rw [e]
  unfold gateW
  split
  · exact ref_all ..
  · unfold proj
    simp only [mul_zero, Finset.sum_const_zero]

end Cert.InprojEqual

end
-- ==== Proof.Inproj.Equal.lean ====
/-
  The input projection and its reference leave the same two arrays.
-/
module

public import proofs.«01_k».proof.Defs
public import proofs.«01_k».proof.Proof.Inproj.Arrays
public import proofs.«01_k».proof.Proof.Inproj.Ref
public import proofs.«01_k».proof.Proof.Gen.Inproj
public import proofs.«01_k».proof.Proof.Gen.InprojRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.InprojEqual

/-- The two programs have the same text, so their bodies are the same. -/
theorem bodies_eq {F : FTy → Type} [FloatOps F] : Cert.Inproj.defs₀ (F := F) = Cert.InprojIdeal.defs₀ (F := F) := by
  unfold Cert.Inproj.defs₀ Cert.InprojIdeal.defs₀
  refine congrArg Defs.onTc ?_
  funext l x
  match l with
  | ⟨0, _⟩ => rfl

theorem defs_eq {F : FTy → Type} [FloatOps F] : Cert.Inproj.defs (F := F) = Cert.InprojIdeal.defs (F := F) :=
  congrArg (Pipeline.defs (Cert.InprojIdeal.pcfgs (F := F))) bodies_eq

/-- The kernel's frame, from the one run. -/
theorem frame_bits : @Cert.quiescent_Inproj Cert.Inproj.Gen.facts := fun m ρ _ => by
  rw [defs_eq]
  exact Cert.InprojIdeal.Frame.frame (F := Bits) m ρ

/-- The reference ends with its arguments unchanged and no semaphore counted (it has none). -/
theorem ref_frame (m : (ℓ : Loc Cert.InprojRefIdeal.nD Cert.InprojRefIdeal.τ Cert.InprojRefIdeal.sig) → Buf (Elt Ideal) ℓ)
    (ρ : Dev Cert.InprojRefIdeal.nD → PrngReg) :
    θ_run (Cert.InprojRefIdeal.defs (F := Ideal)) (onTc (τ := Cert.InprojRefIdeal.τ) (Cert.InprojRefIdeal.main (F := Ideal))) ⟨m, fun _ => 0, ρ⟩
      fun r => (∀ c : Dev Cert.InprojRefIdeal.nD,
        r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
        ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
        ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
        ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
        ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
        ∧ r.2.sem = fun _ => 0 :=
  (θ_run _ _ _).mono (fun r h => ⟨fun c => (h c).2.2, sem_eq_zero_of_no_sems (by decide) r.2⟩) (Cert.InprojRefIdeal.Value.run m ρ)

variable (m : (ℓ : Loc Cert.InprojIdeal.nD Cert.InprojIdeal.τ Cert.InprojIdeal.sig) → Buf (Elt Ideal) ℓ)

/-- The kernel's run, read: its two arrays, and its arguments unchanged. -/
theorem run (g : Dev Cert.InprojIdeal.nD → PrngReg) :
    θ_run (Cert.InprojIdeal.defs (F := Ideal)) (onTc (τ := Cert.InprojIdeal.τ) (Cert.InprojIdeal.main (F := Ideal))) ⟨m, fun _ => 0, g⟩
      fun r => ∀ c : Dev Cert.InprojIdeal.nD,
        r.2.mem ((c.tc : Thread Cert.InprojIdeal.nD Cert.InprojIdeal.τ).loc Cert.InprojIdeal.main_v9_0) = Cert.InprojIdeal.Arrays.G6 m c
        ∧ r.2.mem ((c.tc : Thread Cert.InprojIdeal.nD Cert.InprojIdeal.τ).loc Cert.InprojIdeal.main_v9_1) = Cert.InprojIdeal.Arrays.G7 m c
        ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
        ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
        ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
        ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
        ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4) := by
  refine (θ_run _ _ _).mono (fun r h c => ?_) (θ_run_and (Cert.InprojIdeal.Frame.run_main (F := Ideal) m g) (Cert.InprojIdeal.Frame.unchanged (F := Ideal) m g))
  exact ⟨((h.1 c).1 6).trans (Cert.InprojIdeal.Arrays.final6 m c), ((h.1 c).1 7).trans (Cert.InprojIdeal.Arrays.final7 m c), h.2 c⟩

theorem algebraic : @Cert.algebraic_InprojIdeal_InprojRefIdeal Cert.InprojIdeal.Gen.facts Cert.InprojRefIdeal.Gen.facts := by
  intro m g m' g' _ hargs
  refine ⟨fun c => Cert.InprojIdeal.Arrays.G6 m c, fun c => Cert.InprojIdeal.Arrays.G7 m c, run m g, ?_⟩
  refine (θ_run _ _ _).mono (fun r h c => ⟨?_, ?_, (h c).2.2⟩) (Cert.InprojRefIdeal.Value.run m' g')
  · refine (h c).1.trans ?_
    obtain ⟨h0, h1, h2, h3, h4⟩ := hargs c
    refine (Cert.InprojRefIdeal.Read.val_main_v27_eq m' c).trans ?_
    rw [h0, h1, h2, h3, h4]
    funext i
    have hi : i = ix2 (i 0) (i 1) := by
      funext a
      match a with
      | ⟨0, _⟩ => rfl
      | ⟨1, _⟩ => rfl
    rw [hi]
    exact ref_main _ _ _ _ _ _ _
  · refine (h c).2.1.trans ?_
    obtain ⟨h0, h1, h2, h3, h4⟩ := hargs c
    refine (Cert.InprojRefIdeal.Read.val_main_v29_eq _ _ _ _ _).trans ?_
    rw [h0, h1, h2, h3, h4]
    funext i
    have hi : i = ix2 (i 0) (i 1) := by
      funext a
      match a with
      | ⟨0, _⟩ => rfl
      | ⟨1, _⟩ => rfl
    rw [hi]
    exact ref_gate _ _ _ _ _ _ _

end Cert.InprojEqual

end
-- ==== Proof.InprojSample.Run.lean ====
/-
  The body of the input projection's kernel, run once: at the first column block of a row block it stores the
  normalised rows in the scratch array and the gates' product in the second output; at every column block it stores
  the product of the scratch array with the block's weights in the first output.
-/
module

public import proofs.«01_k».proof.Proof.Gen.InprojSampleIdeal.Frame
public import proofs.«01_k».proof.Proof.Gen.InprojSampleIdeal.Skeleton
public import Idealize.ShloMosaic.Lib.Pipeline.Value

@[expose] public section

set_option maxRecDepth 16384

noncomputable section

namespace Cert.InprojSampleIdeal.Frame

open Cert.InprojSampleIdeal Cert.InprojSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- The body at a first column block. -/
theorem run_first (c : Dev nD) (i : grid0.Coords) (arg2 : Memref sig .tc .vmem S128x1024 .f32) (harg2 : arg2.IsWhole) (arg3 : Memref sig .tc .vmem S1x1x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S1x1024x1536 .bf16) (harg6 : arg6.IsWhole) (arg7 : Memref sig .tc .vmem S1x1024x128 .bf16) (harg7 : arg7.IsWhole) (arg8 : Memref sig .tc .vmem S128x1536 .f32) (harg8 : arg8.IsWhole) (arg9 : Memref sig .tc .vmem S128x128 .f32) (harg9 : arg9.IsWhole) (arg10 : Memref sig .tc .vmem S128x1024 .bf16) (harg10 : arg10.IsWhole) (hc : k0_cond1 i = 1#1)
    (x0 : Vec F S128x1024 .f32) (x1 : Vec F S1x1x1024 .f32) (x2 : Vec F S128x1024 .f32) (x3 : Vec F S128x1024 .f32) (x4 : Vec F S1x1024x1536 .bf16) (x5 : Vec F S1x1024x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 (k0_pay2 x0 x1 x2 x3) x4) ∗ owns (c : Thread nD τ) arg9 fullShare (k0_pay3 x0 x1 x2 x3 x5) ∗ owns (c : Thread nD τ) arg10 fullShare (k0_pay2 x0 x1 x2 x3)) -∗ K ⟨⟩))
      ⊢ wp frame (wpE (defs₀ (F := F)) Variants.none c none) E (cc0__inproj_kernel i arg2 harg2 arg3 harg3 arg4 harg4 arg5 harg5 arg6 harg6 arg7 harg7 arg8 harg8 arg9 harg9 arg10 harg10) K := by
  simp only [cc0__inproj_kernel_eq_skeleton]; unfold cc0__inproj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    rw [View.read_writes_eq_canon _ _ _ (fun y => View.cover_of_tiledL _ S128x1536.size (by sl_kernel_rfl) y)]
    sl_unfold_words
    simp only [View.canon_cons_unit_zero (S := S128x1024) hz2, View.canon_unit_zero (S := S128x1024) hz2, View.readCov_unit_zero (S := S128x1024) _ hz2, View.ld_unit_zero (S := S128x1024) hz2, View.canon_cons_unit_zero (S := S128x128) hz2, View.canon_unit_zero (S := S128x128) hz2, View.readCov_unit_zero (S := S128x128) _ hz2, View.ld_unit_zero (S := S128x128) hz2, View.canon_cons_unit_zero (S := S128x1536) hz2, View.canon_unit_zero (S := S128x1536) hz2, View.readCov_unit_zero (S := S128x1536) _ hz2, View.ld_unit_zero (S := S128x1536) hz2, View.canon_cons_unit_zero (S := S128x1024) hz2, View.canon_unit_zero (S := S128x1024) hz2, View.readCov_unit_zero (S := S128x1024) _ hz2, View.ld_unit_zero (S := S128x1024) hz2, View.ld_unit_zero (S := S1x1024x128) hz3, View.ld_unit_zero (S := S1x1024x1536) hz3, View.ld_unit_zero (S := S1x1x1024) hz3, View.readAt_eq_ld, harg2.read_unread, harg3.read_unread, harg4.read_unread, harg5.read_unread, harg6.read_unread, harg7.read_unread, harg8.read_unread, harg9.read_unread, harg10.read_unread]
  isplitl [H7]
  · iexists _; isplitr
    swap; · iexact H7
    ipureintro
    rw [View.read_writes_eq_canon _ _ _ (fun y => View.cover_of_tiledL _ S128x128.size (by sl_kernel_rfl) y)]
    sl_unfold_words
    simp only [View.canon_cons_unit_zero (S := S128x1024) hz2, View.canon_unit_zero (S := S128x1024) hz2, View.readCov_unit_zero (S := S128x1024) _ hz2, View.ld_unit_zero (S := S128x1024) hz2, View.canon_cons_unit_zero (S := S128x128) hz2, View.canon_unit_zero (S := S128x128) hz2, View.readCov_unit_zero (S := S128x128) _ hz2, View.ld_unit_zero (S := S128x128) hz2, View.canon_cons_unit_zero (S := S128x1536) hz2, View.canon_unit_zero (S := S128x1536) hz2, View.readCov_unit_zero (S := S128x1536) _ hz2, View.ld_unit_zero (S := S128x1536) hz2, View.canon_cons_unit_zero (S := S128x1024) hz2, View.canon_unit_zero (S := S128x1024) hz2, View.readCov_unit_zero (S := S128x1024) _ hz2, View.ld_unit_zero (S := S128x1024) hz2, View.ld_unit_zero (S := S1x1024x128) hz3, View.ld_unit_zero (S := S1x1024x1536) hz3, View.ld_unit_zero (S := S1x1x1024) hz3, View.readAt_eq_ld, harg2.read_unread, harg3.read_unread, harg4.read_unread, harg5.read_unread, harg6.read_unread, harg7.read_unread, harg8.read_unread, harg9.read_unread, harg10.read_unread]
  iexists _; isplitr
  swap; · iexact H8
  ipureintro
  rw [View.read_writes_eq_canon _ _ _ (fun y => View.cover_of_tiledL _ S128x1024.size (by sl_kernel_rfl) y)]
  sl_unfold_words
  simp only [View.canon_cons_unit_zero (S := S128x1024) hz2, View.canon_unit_zero (S := S128x1024) hz2, View.readCov_unit_zero (S := S128x1024) _ hz2, View.ld_unit_zero (S := S128x1024) hz2, View.canon_cons_unit_zero (S := S128x128) hz2, View.canon_unit_zero (S := S128x128) hz2, View.readCov_unit_zero (S := S128x128) _ hz2, View.ld_unit_zero (S := S128x128) hz2, View.canon_cons_unit_zero (S := S128x1536) hz2, View.canon_unit_zero (S := S128x1536) hz2, View.readCov_unit_zero (S := S128x1536) _ hz2, View.ld_unit_zero (S := S128x1536) hz2, View.canon_cons_unit_zero (S := S128x1024) hz2, View.canon_unit_zero (S := S128x1024) hz2, View.readCov_unit_zero (S := S128x1024) _ hz2, View.ld_unit_zero (S := S128x1024) hz2, View.ld_unit_zero (S := S1x1024x128) hz3, View.ld_unit_zero (S := S1x1024x1536) hz3, View.ld_unit_zero (S := S1x1x1024) hz3, View.readAt_eq_ld, harg2.read_unread, harg3.read_unread, harg4.read_unread, harg5.read_unread, harg6.read_unread, harg7.read_unread, harg8.read_unread, harg9.read_unread, harg10.read_unread]

set_option maxHeartbeats 1000000 in
/-- The body at a later column block: the second output and the scratch array stay. -/
theorem run_rest (c : Dev nD) (i : grid0.Coords) (arg2 : Memref sig .tc .vmem S128x1024 .f32) (harg2 : arg2.IsWhole) (arg3 : Memref sig .tc .vmem S1x1x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S1x1024x1536 .bf16) (harg6 : arg6.IsWhole) (arg7 : Memref sig .tc .vmem S1x1024x128 .bf16) (harg7 : arg7.IsWhole) (arg8 : Memref sig .tc .vmem S128x1536 .f32) (harg8 : arg8.IsWhole) (arg9 : Memref sig .tc .vmem S128x128 .f32) (harg9 : arg9.IsWhole) (arg10 : Memref sig .tc .vmem S128x1024 .bf16) (harg10 : arg10.IsWhole) (hc : ¬ k0_cond1 i = 1#1)
    (x0 : Vec F S128x1024 .f32) (x1 : Vec F S1x1x1024 .f32) (x2 : Vec F S128x1024 .f32) (x3 : Vec F S128x1024 .f32) (x4 : Vec F S1x1024x1536 .bf16) (x5 : Vec F S1x1024x128 .bf16) (x7 : Vec F S128x128 .f32) (x8 : Vec F S128x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ owns (c : Thread nD τ) arg10 fullShare x8
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 x8 x4) ∗ owns (c : Thread nD τ) arg9 fullShare x7 ∗ owns (c : Thread nD τ) arg10 fullShare x8) -∗ K ⟨⟩))
      ⊢ wp frame (wpE (defs₀ (F := F)) Variants.none c none) E (cc0__inproj_kernel i arg2 harg2 arg3 harg3 arg4 harg4 arg5 harg5 arg6 harg6 arg7 harg7 arg8 harg8 arg9 harg9 arg10 harg10) K := by
  simp only [cc0__inproj_kernel_eq_skeleton]; unfold cc0__inproj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    rw [View.read_writes_eq_canon _ _ _ (fun y => View.cover_of_tiledL _ S128x1536.size (by sl_kernel_rfl) y)]
    sl_unfold_words
    simp only [View.canon_cons_unit_zero (S := S128x1024) hz2, View.canon_unit_zero (S := S128x1024) hz2, View.readCov_unit_zero (S := S128x1024) _ hz2, View.ld_unit_zero (S := S128x1024) hz2, View.canon_cons_unit_zero (S := S128x128) hz2, View.canon_unit_zero (S := S128x128) hz2, View.readCov_unit_zero (S := S128x128) _ hz2, View.ld_unit_zero (S := S128x128) hz2, View.canon_cons_unit_zero (S := S128x1536) hz2, View.canon_unit_zero (S := S128x1536) hz2, View.readCov_unit_zero (S := S128x1536) _ hz2, View.ld_unit_zero (S := S128x1536) hz2, View.canon_cons_unit_zero (S := S128x1024) hz2, View.canon_unit_zero (S := S128x1024) hz2, View.readCov_unit_zero (S := S128x1024) _ hz2, View.ld_unit_zero (S := S128x1024) hz2, View.ld_unit_zero (S := S1x1024x128) hz3, View.ld_unit_zero (S := S1x1024x1536) hz3, View.ld_unit_zero (S := S1x1x1024) hz3, View.readAt_eq_ld, harg2.read_unread, harg3.read_unread, harg4.read_unread, harg5.read_unread, harg6.read_unread, harg7.read_unread, harg8.read_unread, harg9.read_unread, harg10.read_unread]
  isplitl [H7]
  · iexists _; isplitr; · ipureintro; exact harg9.read_unread _
    iexact H7
  iexists _; isplitr; · ipureintro; exact harg10.read_unread _
  iexact H8

end Cert.InprojSampleIdeal.Frame

end
-- ==== Proof.InprojSample.Body.lean ====
/-
  The input projection's pipeline, point by point: what its body leaves in the two outputs and in the scratch array, the
  body obligation from the two runs, and the run of the whole program.

  A row block's five points are `5 * b, …, 5 * b + 4`. The scratch array and the second output are stored at the first of
  them and stay until the last, at whose end the second output is written back.
-/
module

public import proofs.«01_k».proof.Proof.InprojSample.Run
public import Idealize.ShloMosaic.Lib.Claim

@[expose] public section

set_option maxRecDepth 16384

noncomputable section

namespace Cert.InprojSampleIdeal.Frame

open Cert.InprojSampleIdeal Cert.InprojSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of `t`'s row block. -/
def base (t : Fin cfg0.N) : Fin cfg0.N := ⟨5 * (t.val / 5), by have := t.isLt; omega⟩

/-- The normalised rows of `t`'s row block. -/
def hval (c : Dev nD) (t : Fin cfg0.N) : Vec F S128x1024 .bf16 :=
  k0_pay2 (iblk m c 0 (base t)) (iblk m c 1 (base t)) (iblk m c 2 (base t)) (iblk m c 3 (base t))

/-- The gates' product of `t`'s row block. -/
def gval (c : Dev nD) (t : Fin cfg0.N) : Vec F S128x128 .f32 :=
  k0_pay3 (iblk m c 0 (base t)) (iblk m c 1 (base t)) (iblk m c 2 (base t)) (iblk m c 3 (base t)) (iblk m c 5 (base t))

theorem base_first (t : Fin cfg0.N) (h : t.val % 5 = 0) : base t = t :=
  Fin.ext (by show 5 * (t.val / 5) = t.val; omega)

theorem base_prev (t : Fin cfg0.N) (h : t.val % 5 ≠ 0) (hp : t.val - 1 < cfg0.N) : base ⟨t.val - 1, hp⟩ = base t :=
  Fin.ext (by show 5 * ((t.val - 1) / 5) = 5 * (t.val / 5); omega)

theorem hval_prev (c : Dev nD) (t : Fin cfg0.N) (h : t.val % 5 ≠ 0) (hp : t.val - 1 < cfg0.N) :
    hval m c ⟨t.val - 1, hp⟩ = hval m c t := by
  unfold hval; rw [base_prev t h hp]

theorem gval_prev (c : Dev nD) (t : Fin cfg0.N) (h : t.val % 5 ≠ 0) (hp : t.val - 1 < cfg0.N) :
    gval m c ⟨t.val - 1, hp⟩ = gval m c t := by
  unfold gval; rw [base_prev t h hp]

/-- The body's condition holds at the first point of a row block. -/
theorem hcond : ∀ t : Fin cfg0.N, k0_cond1 (grid0.coords t) = 1#1 ↔ t.val % 5 = 0 := by decide +kernel

theorem idle7 (t : Fin cfg0.N) (h : t.val % 5 ≠ 0) : cfg0.idle 7 (grid0.coords t) = true := by
  show (!(k0_cond1 (grid0.coords t) == 1#1)) = true
  rw [Bool.not_eq_true', beq_eq_false_iff_ne]
  exact fun e => h ((hcond t).mp e)

theorem live7 (t : Fin cfg0.N) (h : t.val % 5 = 0) : cfg0.idle 7 (grid0.coords t) = false := by
  show (!(k0_cond1 (grid0.coords t) == 1#1)) = false
  rw [Bool.not_eq_false', beq_iff_eq]
  exact (hcond t).mpr h

abbrev scM0_0 : Memref sig .tc .vmem S128x1024 .bf16 := Memref.whole cc0_scratch0

theorem PhiA0_eq (c : Dev nD) :
    (Pipeline.ΦA spec0 c : sProp 𝕄)
      = iprop((∃ d, owns (c : Thread nD τ) scM0_0 fullShare d) ∗ (∃ r, prngReg c r)) := by
  unfold Pipeline.ΦA; rw [scopedRest0_eq]; simp only [scM0_0, owns_whole]; try rfl

/-- What holds between points: the scratch array at the rows the point before left in it. -/
def PhiS (c : Dev nD) : (n : ℕ) → n ≤ cfg0.N → sProp 𝕄
  | 0, _ => Pipeline.ΦA spec0 c
  | n + 1, hn => iprop(owns (c : Thread nD τ) scM0_0 fullShare (hval m c ⟨n, hn⟩) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM0_0 fullShare (hval m c ⟨n, hn⟩) ∗ (∃ r, prngReg c r)) := rfl

theorem PhiS_pos (c : Dev nD) (n : ℕ) (h : n ≤ cfg0.N) (hz : n ≠ 0) :
    PhiS m c n h = iprop(owns (c : Thread nD τ) scM0_0 fullShare (hval m c ⟨n - 1, by omega⟩) ∗ (∃ r, prngReg c r)) := by
  cases n with
  | zero => exact absurd rfl hz
  | succ n => rfl

/-- The pipeline's proof data: each input's buffer at its block, the outputs at the products. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay4 (hval m c t) (iblk m c 4 t)
    | ⟨7, _⟩ => gval m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = k0_pay4 (hval m c t) (iblk m c 4 t) := by dsimp only [dats]
theorem after0_7 (c : Dev nD) (t : Fin cfg0.N) : (dats m 0 c).after 7 t = gval m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Past a row block's first point the second output's buffer holds the gates' product. -/
theorem before0_7 (c : Dev nD) : ∀ (k : ℕ) (t : Fin cfg0.N), t.val % 5 = k + 1 → ∀ d, (dats m 0 c).before 7 t d = gval m c t := by
  intro k
  induction k with
  | zero =>
    intro t ht d
    have hlt := t.isLt
    have hz : t.val ≠ 0 := by omega
    have hp : t.val - 1 < cfg0.N := by omega
    have hfl : (cfg0.win 7).flush ⟨t.val - 1, hp⟩ = false := by
      rw [Bool.eq_false_iff]
      exact fun e => by have := (flush0_7 ⟨t.val - 1, hp⟩).mp e; dsimp only at this; omega
    rw [(dats m 0 c).before_of_pos 7 t hz ((cfg0.win 7).fetch_out rfl t), hfl, if_neg Bool.false_ne_true]
    unfold Dat.left
    rw [live7 ⟨t.val - 1, hp⟩ (by dsimp only; omega)]
    dsimp only
    unfold Dat.kept
    rw [Pipeline.fill_of_clip_none 7 _ (fun _ => rfl) d ((dats m 0 c).after 7 ⟨t.val - 1, hp⟩), Pipeline.Window.fill_cut, after0_7,
      gval_prev m c t (by omega)]
  | succ k ih =>
    intro t ht d
    have hlt := t.isLt
    have hz : t.val ≠ 0 := by omega
    have hp : t.val - 1 < cfg0.N := by omega
    have hfl : (cfg0.win 7).flush ⟨t.val - 1, hp⟩ = false := by
      rw [Bool.eq_false_iff]
      exact fun e => by have := (flush0_7 ⟨t.val - 1, hp⟩).mp e; dsimp only at this; omega
    rw [(dats m 0 c).before_of_pos 7 t hz ((cfg0.win 7).fetch_out rfl t), hfl, if_neg Bool.false_ne_true]
    unfold Dat.left
    rw [idle7 ⟨t.val - 1, hp⟩ (by dsimp only; omega)]
    dsimp only
    rw [ih ⟨t.val - 1, hp⟩ (by dsimp only; omega) d, gval_prev m c t (by omega)]

/-- What the second output's buffer must hold after a point past the first of its row block. -/
theorem leaves7 (c : Dev nD) (t : Fin cfg0.N) (h : t.val % 5 ≠ 0) :
    owns (c : Thread nD τ) (st0_7 t) fullShare (gval m c t) ⊢ ((dats m 0 c).leavesExact 7 t : sProp 𝕄) := by
  unfold Dat.leavesExact
  rw [idle7 t h]
  dsimp only
  cases hf : (cfg0.win 7).flush t
  · dsimp only
    iintro H
    iexists (gval m c t)
    rw [before0_7 m c (t.val % 5 - 1) t (by omega)]
    iexact H
  · dsimp only
    rw [after0_7]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (st0_0 t) fullShare ((dats m 0 c).after 0 t) from rfl, after0_0]
  rw [show (dats m 0 c).leavesExact 1 t = owns (c : Thread nD τ) (st0_1 t) fullShare ((dats m 0 c).after 1 t) from rfl, after0_1]
  rw [show (dats m 0 c).leavesExact 2 t = owns (c : Thread nD τ) (st0_2 t) fullShare ((dats m 0 c).after 2 t) from rfl, after0_2]
  rw [show (dats m 0 c).leavesExact 3 t = owns (c : Thread nD τ) (st0_3 t) fullShare ((dats m 0 c).after 3 t) from rfl, after0_3]
  rw [show (dats m 0 c).leavesExact 4 t = owns (c : Thread nD τ) (st0_4 t) fullShare ((dats m 0 c).after 4 t) from rfl, after0_4]
  rw [show (dats m 0 c).leavesExact 5 t = owns (c : Thread nD τ) (st0_5 t) fullShare ((dats m 0 c).after 5 t) from rfl, after0_5]
  rw [show (dats m 0 c).leavesExact 6 t = owns (c : Thread nD τ) (st0_6 t) fullShare ((dats m 0 c).after 6 t) from rfl, after0_6]
  by_cases h0 : t.val % 5 = 0
  · rw [show (dats m 0 c).leavesExact 7 t = owns (c : Thread nD τ) (st0_7 t) fullShare ((dats m 0 c).after 7 t) from by
      unfold Dat.leavesExact; rw [live7 t h0], after0_7]
    have eh : hval m c t = k0_pay2 (iblk m c 0 t) (iblk m c 1 t) (iblk m c 2 t) (iblk m c 3 t) := by unfold hval; rw [base_first t h0]
    have eg : gval m c t = k0_pay3 (iblk m c 0 t) (iblk m c 1 t) (iblk m c 2 t) (iblk m c 3 t) (iblk m c 5 t) := by unfold gval; rw [base_first t h0]
    rw [show (⟨t.val, t.isLt⟩ : Fin cfg0.N) = t from rfl, eh, eg]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_first c (grid0.coords t) _ _ _ _ _ _ _ _ _ _ _ _ _ _ _ _ _ _ ((hcond t).mpr h0) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, H6, H7, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_first c (grid0.coords t) _ _ _ _ _ _ _ _ _ _ _ _ _ _ _ _ _ _ ((hcond t).mpr h0) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexists _; iexact HS0
      iintro ⟨H0, H1, H2, H3, H4, H5, H6, H7, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hz : t.val ≠ 0 := fun e => h0 (by rw [e])
    rw [PhiS_castSucc m c t, PhiS_pos m c _ _ hz]
    simp only [before0_7 m c (t.val % 5 - 1) t (by omega), hval_prev m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_rest c (grid0.coords t) _ _ _ _ _ _ _ _ _ _ _ _ _ _ _ _ _ _ (fun h => h0 ((hcond t).mp h)) (iblk m c 0 t) (iblk m c 1 t) (iblk m c 2 t) (iblk m c 3 t) (iblk m c 4 t) (iblk m c 5 t) (gval m c t) (hval m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    iintro ⟨H0, H1, H2, H3, H4, H5, H6, H7, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (leaves7 m c t h0)
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 5 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The program ends with its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.InprojSampleIdeal.Frame

end
-- ==== Proof.InprojSample.Pay.lean ====
/-
  The values the sample group's input projection's body computes, read at one position, in plain arithmetic.
-/
module

public import proofs.«01_k».proof.Proof.InprojSample.Body
public import proofs.«01_k».proof.Proof.Inproj.Pay
public import Idealize.ShloMosaic.Lib.Pointwise

@[expose] public section

set_option maxRecDepth 16384

noncomputable section

open Idealize.ShloMosaic Idealize.ShloMosaic.TcCoe Idealize.SL.Sem

namespace Cert.InprojSampleIdeal.Pay

open Cert.InprojSampleIdeal Cert.InprojSampleIdeal.Gen Cert.Spec
open Cert.InprojIdeal.Pay (colOf gateW zero_conv proj)

/-- The modulated normalised rows. -/
theorem h_apply (x0 : FVec Ideal S128x1024 .f32) (x1 : FVec Ideal S1x1x1024 .f32) (x2 x3 : FVec Ideal S128x1024 .f32) (r : Fin 128) (d : Fin 1024) :
    k0_pay2 (F := Ideal) x0 x1 x2 x3 (ix2 r d)
      = hrow (fun k => x0 (ix2 r k)) (fun k => x1 (ix3 0 0 k)) (fun k => x2 (ix2 r k)) (fun k => x3 (ix2 r k)) d := by
  unfold hrow
  pointwise [k0_pay2, k0_pay1]

/-- A block of the first result. -/
theorem main_apply (h : FVec Ideal S128x1024 .bf16) (w : FVec Ideal S1x1024x1536 .bf16) (r : Fin 128) (j : Fin 1536) :
    k0_pay4 (F := Ideal) h w (ix2 r j) = proj (fun k => h (ix2 r k)) (fun k => w (ix3 0 k j)) := by
  unfold proj
  pointwise [k0_pay4]

/-- A block of the gates. -/
theorem gate_apply (x0 : FVec Ideal S128x1024 .f32) (x1 : FVec Ideal S1x1x1024 .f32) (x2 x3 : FVec Ideal S128x1024 .f32)
    (w : FVec Ideal S1x1024x128 .bf16) (r : Fin 128) (j : Fin 128) :
    k0_pay3 (F := Ideal) x0 x1 x2 x3 w (ix2 r j)
      = proj (hrow (fun k => x0 (ix2 r k)) (fun k => x1 (ix3 0 0 k)) (fun k => x2 (ix2 r k)) (fun k => x3 (ix2 r k))) (fun k => w (ix3 0 k j)) := by
  unfold proj hrow
  pointwise [k0_pay3, k0_pay1]

end Cert.InprojSampleIdeal.Pay

end
-- ==== Proof.InprojSample.Blocks.lean ====
/-
  The blocks the input projection's body is handed, as entries of the arguments.
-/
module

public import proofs.«01_k».proof.Proof.InprojSample.Pay

@[expose] public section

set_option maxRecDepth 16384

noncomputable section

open Idealize.ShloMosaic Idealize.ShloMosaic.TcCoe Idealize.SL.Sem

namespace Cert.InprojSampleIdeal.Blocks

open Cert.InprojSampleIdeal Cert.InprojSampleIdeal.Gen Cert.InprojSampleIdeal.Pay
open Cert.InprojIdeal.Pay (colOf gateW zero_conv proj)

variable (m : (ℓ : Loc nD τ sig) → Buf (Elt Ideal) ℓ)

/-- The weight with its columns in the order of the first result. -/
theorem V_v4 (c : Dev nD) : V m c main_v4 = (truncf .bf16 (concatenate S2x1024x7680 2 [⟨S2x1024x3072, extractStridedSlice S2x1024x3072 ![0, 0, 4624] (m ((c : Thread nD τ).loc main_arg4)) slices_S2x1024x7696_S2x1024x3072_0_0_4624⟩,
      ⟨S2x1024x1024, extractStridedSlice S2x1024x1024 ![0, 0, 0] (m ((c : Thread nD τ).loc main_arg4)) slices_S2x1024x7696_S2x1024x1024_0_0_0⟩,
      ⟨S2x1024x3584, extractStridedSlice S2x1024x3584 ![0, 0, 1040] (m ((c : Thread nD τ).loc main_arg4)) slices_S2x1024x7696_S2x1024x3584_0_0_1040⟩]
      concatenates_S2x1024x3072_S2x1024x1024_S2x1024x3584_S2x1024x7680_d2 : FVec Ideal S2x1024x7680 .f32) bitsLt_bf16_f32 : FVec Ideal S2x1024x7680 .bf16) := by
  show StableHlo.after _ _ (Proc.devRef .tc main_v4) = _
  unfold hostOps0 hostOps0_1 hostOps0_2
  simp only [List.flatten_cons, List.flatten_nil, List.append_nil, List.cons_append, List.nil_append]
  after_results
  try rfl

/-- The gates' weight, filled up with zeros. -/
theorem V_v7 (c : Dev nD) : V m c main_v7 = (truncf .bf16 (pad S2x1024x128 ![0, 0, 0] ![0, 0, 112] ![0, 0, 0] (extractStridedSlice S2x1024x16 ![0, 0, 1024] (m ((c : Thread nD τ).loc main_arg4)) slices_S2x1024x7696_S2x1024x16_0_0_1024)
      (sitofp .f32 (constantI S_ 32 0#32)) pads_S2x1024x16_S2x1024x128_000_000_01120 h_S_ : FVec Ideal S2x1024x128 .f32) bitsLt_bf16_f32 : FVec Ideal S2x1024x128 .bf16) := by
  show StableHlo.after _ _ (Proc.devRef .tc main_v7) = _
  unfold hostOps0 hostOps0_1 hostOps0_2
  simp only [List.flatten_cons, List.flatten_nil, List.append_nil, List.cons_append, List.nil_append]
  after_results
  try rfl

/-- The norm's weight. -/
theorem V_v8 (c : Dev nD) : V m c main_v8 = broadcastInDim S2x1x1024 ![0, 2] bcast_S2x1024_S2x1x1024_0_2 (m ((c : Thread nD τ).loc main_arg3)) := by
  show StableHlo.after _ _ (Proc.devRef .tc main_v8) = _
  unfold hostOps0 hostOps0_1 hostOps0_2
  simp only [List.flatten_cons, List.flatten_nil, List.append_nil, List.cons_append, List.nil_append]
  after_results
  try rfl

/-- An entry of the reordered weight. -/
theorem v4_apply (c : Dev nD) (k : Fin 1024) (j : Fin 7680) :
    (V m c main_v4 : FVec Ideal S2x1024x7680 .bf16) (ix3 0 k j) = m ((c : Thread nD τ).loc main_arg4) (ix3 0 k (colOf j)) := by
  rw [V_v4]
  unfold colOf
  generalize m ((c : Thread nD τ).loc main_arg4) = w
  pointwise []
  split
  · rfl
  · split <;> rfl

/-- An entry of the gates' weight. -/
theorem v7_apply (c : Dev nD) (k : Fin 1024) (j : Fin 128) :
    (V m c main_v7 : FVec Ideal S2x1024x128 .bf16) (ix3 0 k j) = gateW (fun k j => m ((c : Thread nD τ).loc main_arg4) (ix3 0 k j)) k j := by
  rw [V_v7]
  unfold gateW
  generalize m ((c : Thread nD τ).loc main_arg4) = w
  pointwise []
  rw [zero_conv]

/-- The row of `x` that row `r` of the block at point `t` is. -/
def rowAt (t : Fin cfg0.N) (r : Fin 128) : Fin 128 :=
  ⟨128 * (t.val / 5) + r.val, by have : t.val < 5 := Nat.lt_of_lt_of_eq t.isLt N_0; omega⟩

/-- The column of the first result that column `j` of the block at point `t` is. -/
def colAt (t : Fin cfg0.N) (j : Fin 1536) : Fin 7680 :=
  ⟨1536 * (t.val % 5) + j.val, by omega⟩

variable (c : Dev nD) (t : Fin cfg0.N)

theorem idx0 : ∀ t : Fin cfg0.N, win0_0.index t 0 = t.val / 5 ∧ win0_0.index t 1 = 0 := by
  decide +kernel

theorem row_at (r : Fin 128) (d : Fin 1024) : (iblk m c 0 t : FVec Ideal S128x1024 .f32) (ix2 r d) = m ((c : Thread nD τ).loc main_arg0) (ix2 (rowAt t r) d) := by
  have hb : ((cfg0.win 0).blk t).view.read (Elt Ideal) (V m c (Pipeline.arrRef spec0 0)) (ix2 r d) = V m c main_arg0 (ix2 (rowAt t r) d) := by
    rw [View.read_apply]
    show V m c main_arg0 _ = V m c main_arg0 _
    congr 1
    funext a
    apply Fin.ext
    match a with
    | ⟨0, _⟩ => show win0_0.index t 0 * 128 + 1 * (r).val = (rowAt t r).val; rw [(idx0 t).1]; show _ = 128 * (t.val / 5) + r.val; omega
    | ⟨1, _⟩ => show win0_0.index t 1 * 1024 + 1 * (d).val = (d).val; rw [(idx0 t).2]; omega
  refine hb.trans ?_
  exact congrFun (V_main_arg0 m c) _

theorem idx1 : ∀ t : Fin cfg0.N, win0_1.index t 0 = 0 ∧ win0_1.index t 1 = 0 ∧ win0_1.index t 2 = 0 := by
  decide +kernel

theorem norm_at (d : Fin 1024) : (iblk m c 1 t : FVec Ideal S1x1x1024 .f32) (ix3 0 0 d) = m ((c : Thread nD τ).loc main_arg3) (ix2 0 d) := by
  have hb : ((cfg0.win 1).blk t).view.read (Elt Ideal) (V m c (Pipeline.arrRef spec0 1)) (ix3 0 0 d) = V m c main_v8 (ix3 0 0 d) := by
    rw [View.read_apply]
    show V m c main_v8 _ = V m c main_v8 _
    congr 1
    funext a
    apply Fin.ext
    match a with
    | ⟨0, _⟩ => show win0_1.index t 0 * 1 + 1 * 0 = 0; rw [(idx1 t).1]
    | ⟨1, _⟩ => show win0_1.index t 1 * 1 + 1 * 0 = 0; rw [(idx1 t).2.1]
    | ⟨2, _⟩ => show win0_1.index t 2 * 1024 + 1 * (d).val = (d).val; rw [(idx1 t).2.2]; omega
  refine hb.trans ?_
  rw [V_v8]
  pointwise []

theorem idx2 : ∀ t : Fin cfg0.N, win0_2.index t 0 = t.val / 5 ∧ win0_2.index t 1 = 0 := by
  decide +kernel

theorem scale_at (r : Fin 128) (d : Fin 1024) : (iblk m c 2 t : FVec Ideal S128x1024 .f32) (ix2 r d) = m ((c : Thread nD τ).loc main_arg1) (ix2 (rowAt t r) d) := by
  have hb : ((cfg0.win 2).blk t).view.read (Elt Ideal) (V m c (Pipeline.arrRef spec0 2)) (ix2 r d) = V m c main_arg1 (ix2 (rowAt t r) d) := by
    rw [View.read_apply]
    show V m c main_arg1 _ = V m c main_arg1 _
    congr 1
    funext a
    apply Fin.ext
    match a with
    | ⟨0, _⟩ => show win0_2.index t 0 * 128 + 1 * (r).val = (rowAt t r).val; rw [(idx2 t).1]; show _ = 128 * (t.val / 5) + r.val; omega
    | ⟨1, _⟩ => show win0_2.index t 1 * 1024 + 1 * (d).val = (d).val; rw [(idx2 t).2]; omega
  refine hb.trans ?_
  exact congrFun (V_main_arg1 m c) _

theorem idx3 : ∀ t : Fin cfg0.N, win0_3.index t 0 = t.val / 5 ∧ win0_3.index t 1 = 0 := by
  decide +kernel

theorem shift_at (r : Fin 128) (d : Fin 1024) : (iblk m c 3 t : FVec Ideal S128x1024 .f32) (ix2 r d) = m ((c : Thread nD τ).loc main_arg2) (ix2 (rowAt t r) d) := by
  have hb : ((cfg0.win 3).blk t).view.read (Elt Ideal) (V m c (Pipeline.arrRef spec0 3)) (ix2 r d) = V m c main_arg2 (ix2 (rowAt t r) d) := by
    rw [View.read_apply]
    show V m c main_arg2 _ = V m c main_arg2 _
    congr 1
    funext a
    apply Fin.ext
    match a with
    | ⟨0, _⟩ => show win0_3.index t 0 * 128 + 1 * (r).val = (rowAt t r).val; rw [(idx3 t).1]; show _ = 128 * (t.val / 5) + r.val; omega
    | ⟨1, _⟩ => show win0_3.index t 1 * 1024 + 1 * (d).val = (d).val; rw [(idx3 t).2]; omega
  refine hb.trans ?_
  exact congrFun (V_main_arg2 m c) _

theorem idx4 : ∀ t : Fin cfg0.N, win0_4.index t 0 = 0 ∧ win0_4.index t 1 = 0 ∧ win0_4.index t 2 = t.val % 5 := by
  decide +kernel

theorem weight_at (k : Fin 1024) (j : Fin 1536) : (iblk m c 4 t : FVec Ideal S1x1024x1536 .bf16) (ix3 0 k j) = m ((c : Thread nD τ).loc main_arg4) (ix3 0 k (colOf (colAt t j))) := by
  have hb : ((cfg0.win 4).blk t).view.read (Elt Ideal) (V m c (Pipeline.arrRef spec0 4)) (ix3 0 k j) = V m c main_v4 (ix3 0 k (colAt t j)) := by
    rw [View.read_apply]
    show V m c main_v4 _ = V m c main_v4 _
    congr 1
    funext a
    apply Fin.ext
    match a with
    | ⟨0, _⟩ => show win0_4.index t 0 * 1 + 1 * 0 = 0; rw [(idx4 t).1]
    | ⟨1, _⟩ => show win0_4.index t 1 * 1024 + 1 * (k).val = (k).val; rw [(idx4 t).2.1]; omega
    | ⟨2, _⟩ => show win0_4.index t 2 * 1536 + 1 * (j).val = (colAt t j).val; rw [(idx4 t).2.2]; show _ = 1536 * (t.val % 5) + j.val; omega
  refine hb.trans ?_
  exact v4_apply m c k (colAt t j)

theorem idx5 : ∀ t : Fin cfg0.N, win0_5.index t 0 = 0 ∧ win0_5.index t 1 = 0 ∧ win0_5.index t 2 = 0 := by
  decide +kernel

theorem gate_at (k : Fin 1024) (j : Fin 128) : (iblk m c 5 t : FVec Ideal S1x1024x128 .bf16) (ix3 0 k j) = gateW (fun k j => m ((c : Thread nD τ).loc main_arg4) (ix3 0 k j)) k j := by
  have hb : ((cfg0.win 5).blk t).view.read (Elt Ideal) (V m c (Pipeline.arrRef spec0 5)) (ix3 0 k j) = V m c main_v7 (ix3 0 k j) := by
    rw [View.read_apply]
    show V m c main_v7 _ = V m c main_v7 _
    congr 1
    funext a
    apply Fin.ext
    match a with
    | ⟨0, _⟩ => show win0_5.index t 0 * 1 + 1 * 0 = 0; rw [(idx5 t).1]
    | ⟨1, _⟩ => show win0_5.index t 1 * 1024 + 1 * (k).val = (k).val; rw [(idx5 t).2.1]; omega
    | ⟨2, _⟩ => show win0_5.index t 2 * 128 + 1 * (j).val = (j).val; rw [(idx5 t).2.2]; omega
  refine hb.trans ?_
  exact v7_apply m c k j

end Cert.InprojSampleIdeal.Blocks

end
-- ==== Proof.InprojSample.Arrays.lean ====
/-
  The two arrays the input projection leaves.
-/
module

public import proofs.«01_k».proof.Proof.InprojSample.Blocks

@[expose] public section

set_option maxRecDepth 16384

noncomputable section

open Idealize.ShloMosaic Idealize.ShloMosaic.TcCoe Idealize.SL.Sem

namespace Cert.InprojSampleIdeal.Arrays

open Cert.InprojSampleIdeal Cert.InprojSampleIdeal.Gen Cert.InprojSampleIdeal.Frame Cert.InprojSampleIdeal.Pay Cert.InprojSampleIdeal.Blocks Cert.Spec
open Cert.InprojIdeal.Pay (colOf gateW zero_conv proj)

variable (m : (ℓ : Loc nD τ sig) → Buf (Elt Ideal) ℓ)

/-- A block of rows starts at the point that computes it. -/
theorem rowAt_base (t : Fin cfg0.N) (r : Fin 128) : rowAt (base t) r = rowAt t r := by
  apply Fin.ext
  show 128 * (5 * (t.val / 5) / 5) + r.val = 128 * (t.val / 5) + r.val
  omega

/-- The first result: every row of the input, normalised, modulated and projected. -/
def G6 (c : Dev nD) : S128x7680.Idx → EReal := fun i =>
  proj (hrow (fun k => m ((c : Thread nD τ).loc main_arg0) (ix2 (i 0) k)) (fun k => m ((c : Thread nD τ).loc main_arg3) (ix2 0 k)) (fun k => m ((c : Thread nD τ).loc main_arg1) (ix2 (i 0) k)) (fun k => m ((c : Thread nD τ).loc main_arg2) (ix2 (i 0) k))) (fun k => m ((c : Thread nD τ).loc main_arg4) (ix3 0 k (colOf (i 1))))

theorem idx6 : ∀ t : Fin cfg0.N, win0_6.index t 0 = t.val / 5 ∧ win0_6.index t 1 = t.val % 5 := by
  decide +kernel

theorem mem_blk6 (t : Fin cfg0.N) (i : S128x7680.Idx) :
    i ∈ ((cfg0.win 6).blk t).view.set ↔ ∀ a : Fin 2, win0_6.index t a * S128x1536.size a ≤ (i a).val ∧ (i a).val < win0_6.index t a * S128x1536.size a + S128x1536.size a := by
  show i ∈ ((View.whole main_v9_0).slice (win0_6.rect t)).set ↔ _
  rw [View.set_slice_whole, Rect.mem_set_unit]
  exact Iff.rfl

/-- What a point writes of it. -/
theorem point6 (c : Dev nD) (t : Fin cfg0.N) (r : Fin 128) (j : Fin 1536) :
    k0_pay4 (F := Ideal) (hval m c t) (iblk m c 4 t) (ix2 r j) = G6 m c (ix2 (rowAt t r) (colAt t j)) := by
  refine (main_apply _ _ r j).trans ?_
  unfold hval
  simp only [h_apply, row_at, norm_at, scale_at, shift_at, weight_at, rowAt_base]
  rfl

theorem flushed6 (c : Dev nD) (t : Fin cfg0.N) : (dats m 0 c).flushed 6 t = ((cfg0.win 6).blk t).view.read (Elt Ideal) (G6 m c) := by
  show (cfg0.win 6).cut (grid0.coords t) ((dats m 0 c).after 6 t) = _
  rw [after0_6]
  have key : ∀ (r : Fin 128) (j : Fin 1536), (k0_pay4 (F := Ideal) (hval m c t) (iblk m c 4 t)) (ix2 r j) = ((cfg0.win 6).blk t).view.read (Elt Ideal) (G6 m c) (ix2 r j) := by
    intro r j
    rw [point6, View.read_apply]
    show G6 m c _ = G6 m c _
    congr 1
    funext a
    apply Fin.ext
    match a with
    | ⟨0, _⟩ => show 128 * (t.val / 5) + r.val = win0_6.index t 0 * 128 + 1 * r.val; rw [(idx6 t).1]; omega
    | ⟨1, _⟩ => show 1536 * (t.val % 5) + j.val = win0_6.index t 1 * 1536 + 1 * j.val; rw [(idx6 t).2]; omega
  funext y
  have hy : (y : S128x1536.Idx) = ix2 (y 0) (y 1) := by
    funext a
    match a with
    | ⟨0, _⟩ => rfl
    | ⟨1, _⟩ => rfl
  exact (congrArg (k0_pay4 (F := Ideal) (hval m c t) (iblk m c 4 t)) hy).trans ((key (y 0) (y 1)).trans (congrArg (((cfg0.win 6).blk t).view.read (Elt Ideal) (G6 m c)) hy.symm))

theorem covered6 (i : S128x7680.Idx) : ∃ t : Fin cfg0.N, (cfg0.win 6).flush t = true ∧ i ∈ ((cfg0.win 6).blk t).view.set := by
  have h0 : (i 0).val < 128 := (i 0).isLt
  have h1 : (i 1).val < 7680 := (i 1).isLt
  obtain ⟨t, ht⟩ : ∃ t : Fin cfg0.N, t.val = 5 * ((i 0).val / 128) + (i 1).val / 1536 :=
    ⟨⟨5 * ((i 0).val / 128) + (i 1).val / 1536, lt_of_lt_of_eq (by omega) N_0.symm⟩, rfl⟩
  refine ⟨t, flush0_6 t, ?_⟩
  rw [mem_blk6]
  intro a
  match a with
  | ⟨0, _⟩ => show win0_6.index t 0 * 128 ≤ (i 0).val ∧ (i 0).val < win0_6.index t 0 * 128 + 128; rw [(idx6 t).1, ht]; omega
  | ⟨1, _⟩ => show win0_6.index t 1 * 1536 ≤ (i 1).val ∧ (i 1).val < win0_6.index t 1 * 1536 + 1536; rw [(idx6 t).2, ht]; omega

theorem final6 (c : Dev nD) : (dats m 0 c).arrAt 6 cfg0.N = G6 m c :=
  (dats m 0 c).arrAt_eq_of_cover 6 _ (fun t _ => flushed6 m c t) (covered6)

/-- The second result: the gates. -/
def G7 (c : Dev nD) : S128x128.Idx → EReal := fun i =>
  proj (hrow (fun k => m ((c : Thread nD τ).loc main_arg0) (ix2 (i 0) k)) (fun k => m ((c : Thread nD τ).loc main_arg3) (ix2 0 k)) (fun k => m ((c : Thread nD τ).loc main_arg1) (ix2 (i 0) k)) (fun k => m ((c : Thread nD τ).loc main_arg2) (ix2 (i 0) k))) (fun k => gateW (fun k j => m ((c : Thread nD τ).loc main_arg4) (ix3 0 k j)) k (i 1))

theorem idx7 : ∀ t : Fin cfg0.N, win0_7.index t 0 = t.val / 5 ∧ win0_7.index t 1 = 0 := by
  decide +kernel

theorem mem_blk7 (t : Fin cfg0.N) (i : S128x128.Idx) :
    i ∈ ((cfg0.win 7).blk t).view.set ↔ ∀ a : Fin 2, win0_7.index t a * S128x128.size a ≤ (i a).val ∧ (i a).val < win0_7.index t a * S128x128.size a + S128x128.size a := by
  show i ∈ ((View.whole main_v9_1).slice (win0_7.rect t)).set ↔ _
  rw [View.set_slice_whole, Rect.mem_set_unit]
  exact Iff.rfl

/-- What a point writes of it. -/
theorem point7 (c : Dev nD) (t : Fin cfg0.N) (r : Fin 128) (j : Fin 128) :
    gval (F := Ideal) m c t (ix2 r j) = G7 m c (ix2 (rowAt t r) j) := by
  unfold gval
  refine (gate_apply _ _ _ _ _ r j).trans ?_
  simp only [row_at, norm_at, scale_at, shift_at, gate_at, rowAt_base]
  rfl

theorem flushed7 (c : Dev nD) (t : Fin cfg0.N) : (dats m 0 c).flushed 7 t = ((cfg0.win 7).blk t).view.read (Elt Ideal) (G7 m c) := by
  show (cfg0.win 7).cut (grid0.coords t) ((dats m 0 c).after 7 t) = _
  rw [after0_7]
  have key : ∀ (r : Fin 128) (j : Fin 128), (gval (F := Ideal) m c t) (ix2 r j) = ((cfg0.win 7).blk t).view.read (Elt Ideal) (G7 m c) (ix2 r j) := by
    intro r j
    rw [point7, View.read_apply]
    show G7 m c _ = G7 m c _
    congr 1
    funext a
    apply Fin.ext
    match a with
    | ⟨0, _⟩ => show 128 * (t.val / 5) + r.val = win0_7.index t 0 * 128 + 1 * r.val; rw [(idx7 t).1]; omega
    | ⟨1, _⟩ => show j.val = win0_7.index t 1 * 128 + 1 * j.val; rw [(idx7 t).2]; omega
  funext y
  have hy : (y : S128x128.Idx) = ix2 (y 0) (y 1) := by
    funext a
    match a with
    | ⟨0, _⟩ => rfl
    | ⟨1, _⟩ => rfl
  exact (congrArg (gval (F := Ideal) m c t) hy).trans ((key (y 0) (y 1)).trans (congrArg (((cfg0.win 7).blk t).view.read (Elt Ideal) (G7 m c)) hy.symm))

theorem covered7 (i : S128x128.Idx) : ∃ t : Fin cfg0.N, (cfg0.win 7).flush t = true ∧ i ∈ ((cfg0.win 7).blk t).view.set := by
  have h0 : (i 0).val < 128 := (i 0).isLt
  have h1 : (i 1).val < 128 := (i 1).isLt
  obtain ⟨t, ht⟩ : ∃ t : Fin cfg0.N, t.val = 5 * ((i 0).val / 128) + 4 :=
    ⟨⟨5 * ((i 0).val / 128) + 4, lt_of_lt_of_eq (by omega) N_0.symm⟩, rfl⟩
  refine ⟨t, (flush0_7 t).mpr (by omega), ?_⟩
  rw [mem_blk7]
  intro a
  match a with
  | ⟨0, _⟩ => show win0_7.index t 0 * 128 ≤ (i 0).val ∧ (i 0).val < win0_7.index t 0 * 128 + 128; rw [(idx7 t).1, ht]; omega
  | ⟨1, _⟩ => show win0_7.index t 1 * 128 ≤ (i 1).val ∧ (i 1).val < win0_7.index t 1 * 128 + 128; rw [(idx7 t).2]; omega

theorem final7 (c : Dev nD) : (dats m 0 c).arrAt 7 cfg0.N = G7 m c :=
  (dats m 0 c).arrAt_eq_of_cover 7 _ (fun t _ => flushed7 m c t) (covered7)

end Cert.InprojSampleIdeal.Arrays

end
-- ==== Proof.InprojSample.Ref.lean ====
/-
  The reference's two arrays, read at one entry.
-/
module

public import proofs.«01_k».proof.Proof.InprojSample.Pay
public import proofs.«01_k».proof.Proof.Gen.InprojSampleRefIdeal.Read
public import Idealize.ShloMosaic.Lib.Pointwise

@[expose] public section

set_option maxRecDepth 16384

noncomputable section

open Idealize.ShloMosaic Idealize.ShloMosaic.TcCoe Idealize.SL.Sem

namespace Cert.InprojSampleEqual

open Cert.InprojSampleRefIdeal Cert.InprojSampleRefIdeal.Read Cert.Spec
open Cert.InprojIdeal.Pay (colOf gateW zero_conv proj)

variable (a0 : FVec Ideal S128x1024 .f32) (a1 a2 : FVec Ideal S128x1024 .f32) (a3 : FVec Ideal S2x1024 .f32) (a4 : FVec Ideal S2x1024x7696 .f32)

/-- All the projections of a row. -/
theorem ref_all (r : Fin 128) (j : Fin 7696) :
    val_main_v21 (F := Ideal) a0 a1 a2 a3 a4 (ix2 r j) = proj (hrow (fun k => a0 (ix2 r k)) (fun k => a3 (ix2 0 k)) (fun k => a1 (ix2 r k)) (fun k => a2 (ix2 r k))) (fun k => a4 (ix3 0 k j)) := by
  unfold proj hrow
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_cst, val_main_cst_0, val_main_cst_1, val_main_cst_2]

/-- The first result. -/
theorem ref_main (r : Fin 128) (j : Fin 7680) :
    val_main_v25 (F := Ideal) a0 a1 a2 a3 a4 (ix2 r j) = proj (hrow (fun k => a0 (ix2 r k)) (fun k => a3 (ix2 0 k)) (fun k => a1 (ix2 r k)) (fun k => a2 (ix2 r k))) (fun k => a4 (ix3 0 k (colOf j))) := by
  rw [← ref_all]
  unfold colOf
  pointwise [val_main_v25, val_main_v24, val_main_v23, val_main_v22]
  split
  · rfl
  · split <;> rfl

/-- The gates. -/
theorem ref_gate (r : Fin 128) (j : Fin 128) :
    val_main_v27 (F := Ideal) a0 a1 a2 a3 a4 (ix2 r j) = proj (hrow (fun k => a0 (ix2 r k)) (fun k => a3 (ix2 0 k)) (fun k => a1 (ix2 r k)) (fun k => a2 (ix2 r k))) (fun k => gateW (fun k j => a4 (ix3 0 k j)) k j) := by
  have e : val_main_v27 (F := Ideal) a0 a1 a2 a3 a4 (ix2 r j)
      = if h : j.val < 16 then val_main_v21 (F := Ideal) a0 a1 a2 a3 a4 (ix2 r ⟨1024 + j.val, by omega⟩) else 0 := by
    pointwise [val_main_v27, val_main_v26, val_main_call0_v0, val_main_c]
    rw [zero_conv]
  rw [e]
  unfold gateW
  split
  · exact ref_all ..
  · unfold proj
    simp only [mul_zero, Finset.sum_const_zero]

end Cert.InprojSampleEqual

end
-- ==== Proof.InprojSample.Equal.lean ====
/-
  The input projection and its reference leave the same two arrays.
-/
module

public import proofs.«01_k».proof.Defs
public import proofs.«01_k».proof.Proof.InprojSample.Arrays
public import proofs.«01_k».proof.Proof.InprojSample.Ref
public import proofs.«01_k».proof.Proof.Gen.InprojSample
public import proofs.«01_k».proof.Proof.Gen.InprojSampleRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.InprojSampleEqual

/-- The two programs have the same text, so their bodies are the same. -/
theorem bodies_eq {F : FTy → Type} [FloatOps F] : Cert.InprojSample.defs₀ (F := F) = Cert.InprojSampleIdeal.defs₀ (F := F) := by
  unfold Cert.InprojSample.defs₀ Cert.InprojSampleIdeal.defs₀
  refine congrArg Defs.onTc ?_
  funext l x
  match l with
  | ⟨0, _⟩ => rfl

theorem defs_eq {F : FTy → Type} [FloatOps F] : Cert.InprojSample.defs (F := F) = Cert.InprojSampleIdeal.defs (F := F) :=
  congrArg (Pipeline.defs (Cert.InprojSampleIdeal.pcfgs (F := F))) bodies_eq

/-- The kernel's frame, from the one run. -/
theorem frame_bits : @Cert.quiescent_InprojSample Cert.InprojSample.Gen.facts := fun m ρ _ => by
  rw [defs_eq]
  exact Cert.InprojSampleIdeal.Frame.frame (F := Bits) m ρ

/-- The reference ends with its arguments unchanged and no semaphore counted (it has none). -/
theorem ref_frame (m : (ℓ : Loc Cert.InprojSampleRefIdeal.nD Cert.InprojSampleRefIdeal.τ Cert.InprojSampleRefIdeal.sig) → Buf (Elt Ideal) ℓ)
    (ρ : Dev Cert.InprojSampleRefIdeal.nD → PrngReg) :
    θ_run (Cert.InprojSampleRefIdeal.defs (F := Ideal)) (onTc (τ := Cert.InprojSampleRefIdeal.τ) (Cert.InprojSampleRefIdeal.main (F := Ideal))) ⟨m, fun _ => 0, ρ⟩
      fun r => (∀ c : Dev Cert.InprojSampleRefIdeal.nD,
        r.2.mem ((c.tc : Thread Cert.InprojSampleRefIdeal.nD Cert.InprojSampleRefIdeal.τ).loc Cert.InprojSampleRefIdeal.main_arg0) = m ((c.tc : Thread Cert.InprojSampleRefIdeal.nD Cert.InprojSampleRefIdeal.τ).loc Cert.InprojSampleRefIdeal.main_arg0)
        ∧ r.2.mem ((c.tc : Thread Cert.InprojSampleRefIdeal.nD Cert.InprojSampleRefIdeal.τ).loc Cert.InprojSampleRefIdeal.main_arg1) = m ((c.tc : Thread Cert.InprojSampleRefIdeal.nD Cert.InprojSampleRefIdeal.τ).loc Cert.InprojSampleRefIdeal.main_arg1)
        ∧ r.2.mem ((c.tc : Thread Cert.InprojSampleRefIdeal.nD Cert.InprojSampleRefIdeal.τ).loc Cert.InprojSampleRefIdeal.main_arg2) = m ((c.tc : Thread Cert.InprojSampleRefIdeal.nD Cert.InprojSampleRefIdeal.τ).loc Cert.InprojSampleRefIdeal.main_arg2)
        ∧ r.2.mem ((c.tc : Thread Cert.InprojSampleRefIdeal.nD Cert.InprojSampleRefIdeal.τ).loc Cert.InprojSampleRefIdeal.main_arg3) = m ((c.tc : Thread Cert.InprojSampleRefIdeal.nD Cert.InprojSampleRefIdeal.τ).loc Cert.InprojSampleRefIdeal.main_arg3)
        ∧ r.2.mem ((c.tc : Thread Cert.InprojSampleRefIdeal.nD Cert.InprojSampleRefIdeal.τ).loc Cert.InprojSampleRefIdeal.main_arg4) = m ((c.tc : Thread Cert.InprojSampleRefIdeal.nD Cert.InprojSampleRefIdeal.τ).loc Cert.InprojSampleRefIdeal.main_arg4))
        ∧ r.2.sem = fun _ => 0 :=
  (θ_run _ _ _).mono (fun r h => ⟨fun c => (h c).2.2, sem_eq_zero_of_no_sems (by decide) r.2⟩) (Cert.InprojSampleRefIdeal.Value.run m ρ)

variable (m : (ℓ : Loc Cert.InprojSampleIdeal.nD Cert.InprojSampleIdeal.τ Cert.InprojSampleIdeal.sig) → Buf (Elt Ideal) ℓ)

/-- The kernel's run, read: its two arrays, and its arguments unchanged. -/
theorem run (g : Dev Cert.InprojSampleIdeal.nD → PrngReg) :
    θ_run (Cert.InprojSampleIdeal.defs (F := Ideal)) (onTc (τ := Cert.InprojSampleIdeal.τ) (Cert.InprojSampleIdeal.main (F := Ideal))) ⟨m, fun _ => 0, g⟩
      fun r => ∀ c : Dev Cert.InprojSampleIdeal.nD,
        r.2.mem ((c.tc : Thread Cert.InprojSampleIdeal.nD Cert.InprojSampleIdeal.τ).loc Cert.InprojSampleIdeal.main_v9_0) = Cert.InprojSampleIdeal.Arrays.G6 m c
        ∧ r.2.mem ((c.tc : Thread Cert.InprojSampleIdeal.nD Cert.InprojSampleIdeal.τ).loc Cert.InprojSampleIdeal.main_v9_1) = Cert.InprojSampleIdeal.Arrays.G7 m c
        ∧ r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
        ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
        ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2)
        ∧ r.2.mem ((c.tc : Thread Cert.InprojSampleIdeal.nD Cert.InprojSampleIdeal.τ).loc Cert.InprojSampleIdeal.main_arg3) = m ((c.tc : Thread Cert.InprojSampleIdeal.nD Cert.InprojSampleIdeal.τ).loc Cert.InprojSampleIdeal.main_arg3)
        ∧ r.2.mem ((c.tc : Thread Cert.InprojSampleIdeal.nD Cert.InprojSampleIdeal.τ).loc Cert.InprojSampleIdeal.main_arg4) = m ((c.tc : Thread Cert.InprojSampleIdeal.nD Cert.InprojSampleIdeal.τ).loc Cert.InprojSampleIdeal.main_arg4) := by
  refine (θ_run _ _ _).mono (fun r h c => ?_) (θ_run_and (Cert.InprojSampleIdeal.Frame.run_main (F := Ideal) m g) (Cert.InprojSampleIdeal.Frame.unchanged (F := Ideal) m g))
  exact ⟨((h.1 c).1 6).trans (Cert.InprojSampleIdeal.Arrays.final6 m c), ((h.1 c).1 7).trans (Cert.InprojSampleIdeal.Arrays.final7 m c), h.2 c⟩

theorem algebraic : @Cert.algebraic_InprojSampleIdeal_InprojSampleRefIdeal Cert.InprojSampleIdeal.Gen.facts Cert.InprojSampleRefIdeal.Gen.facts := by
  intro m g m' g' _ hargs
  refine ⟨fun c => Cert.InprojSampleIdeal.Arrays.G6 m c, fun c => Cert.InprojSampleIdeal.Arrays.G7 m c, run m g, ?_⟩
  refine (θ_run _ _ _).mono (fun r h c => ⟨?_, ?_, (h c).2.2⟩) (Cert.InprojSampleRefIdeal.Value.run m' g')
  · refine (h c).1.trans ?_
    obtain ⟨h0, h1, h2, h3, h4⟩ := hargs c
    refine (Cert.InprojSampleRefIdeal.Read.val_main_v25_eq m' c).trans ?_
    rw [h0, h1, h2, h3, h4]
    funext i
    have hi : i = ix2 (i 0) (i 1) := by
      funext a
      match a with
      | ⟨0, _⟩ => rfl
      | ⟨1, _⟩ => rfl
    rw [hi]
    exact ref_main _ _ _ _ _ _ _
  · refine (h c).2.1.trans ?_
    obtain ⟨h0, h1, h2, h3, h4⟩ := hargs c
    refine (Cert.InprojSampleRefIdeal.Read.val_main_v27_eq _ _ _ _ _).trans ?_
    rw [h0, h1, h2, h3, h4]
    funext i
    have hi : i = ix2 (i 0) (i 1) := by
      funext a
      match a with
      | ⟨0, _⟩ => rfl
      | ⟨1, _⟩ => rfl
    rw [hi]
    exact ref_gate _ _ _ _ _ _ _

end Cert.InprojSampleEqual

end
-- ==== Proof.MoeSample.Step.lean ====
/-
  What one grid point of the mixture-of-experts kernel leaves in the three carried scratch arrays and in the output
  block, in terms of the values the body computes:

    * the first expert's point stores the normalised rows, the gates and a fresh sum;
    * every other point keeps rows and gates and adds its expert's gated output to the sum;
    * the last expert's point also writes `x + g * sum` to the output block.
-/
module

public import proofs.«01_k».proof.Proof.Gen.MoeSampleIdeal.Value
public import Idealize.ShloMosaic.Lib.Tactic

@[expose] public section

set_option maxRecDepth 16384

noncomputable section

open Idealize.ShloMosaic Idealize.ShloMosaic.TcCoe Idealize.SL.Sem

namespace Cert.MoeSampleIdeal.Step

open Cert.MoeSampleIdeal Cert.MoeSampleIdeal.Gen Cert.MoeSampleIdeal.Value

variable {F : FTy → Type} [FloatOps F] [Named F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The lane numbers of a row of gates. -/
abbrev lanes : IVec S128x128 32 := iota .tc S128x128 32 [1] iota_S128x128_d1_w32

/-- The gates stored at the first expert's point, from the blocks it reads. -/
abbrev gates (x0 : Vec F S128x1024 .f32) (x1 : Vec F S1x1x1024 .f32) (x2 x3 : Vec F S128x1024 .f32) (x5 : Vec F S1x1024x128 .f32) :
    Vec F S128x128 .f32 :=
  k0_pay8 lanes (k0_pay5 lanes x0 x1 x2 x3 x5) (k0_pay6 lanes x0 x1 x2 x3 x5) (k0_pay7 lanes x0 x1 x2 x3 x5)

/-- The normalised rows stored at the first expert's point. -/
theorem first_h (c : Dev nD) (t : Fin cfg0.N) (h0 : t.val % 8 = 0) (acc) :
    (stAt0 m c t.val t.isLt acc).2.1 = (k0_pay4 (iblk m c 0 t) (iblk m c 1 t) (iblk m c 2 t) (iblk m c 3 t)) := by
  rw [stAt0_A m c t acc h0 (by omega)]
  dsimp only
  unfold sout0_A_0
  rw [View.read_writes_eq_canon _ _ _ (fun y => scover0_A_0 (y := y) ..)]
  unfold kernelRun0_A
  dsimp only
  sl_unfold_words
  simp only [View.canon_cons_unit_zero (S := S128x1024) hz2, View.canon_unit_zero (S := S128x1024) hz2, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    (Memref.isWhole_whole cc0_scratch0).read_unread, (Memref.isWhole_whole cc0_scratch1).read_unread, (Memref.isWhole_whole cc0_scratch2).read_unread, View.readCov_unit_zero (S := S128x1024) _ hz2, View.readCov_unit_zero (S := S128x128) _ hz2,
    View.ld_unit_zero (S := S128x1024) hz2, View.ld_unit_zero (S := S128x128) hz2,
    View.ld_unit_zero (S := S1x1x1024) hz3, View.ld_unit_zero (S := S1x1024x128) hz3,
    View.ld_unit_zero (S := S1x1x1024x1408) hz4, View.ld_unit_zero (S := S1x1x1408x1024) hz4]

/-- The gates stored at the first expert's point. -/
theorem first_gate (c : Dev nD) (t : Fin cfg0.N) (h0 : t.val % 8 = 0) (acc) :
    (stAt0 m c t.val t.isLt acc).2.2.1 = (gates (iblk m c 0 t) (iblk m c 1 t) (iblk m c 2 t) (iblk m c 3 t) (iblk m c 5 t)) := by
  rw [stAt0_A m c t acc h0 (by omega)]
  dsimp only
  unfold sout0_A_1
  rw [View.read_writes_eq_canon _ _ _ (fun y => scover0_A_1 (y := y) ..)]
  unfold kernelRun0_A
  dsimp only
  sl_unfold_words
  simp only [View.canon_cons_unit_zero (S := S128x128) hz2, View.canon_unit_zero (S := S128x128) hz2, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    (Memref.isWhole_whole cc0_scratch0).read_unread, (Memref.isWhole_whole cc0_scratch1).read_unread, (Memref.isWhole_whole cc0_scratch2).read_unread, View.readCov_unit_zero (S := S128x1024) _ hz2, View.readCov_unit_zero (S := S128x128) _ hz2,
    View.ld_unit_zero (S := S128x1024) hz2, View.ld_unit_zero (S := S128x128) hz2,
    View.ld_unit_zero (S := S1x1x1024) hz3, View.ld_unit_zero (S := S1x1024x128) hz3,
    View.ld_unit_zero (S := S1x1x1024x1408) hz4, View.ld_unit_zero (S := S1x1x1408x1024) hz4]

/-- The sum after the first expert's point: zero plus its gated output. -/
theorem first_acc (c : Dev nD) (t : Fin cfg0.N) (h0 : t.val % 8 = 0) (acc) :
    (stAt0 m c t.val t.isLt acc).2.2.2 = k0_pay1 (k0_pay10 (k0_pay4 (iblk m c 0 t) (iblk m c 1 t) (iblk m c 2 t) (iblk m c 3 t)) (iblk m c 6 t) (iblk m c 7 t) (iblk m c 8 t)) (k0_pay11 (grid0.coords t) (gates (iblk m c 0 t) (iblk m c 1 t) (iblk m c 2 t) (iblk m c 3 t) (iblk m c 5 t))) k0_pay9 := by
  rw [stAt0_A m c t acc h0 (by omega)]
  dsimp only
  unfold sout0_A_2
  rw [View.read_writes_eq_canon _ _ _ (fun y => scover0_A_2 (y := y) ..)]
  unfold kernelRun0_A
  dsimp only
  sl_unfold_words
  simp only [View.canon_cons_unit_zero (S := S128x1024) hz2, View.canon_unit_zero (S := S128x1024) hz2, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    (Memref.isWhole_whole cc0_scratch0).read_unread, (Memref.isWhole_whole cc0_scratch1).read_unread, (Memref.isWhole_whole cc0_scratch2).read_unread, View.readCov_unit_zero (S := S128x1024) _ hz2, View.readCov_unit_zero (S := S128x128) _ hz2,
    View.ld_unit_zero (S := S128x1024) hz2, View.ld_unit_zero (S := S128x128) hz2,
    View.ld_unit_zero (S := S1x1x1024) hz3, View.ld_unit_zero (S := S1x1024x128) hz3,
    View.ld_unit_zero (S := S1x1x1024x1408) hz4, View.ld_unit_zero (S := S1x1x1408x1024) hz4]

/-- The sum after an expert's point in the middle. -/
theorem mid_acc (c : Dev nD) (t : Fin cfg0.N) (h0 : ¬t.val % 8 = 0) (h1 : ¬t.val % 8 = 7) (acc) :
    (stAt0 m c t.val t.isLt acc).2.2.2 = k0_pay1 (k0_pay10 acc.2.1 (iblk m c 6 t) (iblk m c 7 t) (iblk m c 8 t)) (k0_pay11 (grid0.coords t) acc.2.2.1) acc.2.2.2 := by
  rw [stAt0_B m c t acc h0 h1]
  dsimp only
  unfold sout0_B_2
  rw [View.read_writes_eq_canon _ _ _ (fun y => scover0_B_2 (y := y) ..)]
  unfold kernelRun0_B
  dsimp only
  sl_unfold_words
  simp only [View.canon_cons_unit_zero (S := S128x1024) hz2, View.canon_unit_zero (S := S128x1024) hz2, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    (Memref.isWhole_whole cc0_scratch0).read_unread, (Memref.isWhole_whole cc0_scratch1).read_unread, (Memref.isWhole_whole cc0_scratch2).read_unread, View.readCov_unit_zero (S := S128x1024) _ hz2, View.readCov_unit_zero (S := S128x128) _ hz2,
    View.ld_unit_zero (S := S128x1024) hz2, View.ld_unit_zero (S := S128x128) hz2,
    View.ld_unit_zero (S := S1x1x1024) hz3, View.ld_unit_zero (S := S1x1024x128) hz3,
    View.ld_unit_zero (S := S1x1x1024x1408) hz4, View.ld_unit_zero (S := S1x1x1408x1024) hz4]

/-- The output block at the last expert's point. -/
theorem last_out (c : Dev nD) (t : Fin cfg0.N) (h1 : t.val % 8 = 7) (acc) :
    (stAt0 m c t.val t.isLt acc).1 = k0_pay2 (iblk m c 0 t) (iblk m c 4 t) (k0_pay1 (k0_pay10 acc.2.1 (iblk m c 6 t) (iblk m c 7 t) (iblk m c 8 t)) (k0_pay11 (grid0.coords t) acc.2.2.1) acc.2.2.2) := by
  rw [stAt0_C m c t acc (by omega) h1]
  dsimp only
  unfold out0_C_9
  rw [View.read_writes_eq_canon _ _ _ (fun y => cover0_C_9 (y := y) ..)]
  unfold kernelRun0_C
  dsimp only
  sl_unfold_words
  simp only [View.canon_cons_unit_zero (S := S128x1024) hz2, View.canon_unit_zero (S := S128x1024) hz2, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    (Memref.isWhole_whole cc0_scratch0).read_unread, (Memref.isWhole_whole cc0_scratch1).read_unread, (Memref.isWhole_whole cc0_scratch2).read_unread, View.readCov_unit_zero (S := S128x1024) _ hz2, View.readCov_unit_zero (S := S128x128) _ hz2,
    View.ld_unit_zero (S := S128x1024) hz2, View.ld_unit_zero (S := S128x128) hz2,
    View.ld_unit_zero (S := S1x1x1024) hz3, View.ld_unit_zero (S := S1x1024x128) hz3,
    View.ld_unit_zero (S := S1x1x1024x1408) hz4, View.ld_unit_zero (S := S1x1x1408x1024) hz4]

/-- The points in the middle keep the rows. -/
theorem mid_h (c : Dev nD) (t : Fin cfg0.N) (h0 : ¬t.val % 8 = 0) (h1 : ¬t.val % 8 = 7) (acc) : (stAt0 m c t.val t.isLt acc).2.1 = acc.2.1 := by
  rw [stAt0_B m c t acc h0 h1]; rfl

/-- The points in the middle keep the gates. -/
theorem mid_gate (c : Dev nD) (t : Fin cfg0.N) (h0 : ¬t.val % 8 = 0) (h1 : ¬t.val % 8 = 7) (acc) : (stAt0 m c t.val t.isLt acc).2.2.1 = acc.2.2.1 := by
  rw [stAt0_B m c t acc h0 h1]; rfl

end Cert.MoeSampleIdeal.Step

end
-- ==== Proof.MoeSample.Pay.lean ====
/-
  The values the mixture-of-experts body computes, read at one position, in plain arithmetic.
-/
module

public import proofs.«01_k».proof.Proof.MoeSample.Step
public import proofs.«01_k».proof.Proof.Moe.Spec
public import Idealize.ShloMosaic.Lib.Pointwise

@[expose] public section

set_option maxRecDepth 16384

noncomputable section

open Idealize.ShloMosaic Idealize.ShloMosaic.TcCoe Idealize.SL.Sem

namespace Cert.MoeSampleIdeal.Pay

open Cert.MoeSampleIdeal Cert.MoeSampleIdeal.Gen Cert.MoeSampleIdeal.Step Cert.Route Cert.Spec

theorem neg_eq : (Named.named κ "neg" 4284592614#32 : Ideal FTy.f32) = (⊥ : EReal) :=
  IdealRules.named_const.ideal_named_scalar _ _ _ _ rfl

variable (x0 : FVec Ideal S128x1024 .f32) (x1 : FVec Ideal S1x1x1024 .f32) (x2 x3 : FVec Ideal S128x1024 .f32)
  (x5 : FVec Ideal S1x1024x128 .f32)

/-- The modulated normalised rows. -/
theorem h3_apply (r : Fin 128) (d : Fin 1024) :
    k0_pay3 (F := Ideal) x0 x1 x2 x3 (ix2 r d)
      = hrow (fun k => x0 (ix2 r k)) (fun k => x1 (ix3 0 0 k)) (fun k => x2 (ix2 r k)) (fun k => x3 (ix2 r k)) d := by
  unfold hrow
  pointwise [k0_pay3]

theorem h_apply (r : Fin 128) (d : Fin 1024) :
    k0_pay4 (F := Ideal) x0 x1 x2 x3 (ix2 r d)
      = hrow (fun k => x0 (ix2 r k)) (fun k => x1 (ix3 0 0 k)) (fun k => x2 (ix2 r k)) (fun k => x3 (ix2 r k)) d := by
  unfold hrow
  pointwise [k0_pay4, k0_pay3]

/-- The logits on 128 lanes, `-∞` from lane 8 on. -/
theorem logits_apply (r : Fin 128) (d : Fin 128) :
    k0_pay5 (F := Ideal) lanes x0 x1 x2 x3 x5 (ix2 r d)
      = spread (fun e => ∑ k, k0_pay3 (F := Ideal) x0 x1 x2 x3 (ix2 r k) * x5 (ix3 0 k (lane e))) d := by
  have e : k0_pay5 (F := Ideal) lanes x0 x1 x2 x3 x5 (ix2 r d)
      = Scalar.select (IntOp.cmpi .slt (BitVec.ofNat 32 d.val) 8#32) (∑ k, k0_pay3 (F := Ideal) x0 x1 x2 x3 (ix2 r k) * x5 (ix3 0 k d)) (Named.named κ "neg" 4284592614#32 : Ideal FTy.f32) := by
    pointwise [k0_pay5]
  have hc : IntOp.cmpi .slt (BitVec.ofNat 32 d.val) 8#32 = BitVec.ofBool (decide (d.val < 8)) := by
    show BitVec.ofBool (BitVec.slt _ _) = _
    rw [BitVec.slt_eq_decide, toInt_ofNat (by omega)]
    have : (8#32).toInt = 8 := by decide
    rw [this]
    congr 1
    rw [Bool.eq_iff_iff, decide_eq_true_eq, decide_eq_true_eq]
    omega
  rw [e, hc, select_ofBool, neg_eq]
  unfold spread
  by_cases h : d.val < 8
  · rw [if_pos h, dif_pos h]; rfl
  · rw [if_neg h, dif_neg h]

/-- The row maximum of the logits. -/
theorem max_apply (r : Fin 128) :
    k0_pay6 (F := Ideal) lanes x0 x1 x2 x3 x5 (ix2 r 0) = Finset.univ.fold max ⊥ fun x => k0_pay5 (F := Ideal) lanes x0 x1 x2 x3 x5 (ix2 r x) := by
  rw [← bits_neg_inf]
  pointwise [k0_pay6]

/-- The row maximum on every lane. -/
theorem wide_apply (r : Fin 128) (d : Fin 128) :
    k0_pay7 (F := Ideal) lanes x0 x1 x2 x3 x5 (ix2 r d) = k0_pay6 (F := Ideal) lanes x0 x1 x2 x3 x5 (ix2 r 0) := by
  pointwise [k0_pay7]

/-- The gates of a row whose logits are `u` on the first eight lanes. -/
theorem pick_apply (v : FVec Ideal S128x128 .f32) (w : FVec Ideal S128x1 .f32) (z : FVec Ideal S128x128 .f32) (r : Fin 128) (d : Fin 8) (u : Fin 8 → EReal)
    (hu : ∀ e, ⊥ < u e) (hv : ∀ x, v (ix2 r x) = spread u x) (hw : w (ix2 r 0) = u (top u 0)) (hz : ∀ x, z (ix2 r x) = u (top u 0)) :
    k0_pay8 (F := Ideal) lanes v w z (ix2 r (lane d)) = weight u d := by
  have f1 : Finset.univ.fold IntOp.minsi 2147483647#32 (fun x : Fin 128 => if u (top u 0) ≤ v (ix2 r x) then BitVec.ofNat 32 x.val else 128#32)
      = BitVec.ofNat 32 (lane (top u 0)).val := by
    rw [← (spread_first u hu).fold_min, spread_lane]
    simp only [hv]
  have f2 : ∀ x : Fin 128, Scalar.select (IntOp.cmpi .eq (BitVec.ofNat 32 x.val) (BitVec.ofNat 32 (lane (top u 0)).val))
      (Named.named κ "neg" 4284592614#32 : Ideal FTy.f32) (v (ix2 r x)) = if x = lane (top u 0) then ⊥ else spread u x := by
    intro x
    rw [cmpi_lane _ _ (by omega) (by omega), select_ofBool, hv]
    simp only [Fin.ext_iff]
    rw [neg_eq]
  have hne : lane (top u 1) ≠ lane (top u 0) := fun e => top_ne u (Fin.ext (congrArg (·.val) e.symm :))
  have f3 := (struck_first u hu).fold_max
  have f4 := (struck_first u hu).fold_min
  rw [if_neg hne, spread_lane] at f3 f4
  have k1 : IntOp.cmpi .eq (BitVec.ofNat 32 (lane d).val) (BitVec.ofNat 32 (lane (top u 0)).val) = BitVec.ofBool (decide (d = top u 0)) := by
    rw [cmpi_lane _ _ (by omega) (by omega)]; simp only [Fin.ext_iff]; rfl
  have k2 : IntOp.cmpi .eq (BitVec.ofNat 32 (lane d).val) (BitVec.ofNat 32 (lane (top u 1)).val) = BitVec.ofBool (decide (d = top u 1)) := by
    rw [cmpi_lane _ _ (by omega) (by omega)]; simp only [Fin.ext_iff]; rfl
  unfold weight
  have f3' : Finset.univ.fold max (Ideal.ofBits FTy.f32 4286578688#32) (fun x : Fin 128 => if x = lane (top u 0) then ⊥ else spread u x)
      = u (top u 1) := by rw [bits_neg_inf]; exact f3
  pointwise [k0_pay8]
  simp only [hz, f1, f2, f3', f4, hw, k1, k2, select_ofBool]

/-- The three matrix products of one expert. -/
theorem expert_apply (h : FVec Ideal S128x1024 .bf16) (x6 x7 : FVec Ideal S1x1x1024x1408 .bf16) (x8 : FVec Ideal S1x1x1408x1024 .bf16)
    (r : Fin 128) (d : Fin 1024) :
    k0_pay10 (F := Ideal) h x6 x7 x8 (ix2 r d)
      = expert (fun k => h (ix2 r k)) (fun k f => x6 (ix4 0 0 k f)) (fun k f => x7 (ix4 0 0 k f)) (fun f d => x8 (ix4 0 0 f d)) d := by
  unfold expert
  simp only [← zero_sub (_ : EReal)]
  pointwise [k0_pay10]

/-- The gate column of the grid point's expert. -/
theorem gate_apply (i : grid0.Coords) (g : FVec Ideal S128x128 .f32) (r : Fin 128) (e : Fin 8) (he : (i 1 : Nat) = e.val) :
    k0_pay11 (F := Ideal) i g (ix2 r 0) = g (ix2 r (lane e)) := by
  have h : k0_pay11 (F := Ideal) i g (ix2 r 0) = ∑ x : Fin 128, Scalar.select (IntOp.cmpi .eq (BitVec.ofNat 32 x.val) (BitVec.ofNat 32 (i 1 : Nat))) (g (ix2 r x)) (0 : EReal) := by
    pointwise [k0_pay11]
  rw [h, Finset.sum_eq_single (lane e)]
  · rw [he, cmpi_lane _ _ (by omega) (by omega), select_ofBool]; exact if_pos rfl
  · intro x _ hx
    rw [he, cmpi_lane _ _ (by omega) (by omega), select_ofBool]
    exact if_neg fun e => hx (Fin.ext e)
  · intro h; exact absurd (Finset.mem_univ _) h

/-- The sum after one more expert. -/
theorem sum_apply (y : FVec Ideal S128x1024 .f32) (g : FVec Ideal S128x1 .f32) (a : FVec Ideal S128x1024 .f32) (r : Fin 128) (d : Fin 1024) :
    k0_pay1 (F := Ideal) y g a (ix2 r d) = a (ix2 r d) + g (ix2 r 0) * y (ix2 r d) := by
  pointwise [k0_pay1]

/-- The block of zeros the sum starts from. -/
theorem zero_apply (r : Fin 128) (d : Fin 1024) : (k0_pay9 (F := Ideal)) (ix2 r d) = 0 := by
  pointwise [k0_pay9]

/-- The output block. -/
theorem out_apply (x : FVec Ideal S128x1024 .f32) (g : FVec Ideal S128x1024 .f32) (a : FVec Ideal S128x1024 .f32) (r : Fin 128) (d : Fin 1024) :
    k0_pay2 (F := Ideal) x g a (ix2 r d) = x (ix2 r d) + g (ix2 r d) * a (ix2 r d) := by
  pointwise [k0_pay2]

end Cert.MoeSampleIdeal.Pay

end
-- ==== Proof.MoeSample.Blocks.lean ====
/-
  The blocks the sample group's mixture-of-experts kernel reads at expert `t`'s point, as entries of the argument arrays:
  the whole of `x` and of the three modulations, row 1 of the norm weights, the router on the first eight lanes, and
  expert `t`'s three weight matrices.
-/
module

public import proofs.«01_k».proof.Proof.MoeSample.Pay
public import Idealize.ShloMosaic.Lib.KernelVsHost

@[expose] public section

set_option maxRecDepth 16384

noncomputable section

open Idealize.ShloMosaic Idealize.ShloMosaic.TcCoe Idealize.SL.Sem

namespace Cert.MoeSampleIdeal.Blocks

open Cert.MoeSampleIdeal Cert.MoeSampleIdeal.Gen Cert.Route

variable (m : (ℓ : Loc nD τ sig) → Buf (Elt Ideal) ℓ)

/-- The block index of each window at each point. -/
theorem idx : ∀ t : Fin cfg0.N,
    win0_0.index t 0 = t.val / 8
    ∧ win0_0.index t 1 = 0
    ∧ win0_1.index t 0 = 1
    ∧ win0_1.index t 1 = 0
    ∧ win0_1.index t 2 = 0
    ∧ win0_2.index t 0 = t.val / 8
    ∧ win0_2.index t 1 = 0
    ∧ win0_3.index t 0 = t.val / 8
    ∧ win0_3.index t 1 = 0
    ∧ win0_4.index t 0 = t.val / 8
    ∧ win0_4.index t 1 = 0
    ∧ win0_5.index t 0 = 0
    ∧ win0_5.index t 1 = 0
    ∧ win0_5.index t 2 = 0
    ∧ win0_6.index t 0 = 0
    ∧ win0_6.index t 1 = t.val % 8
    ∧ win0_6.index t 2 = 0
    ∧ win0_6.index t 3 = 0
    ∧ win0_7.index t 0 = 0
    ∧ win0_7.index t 1 = t.val % 8
    ∧ win0_7.index t 2 = 0
    ∧ win0_7.index t 3 = 0
    ∧ win0_8.index t 0 = 0
    ∧ win0_8.index t 1 = t.val % 8
    ∧ win0_8.index t 2 = 0
    ∧ win0_8.index t 3 = 0 := by
  decide +kernel

theorem V_v0 (c : Dev nD) : V m c main_v0 = broadcastInDim S2x1x1024 ![0, 2] bcast_S2x1024_S2x1x1024_0_2 (m ((c : Thread nD τ).loc main_arg4)) := by
  show StableHlo.after _ _ (Proc.devRef .tc main_v0) = _
  unfold hostOps0 hostOps0_1
  simp only [List.flatten_cons, List.flatten_nil, List.append_nil, List.cons_append, List.nil_append]
  after_results
  try rfl

theorem V_v1 (c : Dev nD) : (V m c main_v1 : S1x8x1024x1408.Idx → EReal) = m ((c : Thread nD τ).loc main_arg6) := by
  show StableHlo.after _ _ (Proc.devRef .tc main_v1) = _
  unfold hostOps0 hostOps0_1
  simp only [List.flatten_cons, List.flatten_nil, List.append_nil, List.cons_append, List.nil_append]
  after_results
  try rfl

theorem V_v2 (c : Dev nD) : (V m c main_v2 : S1x8x1024x1408.Idx → EReal) = m ((c : Thread nD τ).loc main_arg7) := by
  show StableHlo.after _ _ (Proc.devRef .tc main_v2) = _
  unfold hostOps0 hostOps0_1
  simp only [List.flatten_cons, List.flatten_nil, List.append_nil, List.cons_append, List.nil_append]
  after_results
  try rfl

theorem V_v3 (c : Dev nD) : (V m c main_v3 : S1x8x1408x1024.Idx → EReal) = m ((c : Thread nD τ).loc main_arg8) := by
  show StableHlo.after _ _ (Proc.devRef .tc main_v3) = _
  unfold hostOps0 hostOps0_1
  simp only [List.flatten_cons, List.flatten_nil, List.append_nil, List.cons_append, List.nil_append]
  after_results
  try rfl

theorem V_v4 (c : Dev nD) : ∃ z, V m c main_v4
    = pad S1x1024x128 ![0, 0, 0] ![0, 0, 120] ![0, 0, 0] (m ((c : Thread nD τ).loc main_arg5)) z pads_S1x1024x8_S1x1024x128_000_000_01200 h_S_ := by
  show ∃ z, StableHlo.after _ _ (Proc.devRef .tc main_v4) = _
  unfold hostOps0 hostOps0_1
  simp only [List.flatten_cons, List.flatten_nil, List.append_nil, List.cons_append, List.nil_append]
  after_results
  exact ⟨_, rfl⟩

/-- The row of `x` that row `r` of the block at point `t` is. -/
def rowAt (t : Fin cfg0.N) (r : Fin 128) : Fin 128 :=
  ⟨128 * (t.val / 8) + r.val, by have : t.val < 8 := Nat.lt_of_lt_of_eq t.isLt N_0; omega⟩

/-- The expert of point `t`. -/
def expertAt (t : Fin cfg0.N) : Fin 8 := ⟨t.val % 8, by omega⟩

variable (c : Dev nD) (t : Fin cfg0.N)

theorem row_at (r : Fin 128) (d : Fin 1024) : (iblk m c 0 t : FVec Ideal S128x1024 .f32) (ix2 r d) = m ((c : Thread nD τ).loc main_arg0) (ix2 (rowAt t r) d) := by
  have hb : ((cfg0.win 0).blk t).view.read (Elt Ideal) (V m c (Pipeline.arrRef spec0 0)) (ix2 r d) = V m c main_arg0 (ix2 (rowAt t r) d) := by
    rw [View.read_apply]
    show V m c main_arg0 _ = V m c main_arg0 _
    congr 1
    funext a
    apply Fin.ext
    match a with
    | ⟨0, _⟩ => show win0_0.index t 0 * 128 + 1 * r.val = (rowAt t r).val; rw [(idx t).1]; show _ = 128 * (t.val / 8) + r.val; omega
    | ⟨1, _⟩ => show win0_0.index t 1 * 1024 + 1 * d.val = d.val; rw [(idx t).2.1]; omega
  refine hb.trans ?_
  exact congrFun (V_main_arg0 m c) _

theorem norm_at (d : Fin 1024) : (iblk m c 1 t : FVec Ideal S1x1x1024 .f32) (ix3 0 0 d) = m ((c : Thread nD τ).loc main_arg4) (ix2 1 d) := by
  have hb : ((cfg0.win 1).blk t).view.read (Elt Ideal) (V m c (Pipeline.arrRef spec0 1)) (ix3 0 0 d) = V m c main_v0 (ix3 1 0 d) := by
    rw [View.read_apply]
    show V m c main_v0 _ = V m c main_v0 _
    congr 1
    funext a
    apply Fin.ext
    match a with
    | ⟨0, _⟩ => show win0_1.index t 0 * 1 + 1 * 0 = 1; rw [(idx t).2.2.1]
    | ⟨1, _⟩ => show win0_1.index t 1 * 1 + 1 * 0 = 0; rw [(idx t).2.2.2.1]
    | ⟨2, _⟩ => show win0_1.index t 2 * 1024 + 1 * d.val = d.val; rw [(idx t).2.2.2.2.1]; omega
  refine hb.trans ?_
  rw [V_v0]
  pointwise []

theorem scale_at (r : Fin 128) (d : Fin 1024) : (iblk m c 2 t : FVec Ideal S128x1024 .f32) (ix2 r d) = m ((c : Thread nD τ).loc main_arg1) (ix2 (rowAt t r) d) := by
  have hb : ((cfg0.win 2).blk t).view.read (Elt Ideal) (V m c (Pipeline.arrRef spec0 2)) (ix2 r d) = V m c main_arg1 (ix2 (rowAt t r) d) := by
    rw [View.read_apply]
    show V m c main_arg1 _ = V m c main_arg1 _
    congr 1
    funext a
    apply Fin.ext
    match a with
    | ⟨0, _⟩ => show win0_2.index t 0 * 128 + 1 * r.val = (rowAt t r).val; rw [(idx t).2.2.2.2.2.1]; show _ = 128 * (t.val / 8) + r.val; omega
    | ⟨1, _⟩ => show win0_2.index t 1 * 1024 + 1 * d.val = d.val; rw [(idx t).2.2.2.2.2.2.1]; omega
  refine hb.trans ?_
  exact congrFun (V_main_arg1 m c) _

theorem shift_at (r : Fin 128) (d : Fin 1024) : (iblk m c 3 t : FVec Ideal S128x1024 .f32) (ix2 r d) = m ((c : Thread nD τ).loc main_arg2) (ix2 (rowAt t r) d) := by
  have hb : ((cfg0.win 3).blk t).view.read (Elt Ideal) (V m c (Pipeline.arrRef spec0 3)) (ix2 r d) = V m c main_arg2 (ix2 (rowAt t r) d) := by
    rw [View.read_apply]
    show V m c main_arg2 _ = V m c main_arg2 _
    congr 1
    funext a
    apply Fin.ext
    match a with
    | ⟨0, _⟩ => show win0_3.index t 0 * 128 + 1 * r.val = (rowAt t r).val; rw [(idx t).2.2.2.2.2.2.2.1]; show _ = 128 * (t.val / 8) + r.val; omega
    | ⟨1, _⟩ => show win0_3.index t 1 * 1024 + 1 * d.val = d.val; rw [(idx t).2.2.2.2.2.2.2.2.1]; omega
  refine hb.trans ?_
  exact congrFun (V_main_arg2 m c) _

theorem gate_at (r : Fin 128) (d : Fin 1024) : (iblk m c 4 t : FVec Ideal S128x1024 .f32) (ix2 r d) = m ((c : Thread nD τ).loc main_arg3) (ix2 (rowAt t r) d) := by
  have hb : ((cfg0.win 4).blk t).view.read (Elt Ideal) (V m c (Pipeline.arrRef spec0 4)) (ix2 r d) = V m c main_arg3 (ix2 (rowAt t r) d) := by
    rw [View.read_apply]
    show V m c main_arg3 _ = V m c main_arg3 _
    congr 1
    funext a
    apply Fin.ext
    match a with
    | ⟨0, _⟩ => show win0_4.index t 0 * 128 + 1 * r.val = (rowAt t r).val; rw [(idx t).2.2.2.2.2.2.2.2.2.1]; show _ = 128 * (t.val / 8) + r.val; omega
    | ⟨1, _⟩ => show win0_4.index t 1 * 1024 + 1 * d.val = d.val; rw [(idx t).2.2.2.2.2.2.2.2.2.2.1]; omega
  refine hb.trans ?_
  exact congrFun (V_main_arg3 m c) _

theorem router_at (k : Fin 1024) (e : Fin 8) : (iblk m c 5 t : FVec Ideal S1x1024x128 .f32) (ix3 0 k (lane e)) = m ((c : Thread nD τ).loc main_arg5) (ix3 0 k e) := by
  have hb : ((cfg0.win 5).blk t).view.read (Elt Ideal) (V m c (Pipeline.arrRef spec0 5)) (ix3 0 k (lane e)) = V m c main_v4 (ix3 0 k (lane e)) := by
    rw [View.read_apply]
    show V m c main_v4 _ = V m c main_v4 _
    congr 1
    funext a
    apply Fin.ext
    match a with
    | ⟨0, _⟩ => show win0_5.index t 0 * 1 + 1 * 0 = 0; rw [(idx t).2.2.2.2.2.2.2.2.2.2.2.1]
    | ⟨1, _⟩ => show win0_5.index t 1 * 1024 + 1 * k.val = k.val; rw [(idx t).2.2.2.2.2.2.2.2.2.2.2.2.1]; omega
    | ⟨2, _⟩ => show win0_5.index t 2 * 128 + 1 * (lane e).val = (lane e).val; rw [(idx t).2.2.2.2.2.2.2.2.2.2.2.2.2.1]; omega
  refine hb.trans ?_
  obtain ⟨z, hz⟩ := V_v4 m c
  rw [hz]
  refine pad_apply_of_inside _ _ _ _ _ _ _ _ _ fun a => ?_
  match a with
  | ⟨0, _⟩ => rfl
  | ⟨1, _⟩ => show k.val = 0 + k.val * (0 + 1); omega
  | ⟨2, _⟩ => show e.val = 0 + e.val * (0 + 1); omega

theorem w1_at (k : Fin 1024) (f : Fin 1408) : (iblk m c 6 t : FVec Ideal S1x1x1024x1408 .bf16) (ix4 0 0 k f) = m ((c : Thread nD τ).loc main_arg6) (ix4 0 (expertAt t) k f) := by
  have hb : ((cfg0.win 6).blk t).view.read (Elt Ideal) (V m c (Pipeline.arrRef spec0 6)) (ix4 0 0 k f) = V m c main_v1 (ix4 0 (expertAt t) k f) := by
    rw [View.read_apply]
    show V m c main_v1 _ = V m c main_v1 _
    congr 1
    funext a
    apply Fin.ext
    match a with
    | ⟨0, _⟩ => show win0_6.index t 0 * 1 + 1 * 0 = 0; rw [(idx t).2.2.2.2.2.2.2.2.2.2.2.2.2.2.1]
    | ⟨1, _⟩ => show win0_6.index t 1 * 1 + 1 * 0 = (expertAt t).val; rw [(idx t).2.2.2.2.2.2.2.2.2.2.2.2.2.2.2.1]; show _ = t.val % 8; omega
    | ⟨2, _⟩ => show win0_6.index t 2 * 1024 + 1 * k.val = k.val; rw [(idx t).2.2.2.2.2.2.2.2.2.2.2.2.2.2.2.2.1]; omega
    | ⟨3, _⟩ => show win0_6.index t 3 * 1408 + 1 * f.val = f.val; rw [(idx t).2.2.2.2.2.2.2.2.2.2.2.2.2.2.2.2.2.1]; omega
  refine hb.trans ?_
  exact congrFun (V_v1 m c) _

theorem w3_at (k : Fin 1024) (f : Fin 1408) : (iblk m c 7 t : FVec Ideal S1x1x1024x1408 .bf16) (ix4 0 0 k f) = m ((c : Thread nD τ).loc main_arg7) (ix4 0 (expertAt t) k f) := by
  have hb : ((cfg0.win 7).blk t).view.read (Elt Ideal) (V m c (Pipeline.arrRef spec0 7)) (ix4 0 0 k f) = V m c main_v2 (ix4 0 (expertAt t) k f) := by
    rw [View.read_apply]
    show V m c main_v2 _ = V m c main_v2 _
    congr 1
    funext a
    apply Fin.ext
    match a with
    | ⟨0, _⟩ => show win0_7.index t 0 * 1 + 1 * 0 = 0; rw [(idx t).2.2.2.2.2.2.2.2.2.2.2.2.2.2.2.2.2.2.1]
    | ⟨1, _⟩ => show win0_7.index t 1 * 1 + 1 * 0 = (expertAt t).val; rw [(idx t).2.2.2.2.2.2.2.2.2.2.2.2.2.2.2.2.2.2.2.1]; show _ = t.val % 8; omega
    | ⟨2, _⟩ => show win0_7.index t 2 * 1024 + 1 * k.val = k.val; rw [(idx t).2.2.2.2.2.2.2.2.2.2.2.2.2.2.2.2.2.2.2.2.1]; omega
    | ⟨3, _⟩ => show win0_7.index t 3 * 1408 + 1 * f.val = f.val; rw [(idx t).2.2.2.2.2.2.2.2.2.2.2.2.2.2.2.2.2.2.2.2.2.1]; omega
  refine hb.trans ?_
  exact congrFun (V_v2 m c) _

theorem w2_at (f : Fin 1408) (d : Fin 1024) : (iblk m c 8 t : FVec Ideal S1x1x1408x1024 .bf16) (ix4 0 0 f d) = m ((c : Thread nD τ).loc main_arg8) (ix4 0 (expertAt t) f d) := by
  have hb : ((cfg0.win 8).blk t).view.read (Elt Ideal) (V m c (Pipeline.arrRef spec0 8)) (ix4 0 0 f d) = V m c main_v3 (ix4 0 (expertAt t) f d) := by
    rw [View.read_apply]
    show V m c main_v3 _ = V m c main_v3 _
    congr 1
    funext a
    apply Fin.ext
    match a with
    | ⟨0, _⟩ => show win0_8.index t 0 * 1 + 1 * 0 = 0; rw [(idx t).2.2.2.2.2.2.2.2.2.2.2.2.2.2.2.2.2.2.2.2.2.2.1]
    | ⟨1, _⟩ => show win0_8.index t 1 * 1 + 1 * 0 = (expertAt t).val; rw [(idx t).2.2.2.2.2.2.2.2.2.2.2.2.2.2.2.2.2.2.2.2.2.2.2.1]; show _ = t.val % 8; omega
    | ⟨2, _⟩ => show win0_8.index t 2 * 1408 + 1 * f.val = f.val; rw [(idx t).2.2.2.2.2.2.2.2.2.2.2.2.2.2.2.2.2.2.2.2.2.2.2.2.1]; omega
    | ⟨3, _⟩ => show win0_8.index t 3 * 1024 + 1 * d.val = d.val; rw [(idx t).2.2.2.2.2.2.2.2.2.2.2.2.2.2.2.2.2.2.2.2.2.2.2.2.2]; omega
  refine hb.trans ?_
  exact congrFun (V_v3 m c) _

end Cert.MoeSampleIdeal.Blocks

end
-- ==== Proof.MoeSample.State.lean ====
/-
  What the mixture-of-experts kernel holds after each grid point, and the array it leaves.

  The points run over the eight experts in order. After expert `e`'s point the scratch arrays hold the normalised rows,
  their gates and the gated sum of experts `0 … e`; the last expert's point writes the layer's rows.
-/
module

public import proofs.«01_k».proof.Proof.MoeSample.Blocks

@[expose] public section

set_option maxRecDepth 16384

noncomputable section

open Idealize.ShloMosaic Idealize.ShloMosaic.TcCoe Idealize.SL.Sem

namespace Cert.MoeSampleIdeal.State

open Cert.MoeSampleIdeal Cert.MoeSampleIdeal.Gen Cert.MoeSampleIdeal.Value Cert.MoeSampleIdeal.Step Cert.MoeSampleIdeal.Pay Cert.MoeSampleIdeal.Blocks Cert.Route Cert.Spec

variable (m : (ℓ : Loc nD τ sig) → Buf (Elt Ideal) ℓ) (c : Dev nD)

/-! ## The argument arrays as functions -/

def X (R : Fin 128) (d : Fin 1024) : EReal := m ((c : Thread nD τ).loc main_arg0) (ix2 R d)
def sc (R : Fin 128) (d : Fin 1024) : EReal := m ((c : Thread nD τ).loc main_arg1) (ix2 R d)
def sh (R : Fin 128) (d : Fin 1024) : EReal := m ((c : Thread nD τ).loc main_arg2) (ix2 R d)
def g2 (R : Fin 128) (d : Fin 1024) : EReal := m ((c : Thread nD τ).loc main_arg3) (ix2 R d)
def nw (d : Fin 1024) : EReal := m ((c : Thread nD τ).loc main_arg4) (ix2 1 d)
def router (k : Fin 1024) (e : Fin 8) : EReal := m ((c : Thread nD τ).loc main_arg5) (ix3 0 k e)
def w1 (e : Fin 8) (k : Fin 1024) (f : Fin 1408) : EReal := m ((c : Thread nD τ).loc main_arg6) (ix4 0 e k f)
def w3 (e : Fin 8) (k : Fin 1024) (f : Fin 1408) : EReal := m ((c : Thread nD τ).loc main_arg7) (ix4 0 e k f)
def w2 (e : Fin 8) (f : Fin 1408) (d : Fin 1024) : EReal := m ((c : Thread nD τ).loc main_arg8) (ix4 0 e f d)

/-- Row `R` normalised and modulated. -/
def H (R : Fin 128) : Fin 1024 → EReal := hrow (X m c R) (nw m c) (sc m c R) (sh m c R)

/-- Row `R`'s logits. -/
def U (R : Fin 128) : Fin 8 → EReal := logit (H m c R) (router m c)

/-- Expert `e`'s output at row `R`. -/
def Y (R : Fin 128) (d : Fin 1024) (e : Fin 8) : EReal := expert (H m c R) (w1 m c e) (w3 m c e) (w2 m c e) d

variable {m c}

/-! ## The point's values over the arrays -/

theorem h3_at (t : Fin cfg0.N) (r : Fin 128) (d : Fin 1024) :
    k0_pay3 (F := Ideal) (iblk m c 0 t) (iblk m c 1 t) (iblk m c 2 t) (iblk m c 3 t) (ix2 r d) = H m c (rowAt t r) d := by
  rw [h3_apply]
  simp only [row_at, norm_at, scale_at, shift_at]
  rfl

theorem h_at (t : Fin cfg0.N) (r : Fin 128) (d : Fin 1024) :
    k0_pay4 (F := Ideal) (iblk m c 0 t) (iblk m c 1 t) (iblk m c 2 t) (iblk m c 3 t) (ix2 r d) = H m c (rowAt t r) d := by
  rw [h_apply]
  simp only [row_at, norm_at, scale_at, shift_at]
  rfl

theorem logits_at (t : Fin cfg0.N) (r : Fin 128) (x : Fin 128) :
    k0_pay5 (F := Ideal) lanes (iblk m c 0 t) (iblk m c 1 t) (iblk m c 2 t) (iblk m c 3 t) (iblk m c 5 t) (ix2 r x)
      = spread (U m c (rowAt t r)) x := by
  rw [logits_apply]
  simp only [h3_at, router_at]
  rfl

theorem max_at (hU : ∀ R e, ⊥ < U m c R e) (t : Fin cfg0.N) (r : Fin 128) :
    k0_pay6 (F := Ideal) lanes (iblk m c 0 t) (iblk m c 1 t) (iblk m c 2 t) (iblk m c 3 t) (iblk m c 5 t) (ix2 r 0)
      = U m c (rowAt t r) (top (U m c (rowAt t r)) 0) := by
  rw [max_apply]
  simp only [logits_at]
  rw [(spread_first _ (hU _)).fold_max, spread_lane]

theorem gates_at (hU : ∀ R e, ⊥ < U m c R e) (t : Fin cfg0.N) (r : Fin 128) (e : Fin 8) :
    (gates (F := Ideal) (iblk m c 0 t) (iblk m c 1 t) (iblk m c 2 t) (iblk m c 3 t) (iblk m c 5 t)) (ix2 r (lane e))
      = weight (U m c (rowAt t r)) e := by
  refine pick_apply _ _ _ r e _ (hU _) (logits_at t r) ?_ fun x => ?_
  · exact max_at hU t r
  · rw [wide_apply]; exact max_at hU t r

theorem coord1 (t : Fin cfg0.N) : (grid0.coords t 1 : Nat) = (expertAt t).val := by
  have e : (grid0.coords t 1).val = t.val / 1 % 8 := Pipeline.Grid.coords_val t 1 (by decide) rfl
  rw [e, Nat.div_one]; rfl

theorem expert_at (t : Fin cfg0.N) (r : Fin 128) (d : Fin 1024) (R : Fin 128) (h : FVec Ideal S128x1024 .bf16)
    (hh : ∀ k, h (ix2 r k) = H m c R k) :
    k0_pay10 (F := Ideal) h (iblk m c 6 t) (iblk m c 7 t) (iblk m c 8 t) (ix2 r d) = Y m c R d (expertAt t) := by
  rw [expert_apply]
  simp only [hh, w1_at, w3_at, w2_at]
  rfl

theorem sum_at (t : Fin cfg0.N) (r : Fin 128) (d : Fin 1024) (R : Fin 128) (h : FVec Ideal S128x1024 .bf16) (g : FVec Ideal S128x128 .f32)
    (a : FVec Ideal S128x1024 .f32) (hh : ∀ k, h (ix2 r k) = H m c R k) (hg : ∀ e, g (ix2 r (lane e)) = weight (U m c R) e)
    (ha : a (ix2 r d) = mix (weight (U m c R)) (Y m c R d) (t.val % 8)) :
    k0_pay1 (F := Ideal) (k0_pay10 h (iblk m c 6 t) (iblk m c 7 t) (iblk m c 8 t)) (k0_pay11 (grid0.coords t) g) a (ix2 r d)
      = mix (weight (U m c R)) (Y m c R d) (t.val % 8 + 1) := by
  rw [sum_apply, gate_apply _ _ _ (expertAt t) (coord1 t), hg, expert_at t r d R h hh, ha, mix_step _ _ _ (by omega)]
  rfl

/-! ## The induction over the points -/

/-- What the scratch arrays hold after point `t`. -/
structure Holds (m : (ℓ : Loc nD τ sig) → Buf (Elt Ideal) ℓ) (c : Dev nD) (t : Fin cfg0.N)
    (s : Vec Ideal S128x1024 .f32 × Vec Ideal S128x1024 .bf16 × Vec Ideal S128x128 .f32 × Vec Ideal S128x1024 .f32) : Prop where
  h : ∀ r k, s.2.1 (ix2 r k) = H m c (rowAt t r) k
  g : ∀ r e, s.2.2.1 (ix2 r (lane e)) = weight (U m c (rowAt t r)) e
  a : ∀ r d, s.2.2.2 (ix2 r d) = mix (weight (U m c (rowAt t r))) (Y m c (rowAt t r) d) (t.val % 8 + 1)

theorem holds_first (hU : ∀ R e, ⊥ < U m c R e) (t : Fin cfg0.N) (h0 : t.val % 8 = 0) (acc) :
    Holds m c t (stAt0 m c t.val t.isLt acc) where
  h r k := by rw [first_h m c t h0]; exact h_at t r k
  g r e := by rw [first_gate m c t h0]; exact gates_at hU t r e
  a r d := by
    rw [first_acc m c t h0]
    refine sum_at t r d _ _ _ _ (h_at t r) (gates_at hU t r) ?_
    rw [zero_apply, h0]; rfl

theorem rowAt_succ (n : Nat) (hn : n + 1 < cfg0.N) (h0 : ¬ (n + 1) % 8 = 0) (r : Fin 128) :
    rowAt ⟨n + 1, hn⟩ r = rowAt ⟨n, Nat.lt_of_succ_lt hn⟩ r := by
  apply Fin.ext
  show 128 * ((n + 1) / 8) + r.val = 128 * (n / 8) + r.val
  omega

theorem holds_mid (n : Nat) (hn : n + 1 < cfg0.N) (h0 : ¬ (n + 1) % 8 = 0) (h1 : ¬ (n + 1) % 8 = 7) (acc)
    (ih : Holds m c ⟨n, Nat.lt_of_succ_lt hn⟩ acc) : Holds m c ⟨n + 1, hn⟩ (stAt0 m c (n + 1) hn acc) where
  h r k := by rw [mid_h m c ⟨n + 1, hn⟩ h0 h1 acc, ih.h, rowAt_succ n hn h0]
  g r e := by rw [mid_gate m c ⟨n + 1, hn⟩ h0 h1 acc, ih.g, rowAt_succ n hn h0]
  a r d := by
    rw [mid_acc m c ⟨n + 1, hn⟩ h0 h1 acc]
    refine sum_at ⟨n + 1, hn⟩ r d _ _ _ _ (fun k => ?_) (fun e => ?_) ?_
    · rw [ih.h, rowAt_succ n hn h0]
    · rw [ih.g, rowAt_succ n hn h0]
    · rw [ih.a, rowAt_succ n hn h0]
      congr 1
      show n % 8 + 1 = (n + 1) % 8
      omega

theorem holds (hU : ∀ R e, ⊥ < U m c R e) : ∀ (n : Nat) (hn : n < cfg0.N), ¬ n % 8 = 7 → Holds m c ⟨n, hn⟩ (outsAt0 m c n hn)
  | 0, hn, _ => by rw [outsAt0_zero]; exact holds_first hU ⟨0, hn⟩ rfl _
  | n + 1, hn, h1 => by
    rw [outsAt0_succ]
    by_cases h0 : (n + 1) % 8 = 0
    · exact holds_first hU ⟨n + 1, hn⟩ h0 _
    · exact holds_mid n hn h0 h1 _ (holds hU n (Nat.lt_of_succ_lt hn) (by omega))

/-- The layer at row `R` of the arrays. -/
def result (m : (ℓ : Loc nD τ sig) → Buf (Elt Ideal) ℓ) (c : Dev nD) (R : Fin 128) (d : Fin 1024) : EReal :=
  layer (X m c R) (nw m c) (sc m c R) (sh m c R) (g2 m c R) (router m c) (w1 m c) (w3 m c) (w2 m c) d

/-- The block the last expert's point writes. -/
theorem block_out (hU : ∀ R e, ⊥ < U m c R e) (n : Nat) (hn : n + 1 < cfg0.N) (h1 : (n + 1) % 8 = 7) (r : Fin 128) (d : Fin 1024) :
    (outsAt0 m c (n + 1) hn).1 (ix2 r d) = result m c (rowAt ⟨n + 1, hn⟩ r) d := by
  have ih := holds hU n (Nat.lt_of_succ_lt hn) (by omega)
  have h0 : ¬ (n + 1) % 8 = 0 := by omega
  rw [outsAt0_succ, last_out m c ⟨n + 1, hn⟩ h1, out_apply, row_at, gate_at,
    sum_at ⟨n + 1, hn⟩ r d (rowAt ⟨n + 1, hn⟩ r) _ _ _ (fun k => by rw [ih.h, rowAt_succ n hn h0])
      (fun e => by rw [ih.g, rowAt_succ n hn h0])
      (by rw [ih.a, rowAt_succ n hn h0]; congr 1; show n % 8 + 1 = (n + 1) % 8; omega)]
  show _ + _ * mix _ _ ((n + 1) % 8 + 1) = _
  rw [h1]
  rfl

/-- The array the kernel leaves. -/
theorem G9_apply (hU : ∀ R e, ⊥ < U m c R e) (R : Fin 128) (d : Fin 1024) : G9 m c (ix2 R d) = result m c R d := by
  have hR := R.isLt
  have hd := d.isLt
  have hrun : run9Of (ix2 R d) = R.val / 128 := by
    show 1 * (R.val / 128 - 0) + 1 * (d.val / 1024 - 0) = _
    omega
  have hN : cfg0.N = 8 := N_0
  have hpt : pt9Of (ix2 R d) = (8 * (R.val / 128) + 6) + 1 := by
    show 8 * run9Of (ix2 R d) + 7 = _
    rw [hrun]
  have hn : (8 * (R.val / 128) + 6) + 1 < cfg0.N := by omega
  unfold G9
  rw [dif_pos (by rw [hpt]; exact hn)]
  rw [fold0_congr m c _ _ ((8 * (R.val / 128) + 6) + 1) (by omega) hpt, ← outsAt0_sweep m c _ hn]
  have hloc : loc9Of (ix2 R d) = ix2 ⟨R.val % 128, by omega⟩ d := by
    funext a
    match a with
    | ⟨0, _⟩ => rfl
    | ⟨1, _⟩ => exact Fin.ext (Nat.mod_eq_of_lt hd)
  rw [hloc, block_out hU _ hn (by omega)]
  congr 1
  apply Fin.ext
  show 128 * (((8 * (R.val / 128) + 6) + 1) / 8) + R.val % 128 = R.val
  omega

end Cert.MoeSampleIdeal.State

end
-- ==== Proof.MoeSample.Ref.lean ====
/-
  The reference's mixture of experts read at one position, in plain arithmetic.
-/
module

public import proofs.«01_k».proof.Proof.Gen.MoeSampleRefIdeal.Read
public import proofs.«01_k».proof.Proof.Moe.Spec
public import Idealize.ShloMosaic.Lib.Pointwise

@[expose] public section

set_option maxRecDepth 16384

noncomputable section

open Idealize.ShloMosaic Idealize.ShloMosaic.TcCoe Idealize.SL.Sem

namespace Cert.MoeSampleRefIdeal.Ref

open Cert.MoeSampleRefIdeal Cert.MoeSampleRefIdeal.Read Cert.Route Cert.Spec

variable (a0 : FVec Ideal S128x1024 .f32) (a1 a2 : FVec Ideal S128x1024 .f32) (a4 : FVec Ideal S2x1024 .f32)
  (a5 : FVec Ideal S1x1024x8 .f32) (a6 a7 : FVec Ideal S1x8x1024x1408 .f32) (a8 : FVec Ideal S1x8x1408x1024 .f32)

/-- The modulated normalised rows. -/
theorem h_apply (r : Fin 128) (d : Fin 1024) :
    val_main_v18 (F := Ideal) a0 a1 a2 a4 (ix2 r d)
      = hrow (fun k => a0 (ix2 r k)) (fun k => a4 (ix2 1 k)) (fun k => a1 (ix2 r k)) (fun k => a2 (ix2 r k)) d := by
  unfold hrow
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

/-- The router's logits. -/
theorem logit_apply (r : Fin 128) (e : Fin 8) :
    val_main_v23 (F := Ideal) a0 a1 a2 a4 a5 (ix2 r e)
      = logit (fun k => val_main_v18 (F := Ideal) a0 a1 a2 a4 (ix2 r k)) (fun k e => a5 (ix3 0 k e)) e := by
  unfold logit
  pointwise [val_main_v23, val_main_v19]

/-! ## The two greatest logits -/

/-- The stable top-2 of a row: its values and its positions. -/
theorem topK_apply (x : FVec Ideal S128x8 .f32) (h : S128x8.Slices (fun _ => 0) S128x2) (r : Fin 128) (k : Fin 2) :
    (Host.topK S128x2 1 (FloatOps.cmpfTotal (F := Ideal) (φ := .f32) .gt) x h).1 (ix2 r k)
        = x (ix2 r (top (fun e => x (ix2 r e)) k))
      ∧ (Host.topK S128x2 1 (FloatOps.cmpfTotal (F := Ideal) (φ := .f32) .gt) x h).2 (ix2 r k)
        = BitVec.ofNat 32 (top (fun e => x (ix2 r e)) k).val := by
  have hal : ∀ (j : S128x8.Idx) (q : Fin 8), j.along 1 q = ix2 (j 0) q := by
    intro j q
    funext a
    match a with
    | ⟨0, _⟩ => rfl
    | ⟨1, _⟩ => rfl
  have hc : ∀ (a b : EReal), (FloatOps.cmpfTotal (F := Ideal) (φ := .f32) .gt a b == 1#1) = decide (b < a) := by
    intro a b
    show (BitVec.ofBool (decide (b < a)) == 1#1) = _
    cases decide (b < a) <;> rfl
  have hs : sortedFrom (fun q q' : Fin 8 => FloatOps.cmpfTotal (F := Ideal) (φ := .f32) .gt (x (ix2 r q)) (x (ix2 r q')) == 1#1)
      = sortedFrom (before fun e => x (ix2 r e)) := by
    rw [← sortedFrom_gt]
    congr 1
    funext q q'
    exact hc _ _
  have hk : k.val < 8 := by omega
  have hJ : (fun a : Fin 2 => (⟨0 + ((ix2 r k : S128x2.Idx) (a.cast h.1.symm)).val,
      Nat.lt_of_lt_of_le (Nat.add_lt_add_left ((ix2 r k : S128x2.Idx) _).isLt _) (h.2 a)⟩ : Fin (S128x8.size a)))
        = (ix2 r ⟨k.val, hk⟩ : S128x8.Idx) := by
    funext a
    match a with
    | ⟨0, _⟩ => exact Fin.ext (Nat.zero_add _)
    | ⟨1, _⟩ => exact Fin.ext (Nat.zero_add _)
  have key : ∀ J : S128x8.Idx, J = ix2 r ⟨k.val, hk⟩ →
      sortedFrom (fun q q' : Fin 8 => FloatOps.cmpfTotal (F := Ideal) (φ := .f32) .gt (x (J.along 1 q)) (x (J.along 1 q')) == 1#1) (J 1)
        = top (fun e => x (ix2 r e)) k := by
    rintro J rfl
    simp only [hal]
    exact congrFun hs _
  constructor
  · show x (Shape.Idx.along (fun a : Fin 2 => (⟨0 + ((ix2 r k : S128x2.Idx) (a.cast h.1.symm)).val, _⟩ : Fin (S128x8.size a))) 1 _) = _
    refine (congrArg x (hal _ _)).trans ?_
    exact congrArg x (congrArg₂ ix2 (congrFun hJ 0) (key _ hJ))
  · show BitVec.ofNat 32 (Shape.Idx.along (fun a : Fin 2 => (⟨0 + ((ix2 r k : S128x2.Idx) (a.cast h.1.symm)).val, _⟩ : Fin (S128x8.size a))) 1 _ 1).val = _
    exact congrArg (fun q : Fin 8 => BitVec.ofNat 32 q.val) (key _ hJ)

theorem values_apply (r : Fin 128) (k : Fin 2) :
    val_main_values (F := Ideal) a0 a1 a2 a4 a5 (ix2 r k)
      = val_main_v23 (F := Ideal) a0 a1 a2 a4 a5 (ix2 r (top (fun e => val_main_v23 (F := Ideal) a0 a1 a2 a4 a5 (ix2 r e)) k)) :=
  (topK_apply _ _ r k).1

theorem indices_apply (r : Fin 128) (k : Fin 2) :
    val_main_indices (F := Ideal) a0 a1 a2 a4 a5 (ix2 r k)
      = BitVec.ofNat 32 (top (fun e => val_main_v23 (F := Ideal) a0 a1 a2 a4 a5 (ix2 r e)) k).val :=
  (topK_apply _ _ r k).2

theorem uitofp_ofBool (p : Prop) [Decidable p] :
    (FloatOps.uitofp .f32 (BitVec.ofBool (decide p)) : Ideal .f32) = if p then (1 : EReal) else 0 := by
  show (((BitVec.ofBool (decide p)).toNat : ℝ) : EReal) = _
  by_cases h : p <;> simp [h]

/-- The gates of a row: the softmax of its two greatest logits, at the experts that hold them. -/
theorem gate_apply (r : Fin 128) (e : Fin 8) (v : Fin 8 → EReal) (u : Fin 8 → ℝ) (hu : ∀ e, v e = (u e : EReal))
    (hv : ∀ e, val_main_v23 (F := Ideal) a0 a1 a2 a4 a5 (ix2 r e) = v e) :
    val_main_v39 (F := Ideal) a0 a1 a2 a4 a5 (ix2 r e) = weight v e := by
  have hv' : (fun e => val_main_v23 (F := Ideal) a0 a1 a2 a4 a5 (ix2 r e)) = v := funext hv
  have h1 : ∀ k : Fin 2, val_main_values (F := Ideal) a0 a1 a2 a4 a5 (ix2 r k) = v (top v k) := by
    intro k; rw [values_apply, hv', hv]
  have h2 : ∀ k : Fin 2, IntOp.cmpi .eq (val_main_indices (F := Ideal) a0 a1 a2 a4 a5 (ix2 r k)) (BitVec.ofNat 32 e.val)
      = BitVec.ofBool (decide (top v k = e)) := by
    intro k
    rw [indices_apply, hv', cmpi_lane _ _ (by omega) (by omega)]
    simp only [Fin.ext_iff]
  rw [← softmax_weight v u hu e]
  pointwise [val_main_v39, val_main_v38, val_main_v37, val_main_v36, val_main_v35, val_main_v34, val_main_v33, val_main_v32, val_main_v31, val_main_v30, val_main_v29, val_main_v28, val_main_v27, val_main_v26, val_main_v25, val_main_v24, val_main_cst_3, val_main_cst_4, val_main_cst_5, val_main_cst_6, val_main_call0_v0, val_main_call0_v1, val_main_call0_v2, val_main_call0_v3, val_main_call0_v4]
  simp only [h1, h2, uitofp_ofBool, bits_neg_inf, top_max]

/-! ## The experts' outputs -/

theorem y0 (r : Fin 128) (d : Fin 1024) :
    val_main_v52 (F := Ideal) a0 a1 a2 a4 a6 a7 a8 (ix2 r d)
      = expert (fun k => val_main_v18 (F := Ideal) a0 a1 a2 a4 (ix2 r k)) (fun k f => a6 (ix4 0 0 k f)) (fun k f => a7 (ix4 0 0 k f)) (fun f d => a8 (ix4 0 0 f d)) d := by
  unfold expert
  pointwise [val_main_v52, val_main_v51, val_main_v50, val_main_v49, val_main_v48, val_main_v47, val_main_v46, val_main_v45, val_main_v44, val_main_v43, val_main_v42, val_main_v22, val_main_v21, val_main_v20, val_main_call1_v0, val_main_call1_v1, val_main_call1_v2, val_main_call1_v3, val_main_call1_v4, val_main_call1_v5, val_main_call1_cst, val_main_call1_cst_0]

theorem y1 (r : Fin 128) (d : Fin 1024) :
    val_main_v67 (F := Ideal) a0 a1 a2 a4 a6 a7 a8 (ix2 r d)
      = expert (fun k => val_main_v18 (F := Ideal) a0 a1 a2 a4 (ix2 r k)) (fun k f => a6 (ix4 0 1 k f)) (fun k f => a7 (ix4 0 1 k f)) (fun f d => a8 (ix4 0 1 f d)) d := by
  unfold expert
  pointwise [val_main_v67, val_main_v66, val_main_v65, val_main_v64, val_main_v63, val_main_v62, val_main_v61, val_main_v60, val_main_v59, val_main_v58, val_main_v57, val_main_v22, val_main_v21, val_main_v20, val_main_call2_v0, val_main_call2_v1, val_main_call2_v2, val_main_call2_v3, val_main_call2_v4, val_main_call2_v5, val_main_call2_cst, val_main_call2_cst_0]

theorem y2 (r : Fin 128) (d : Fin 1024) :
    val_main_v82 (F := Ideal) a0 a1 a2 a4 a6 a7 a8 (ix2 r d)
      = expert (fun k => val_main_v18 (F := Ideal) a0 a1 a2 a4 (ix2 r k)) (fun k f => a6 (ix4 0 2 k f)) (fun k f => a7 (ix4 0 2 k f)) (fun f d => a8 (ix4 0 2 f d)) d := by
  unfold expert
  pointwise [val_main_v82, val_main_v81, val_main_v80, val_main_v79, val_main_v78, val_main_v77, val_main_v76, val_main_v75, val_main_v74, val_main_v73, val_main_v72, val_main_v22, val_main_v21, val_main_v20, val_main_call3_v0, val_main_call3_v1, val_main_call3_v2, val_main_call3_v3, val_main_call3_v4, val_main_call3_v5, val_main_call3_cst, val_main_call3_cst_0]

theorem y3 (r : Fin 128) (d : Fin 1024) :
    val_main_v97 (F := Ideal) a0 a1 a2 a4 a6 a7 a8 (ix2 r d)
      = expert (fun k => val_main_v18 (F := Ideal) a0 a1 a2 a4 (ix2 r k)) (fun k f => a6 (ix4 0 3 k f)) (fun k f => a7 (ix4 0 3 k f)) (fun f d => a8 (ix4 0 3 f d)) d := by
  unfold expert
  pointwise [val_main_v97, val_main_v96, val_main_v95, val_main_v94, val_main_v93, val_main_v92, val_main_v91, val_main_v90, val_main_v89, val_main_v88, val_main_v87, val_main_v22, val_main_v21, val_main_v20, val_main_call4_v0, val_main_call4_v1, val_main_call4_v2, val_main_call4_v3, val_main_call4_v4, val_main_call4_v5, val_main_call4_cst, val_main_call4_cst_0]

theorem y4 (r : Fin 128) (d : Fin 1024) :
    val_main_v112 (F := Ideal) a0 a1 a2 a4 a6 a7 a8 (ix2 r d)
      = expert (fun k => val_main_v18 (F := Ideal) a0 a1 a2 a4 (ix2 r k)) (fun k f => a6 (ix4 0 4 k f)) (fun k f => a7 (ix4 0 4 k f)) (fun f d => a8 (ix4 0 4 f d)) d := by
  unfold expert
  pointwise [val_main_v112, val_main_v111, val_main_v110, val_main_v109, val_main_v108, val_main_v107, val_main_v106, val_main_v105, val_main_v104, val_main_v103, val_main_v102, val_main_v22, val_main_v21, val_main_v20, val_main_call5_v0, val_main_call5_v1, val_main_call5_v2, val_main_call5_v3, val_main_call5_v4, val_main_call5_v5, val_main_call5_cst, val_main_call5_cst_0]

theorem y5 (r : Fin 128) (d : Fin 1024) :
    val_main_v127 (F := Ideal) a0 a1 a2 a4 a6 a7 a8 (ix2 r d)
      = expert (fun k => val_main_v18 (F := Ideal) a0 a1 a2 a4 (ix2 r k)) (fun k f => a6 (ix4 0 5 k f)) (fun k f => a7 (ix4 0 5 k f)) (fun f d => a8 (ix4 0 5 f d)) d := by
  unfold expert
  pointwise [val_main_v127, val_main_v126, val_main_v125, val_main_v124, val_main_v123, val_main_v122, val_main_v121, val_main_v120, val_main_v119, val_main_v118, val_main_v117, val_main_v22, val_main_v21, val_main_v20, val_main_call6_v0, val_main_call6_v1, val_main_call6_v2, val_main_call6_v3, val_main_call6_v4, val_main_call6_v5, val_main_call6_cst, val_main_call6_cst_0]

theorem y6 (r : Fin 128) (d : Fin 1024) :
    val_main_v142 (F := Ideal) a0 a1 a2 a4 a6 a7 a8 (ix2 r d)
      = expert (fun k => val_main_v18 (F := Ideal) a0 a1 a2 a4 (ix2 r k)) (fun k f => a6 (ix4 0 6 k f)) (fun k f => a7 (ix4 0 6 k f)) (fun f d => a8 (ix4 0 6 f d)) d := by
  unfold expert
  pointwise [val_main_v142, val_main_v141, val_main_v140, val_main_v139, val_main_v138, val_main_v137, val_main_v136, val_main_v135, val_main_v134, val_main_v133, val_main_v132, val_main_v22, val_main_v21, val_main_v20, val_main_call7_v0, val_main_call7_v1, val_main_call7_v2, val_main_call7_v3, val_main_call7_v4, val_main_call7_v5, val_main_call7_cst, val_main_call7_cst_0]

theorem y7 (r : Fin 128) (d : Fin 1024) :
    val_main_v157 (F := Ideal) a0 a1 a2 a4 a6 a7 a8 (ix2 r d)
      = expert (fun k => val_main_v18 (F := Ideal) a0 a1 a2 a4 (ix2 r k)) (fun k f => a6 (ix4 0 7 k f)) (fun k f => a7 (ix4 0 7 k f)) (fun f d => a8 (ix4 0 7 f d)) d := by
  unfold expert
  pointwise [val_main_v157, val_main_v156, val_main_v155, val_main_v154, val_main_v153, val_main_v152, val_main_v151, val_main_v150, val_main_v149, val_main_v148, val_main_v147, val_main_v22, val_main_v21, val_main_v20, val_main_call8_v0, val_main_call8_v1, val_main_call8_v2, val_main_call8_v3, val_main_call8_v4, val_main_call8_v5, val_main_call8_cst, val_main_call8_cst_0]

/-! ## The layer -/

/-- The result's entry: the input row plus its gate times the weighted sum of the experts' outputs. -/
theorem out_sum (r : Fin 128) (d : Fin 1024) (a3 : FVec Ideal S128x1024 .f32) :
    val_main_v162 (F := Ideal) a0 a1 a2 a3 a4 a5 a6 a7 a8 (ix2 r d)
      = a0 (ix2 r d) + a3 (ix2 r d) * (val_main_v39 (F := Ideal) a0 a1 a2 a4 a5 (ix2 r 0) * val_main_v52 (F := Ideal) a0 a1 a2 a4 a6 a7 a8 (ix2 r d)
        + val_main_v39 (F := Ideal) a0 a1 a2 a4 a5 (ix2 r 1) * val_main_v67 (F := Ideal) a0 a1 a2 a4 a6 a7 a8 (ix2 r d)
        + val_main_v39 (F := Ideal) a0 a1 a2 a4 a5 (ix2 r 2) * val_main_v82 (F := Ideal) a0 a1 a2 a4 a6 a7 a8 (ix2 r d)
        + val_main_v39 (F := Ideal) a0 a1 a2 a4 a5 (ix2 r 3) * val_main_v97 (F := Ideal) a0 a1 a2 a4 a6 a7 a8 (ix2 r d)
        + val_main_v39 (F := Ideal) a0 a1 a2 a4 a5 (ix2 r 4) * val_main_v112 (F := Ideal) a0 a1 a2 a4 a6 a7 a8 (ix2 r d)
        + val_main_v39 (F := Ideal) a0 a1 a2 a4 a5 (ix2 r 5) * val_main_v127 (F := Ideal) a0 a1 a2 a4 a6 a7 a8 (ix2 r d)
        + val_main_v39 (F := Ideal) a0 a1 a2 a4 a5 (ix2 r 6) * val_main_v142 (F := Ideal) a0 a1 a2 a4 a6 a7 a8 (ix2 r d)
        + val_main_v39 (F := Ideal) a0 a1 a2 a4 a5 (ix2 r 7) * val_main_v157 (F := Ideal) a0 a1 a2 a4 a6 a7 a8 (ix2 r d)) := by
  pointwise [val_main_v162, val_main_v161, val_main_v160, val_main_v159, val_main_v158, val_main_v146, val_main_v145, val_main_v144, val_main_v143, val_main_v131, val_main_v130, val_main_v129, val_main_v128, val_main_v116, val_main_v115, val_main_v114, val_main_v113, val_main_v101, val_main_v100, val_main_v99, val_main_v98, val_main_v86, val_main_v85, val_main_v84, val_main_v83, val_main_v71, val_main_v70, val_main_v69, val_main_v68, val_main_v56, val_main_v55, val_main_v54, val_main_v53, val_main_v41, val_main_v40, val_main_cst_7]

/-- The result's entry is the layer, when the row's logits are real numbers. -/
theorem out_apply (r : Fin 128) (d : Fin 1024) (a3 : FVec Ideal S128x1024 .f32) (u : Fin 8 → ℝ)
    (hu : ∀ e, logit (hrow (fun k => a0 (ix2 r k)) (fun k => a4 (ix2 1 k)) (fun k => a1 (ix2 r k)) (fun k => a2 (ix2 r k)))
      (fun k e => a5 (ix3 0 k e)) e = (u e : EReal)) :
    val_main_v162 (F := Ideal) a0 a1 a2 a3 a4 a5 a6 a7 a8 (ix2 r d)
      = layer (fun k => a0 (ix2 r k)) (fun k => a4 (ix2 1 k)) (fun k => a1 (ix2 r k)) (fun k => a2 (ix2 r k)) (fun k => a3 (ix2 r k))
          (fun k e => a5 (ix3 0 k e)) (fun e k f => a6 (ix4 0 e k f)) (fun e k f => a7 (ix4 0 e k f)) (fun e f d => a8 (ix4 0 e f d)) d := by
  have hh : (fun k => val_main_v18 (F := Ideal) a0 a1 a2 a4 (ix2 r k))
      = hrow (fun k => a0 (ix2 r k)) (fun k => a4 (ix2 1 k)) (fun k => a1 (ix2 r k)) (fun k => a2 (ix2 r k)) :=
    funext fun k => h_apply a0 a1 a2 a4 r k
  have hg := fun e => gate_apply a0 a1 a2 a4 a5 r e _ u hu fun e => by rw [logit_apply, hh]
  rw [out_sum, y0, y1, y2, y3, y4, y5, y6, y7, hh]
  simp only [hg]
  unfold layer
  rw [mix_step _ _ 7 (by decide), mix_step _ _ 6 (by decide), mix_step _ _ 5 (by decide), mix_step _ _ 4 (by decide),
    mix_step _ _ 3 (by decide), mix_step _ _ 2 (by decide), mix_step _ _ 1 (by decide), mix_step _ _ 0 (by decide), mix, zero_add]
  rfl

end Cert.MoeSampleRefIdeal.Ref

end
-- ==== Proof.MoeSample.Pre.lean ====
/-
  The precondition read: each entry of the five arrays it names is a real number.
-/
module

public import proofs.«01_k».proof.Proof.Gen.Pre_finite_routing_sample
public import Idealize.ShloMosaic.Lib.Pointwise

@[expose] public section

set_option maxRecDepth 16384

noncomputable section

open Idealize.ShloMosaic Idealize.SL.Sem

namespace Cert.Pre_finite_routing_sample

theorem fold_andi {ι : Type} [Fintype ι] (f : ι → BitVec 1) (h : Finset.univ.fold IntOp.andi 1#1 f = 1#1) (i : ι) : f i = 1#1 := by
  classical
  rw [← Finset.insert_erase (Finset.mem_univ i), Finset.fold_insert (Finset.notMem_erase i _)] at h
  revert h
  generalize f i = a
  generalize Finset.fold IntOp.andi 1#1 f _ = b
  revert a b
  decide

theorem bits_inf : Ideal.ofBits FTy.f32 2139095040#32 = (⊤ : EReal) := by
  show Ideal.ieee 8 23 2139095040#32 = ⊤
  unfold Ideal.ieee
  dsimp only
  rw [if_pos (by decide), if_pos (by decide), if_neg (by decide)]

theorem real_of_abs {x : EReal} (h : BitVec.ofBool (decide ((FloatOps.absf (F := Ideal) (φ := .f32) x : EReal) < Ideal.ofBits FTy.f32 2139095040#32)) = 1#1) :
    ∃ q : ℝ, x = q := by
  rw [bits_inf] at h
  have h' : (FloatOps.absf (F := Ideal) (φ := .f32) x : EReal) < ⊤ := by
    by_contra hc
    rw [decide_eq_false hc] at h
    exact absurd h (by decide)
  have h2 : max x (-x) < ⊤ := h'
  induction x using EReal.rec with
  | bot => simp at h2
  | top => simp at h2
  | coe r => exact ⟨r, rfl⟩

variable {a0 : FVec Ideal S128x1024 .f32} {a1 a2 a3 : FVec Ideal S128x1024 .f32} {a4 : FVec Ideal S2x1024 .f32}
  {a5 : FVec Ideal S1x1024x8 .f32} {a6 a7 : FVec Ideal S1x8x1024x1408 .f32} {a8 : FVec Ideal S1x8x1408x1024 .f32}

theorem real0 (h : fn (F := Ideal) a0 a1 a2 a3 a4 a5 a6 a7 a8 = fun _ => 1#1) (r : Fin 128) (d : Fin 1024) : ∃ q : ℝ, a0 (ix2 r d) = (q : EReal) := by
  have h := congrFun h (ix1 0)
  pointwise [fn, fn_part1] at h
  exact real_of_abs (fold_andi _ h (r, d))
theorem real1 (h : fn (F := Ideal) a0 a1 a2 a3 a4 a5 a6 a7 a8 = fun _ => 1#1) (r : Fin 128) (d : Fin 1024) : ∃ q : ℝ, a1 (ix2 r d) = (q : EReal) := by
  have h := congrFun h (ix1 1)
  pointwise [fn, fn_part1] at h
  exact real_of_abs (fold_andi _ h (r, d))
theorem real2 (h : fn (F := Ideal) a0 a1 a2 a3 a4 a5 a6 a7 a8 = fun _ => 1#1) (r : Fin 128) (d : Fin 1024) : ∃ q : ℝ, a2 (ix2 r d) = (q : EReal) := by
  have h := congrFun h (ix1 2)
  pointwise [fn, fn_part1] at h
  exact real_of_abs (fold_andi _ h (r, d))
theorem real4 (h : fn (F := Ideal) a0 a1 a2 a3 a4 a5 a6 a7 a8 = fun _ => 1#1) (l : Fin 2) (d : Fin 1024) : ∃ q : ℝ, a4 (ix2 l d) = (q : EReal) := by
  have h := congrFun h (ix1 3)
  pointwise [fn, fn_part1] at h
  exact real_of_abs (fold_andi _ h (l, d))
theorem real5 (h : fn (F := Ideal) a0 a1 a2 a3 a4 a5 a6 a7 a8 = fun _ => 1#1) (k : Fin 1024) (e : Fin 8) : ∃ q : ℝ, a5 (ix3 0 k e) = (q : EReal) := by
  have h := congrFun h (ix1 4)
  pointwise [fn, fn_part1] at h
  exact real_of_abs (fold_andi _ h (0, k, e))

end Cert.Pre_finite_routing_sample

end
-- ==== Proof.MoeSample.Equal.lean ====
/-
  The mixture-of-experts kernel and its reference leave the same array: both are the layer of Spec.lean at every entry.
-/
module

public import proofs.«01_k».proof.Defs
public import proofs.«01_k».proof.Proof.MoeSample.State
public import proofs.«01_k».proof.Proof.MoeSample.Ref
public import proofs.«01_k».proof.Proof.Moe.Real
public import proofs.«01_k».proof.Proof.MoeSample.Pre
public import proofs.«01_k».proof.Proof.Gen.MoeSampleRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.MoeSampleEqual

open Cert.Spec

/-- The reference ends with its arguments unchanged and no semaphore counted (it has none). -/
theorem ref_frame (m : (ℓ : Loc Cert.MoeSampleRefIdeal.nD Cert.MoeSampleRefIdeal.τ Cert.MoeSampleRefIdeal.sig) → Buf (Elt Ideal) ℓ)
    (ρ : Dev Cert.MoeSampleRefIdeal.nD → PrngReg) :
    θ_run (Cert.MoeSampleRefIdeal.defs (F := Ideal)) (onTc (τ := Cert.MoeSampleRefIdeal.τ) (Cert.MoeSampleRefIdeal.main (F := Ideal))) ⟨m, fun _ => 0, ρ⟩
      fun r => (∀ c : Dev Cert.MoeSampleRefIdeal.nD,
        r.2.mem ((c.tc : Thread Cert.MoeSampleRefIdeal.nD Cert.MoeSampleRefIdeal.τ).loc Cert.MoeSampleRefIdeal.main_arg0) = m ((c.tc : Thread Cert.MoeSampleRefIdeal.nD Cert.MoeSampleRefIdeal.τ).loc Cert.MoeSampleRefIdeal.main_arg0)
        ∧ r.2.mem ((c.tc : Thread Cert.MoeSampleRefIdeal.nD Cert.MoeSampleRefIdeal.τ).loc Cert.MoeSampleRefIdeal.main_arg1) = m ((c.tc : Thread Cert.MoeSampleRefIdeal.nD Cert.MoeSampleRefIdeal.τ).loc Cert.MoeSampleRefIdeal.main_arg1)
        ∧ r.2.mem ((c.tc : Thread Cert.MoeSampleRefIdeal.nD Cert.MoeSampleRefIdeal.τ).loc Cert.MoeSampleRefIdeal.main_arg2) = m ((c.tc : Thread Cert.MoeSampleRefIdeal.nD Cert.MoeSampleRefIdeal.τ).loc Cert.MoeSampleRefIdeal.main_arg2)
        ∧ r.2.mem ((c.tc : Thread Cert.MoeSampleRefIdeal.nD Cert.MoeSampleRefIdeal.τ).loc Cert.MoeSampleRefIdeal.main_arg3) = m ((c.tc : Thread Cert.MoeSampleRefIdeal.nD Cert.MoeSampleRefIdeal.τ).loc Cert.MoeSampleRefIdeal.main_arg3)
        ∧ r.2.mem ((c.tc : Thread Cert.MoeSampleRefIdeal.nD Cert.MoeSampleRefIdeal.τ).loc Cert.MoeSampleRefIdeal.main_arg4) = m ((c.tc : Thread Cert.MoeSampleRefIdeal.nD Cert.MoeSampleRefIdeal.τ).loc Cert.MoeSampleRefIdeal.main_arg4)
        ∧ r.2.mem ((c.tc : Thread Cert.MoeSampleRefIdeal.nD Cert.MoeSampleRefIdeal.τ).loc Cert.MoeSampleRefIdeal.main_arg5) = m ((c.tc : Thread Cert.MoeSampleRefIdeal.nD Cert.MoeSampleRefIdeal.τ).loc Cert.MoeSampleRefIdeal.main_arg5)
        ∧ r.2.mem ((c.tc : Thread Cert.MoeSampleRefIdeal.nD Cert.MoeSampleRefIdeal.τ).loc Cert.MoeSampleRefIdeal.main_arg6) = m ((c.tc : Thread Cert.MoeSampleRefIdeal.nD Cert.MoeSampleRefIdeal.τ).loc Cert.MoeSampleRefIdeal.main_arg6)
        ∧ r.2.mem ((c.tc : Thread Cert.MoeSampleRefIdeal.nD Cert.MoeSampleRefIdeal.τ).loc Cert.MoeSampleRefIdeal.main_arg7) = m ((c.tc : Thread Cert.MoeSampleRefIdeal.nD Cert.MoeSampleRefIdeal.τ).loc Cert.MoeSampleRefIdeal.main_arg7)
        ∧ r.2.mem ((c.tc : Thread Cert.MoeSampleRefIdeal.nD Cert.MoeSampleRefIdeal.τ).loc Cert.MoeSampleRefIdeal.main_arg8) = m ((c.tc : Thread Cert.MoeSampleRefIdeal.nD Cert.MoeSampleRefIdeal.τ).loc Cert.MoeSampleRefIdeal.main_arg8))
        ∧ r.2.sem = fun _ => 0 :=
  (θ_run _ _ _).mono (fun r h => ⟨fun c => (h c).2, sem_eq_zero_of_no_sems (by decide) r.2⟩) (Cert.MoeSampleRefIdeal.Value.run m ρ)

/-- The kernel's array at an entry is the reference's at that entry, on the same arguments. -/
theorem entry (m : (ℓ : Loc Cert.MoeSampleIdeal.nD Cert.MoeSampleIdeal.τ Cert.MoeSampleIdeal.sig) → Buf (Elt Ideal) ℓ) (c : Dev Cert.MoeSampleIdeal.nD)
    (h : Cert.Pre_finite_routing_sample.fn (F := Ideal) (m ((c.tc : Thread Cert.MoeSampleIdeal.nD Cert.MoeSampleIdeal.τ).loc Cert.MoeSampleIdeal.main_arg0))
      (m ((c.tc : Thread Cert.MoeSampleIdeal.nD Cert.MoeSampleIdeal.τ).loc Cert.MoeSampleIdeal.main_arg1)) (m ((c.tc : Thread Cert.MoeSampleIdeal.nD Cert.MoeSampleIdeal.τ).loc Cert.MoeSampleIdeal.main_arg2))
      (m ((c.tc : Thread Cert.MoeSampleIdeal.nD Cert.MoeSampleIdeal.τ).loc Cert.MoeSampleIdeal.main_arg3)) (m ((c.tc : Thread Cert.MoeSampleIdeal.nD Cert.MoeSampleIdeal.τ).loc Cert.MoeSampleIdeal.main_arg4))
      (m ((c.tc : Thread Cert.MoeSampleIdeal.nD Cert.MoeSampleIdeal.τ).loc Cert.MoeSampleIdeal.main_arg5)) (m ((c.tc : Thread Cert.MoeSampleIdeal.nD Cert.MoeSampleIdeal.τ).loc Cert.MoeSampleIdeal.main_arg6))
      (m ((c.tc : Thread Cert.MoeSampleIdeal.nD Cert.MoeSampleIdeal.τ).loc Cert.MoeSampleIdeal.main_arg7)) (m ((c.tc : Thread Cert.MoeSampleIdeal.nD Cert.MoeSampleIdeal.τ).loc Cert.MoeSampleIdeal.main_arg8))
      = fun _ => 1#1) (R : Fin 128) (d : Fin 1024) :
    Cert.MoeSampleIdeal.Value.G9 m c (ix2 R d)
      = Cert.MoeSampleRefIdeal.Read.val_main_v162 (F := Ideal) (m ((c.tc : Thread Cert.MoeSampleIdeal.nD Cert.MoeSampleIdeal.τ).loc Cert.MoeSampleIdeal.main_arg0))
      (m ((c.tc : Thread Cert.MoeSampleIdeal.nD Cert.MoeSampleIdeal.τ).loc Cert.MoeSampleIdeal.main_arg1)) (m ((c.tc : Thread Cert.MoeSampleIdeal.nD Cert.MoeSampleIdeal.τ).loc Cert.MoeSampleIdeal.main_arg2))
      (m ((c.tc : Thread Cert.MoeSampleIdeal.nD Cert.MoeSampleIdeal.τ).loc Cert.MoeSampleIdeal.main_arg3)) (m ((c.tc : Thread Cert.MoeSampleIdeal.nD Cert.MoeSampleIdeal.τ).loc Cert.MoeSampleIdeal.main_arg4))
      (m ((c.tc : Thread Cert.MoeSampleIdeal.nD Cert.MoeSampleIdeal.τ).loc Cert.MoeSampleIdeal.main_arg5)) (m ((c.tc : Thread Cert.MoeSampleIdeal.nD Cert.MoeSampleIdeal.τ).loc Cert.MoeSampleIdeal.main_arg6))
      (m ((c.tc : Thread Cert.MoeSampleIdeal.nD Cert.MoeSampleIdeal.τ).loc Cert.MoeSampleIdeal.main_arg7)) (m ((c.tc : Thread Cert.MoeSampleIdeal.nD Cert.MoeSampleIdeal.τ).loc Cert.MoeSampleIdeal.main_arg8))
        (ix2 R d) := by
  have hreal : ∀ R e, ∃ q : ℝ, Cert.MoeSampleIdeal.State.U m c R e = q := fun R e =>
    logit_real _ _ (hrow_real _ _ _ _ (fun k => Cert.Pre_finite_routing_sample.real0 h R k) (fun k => Cert.Pre_finite_routing_sample.real4 h 1 k)
      (fun k => Cert.Pre_finite_routing_sample.real1 h R k) (fun k => Cert.Pre_finite_routing_sample.real2 h R k)) (fun k e => Cert.Pre_finite_routing_sample.real5 h k e) e
  choose u hu using hreal
  rw [Cert.MoeSampleIdeal.State.G9_apply (fun R e => by rw [hu]; exact EReal.bot_lt_coe _)]
  exact (Cert.MoeSampleRefIdeal.Ref.out_apply _ _ _ _ _ _ _ _ R d _ (u R) (hu R)).symm

theorem algebraic : @Cert.algebraic_MoeSampleIdeal_MoeSampleRefIdeal_pre_finite_routing_sample Cert.MoeSampleIdeal.Gen.facts Cert.MoeSampleRefIdeal.Gen.facts Cert.Pre_finite_routing_sample.Gen.facts := by
  intro m g m' g' hpre hargs
  refine ⟨Cert.MoeSampleIdeal.Value.G9 m, Cert.MoeSampleIdeal.Value.run m g, ?_⟩
  refine (θ_run _ _ _).mono (fun r h c => ⟨?_, (h c).2⟩) (Cert.MoeSampleRefIdeal.Value.run m' g')
  refine (h c).1.trans ?_
  refine (Cert.MoeSampleRefIdeal.Read.val_main_v162_eq (Idealize.ShloMosaic.StableHlo.launchContents m' c)).trans ?_
  obtain ⟨h0, h1, h2, h3, h4, h5, h6, h7, h8⟩ := hargs c
  funext i
  have hi : i = ix2 (i 0) (i 1) := by
    funext a
    match a with
    | ⟨0, _⟩ => rfl
    | ⟨1, _⟩ => rfl
  rw [hi]
  refine Eq.trans ?_ (entry m c (hpre c) (i 0) (i 1)).symm
  exact congrFun (by rw [← h0, ← h1, ← h2, ← h3, ← h4, ← h5, ← h6, ← h7, ← h8]) _

end Cert.MoeSampleEqual

end
-- ==== Proof.lean ====
/- The whole claim: every program's frame, the idealization of the one named constant, and each kernel's equality with
   its reference over the reals. -/
module

public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.Inproj
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.InprojRefIdeal.Run
public import proofs.«01_k».proof.Proof.Gen.InprojRefIdeal.Read
public import proofs.«01_k».proof.Proof.Gen.InprojSample
public import proofs.«01_k».proof.Proof.Gen.InprojSampleIdeal
public import proofs.«01_k».proof.Proof.Gen.InprojSampleIdeal.Skeleton
public import proofs.«01_k».proof.Proof.Gen.InprojSampleIdeal.Launch
public import proofs.«01_k».proof.Proof.Gen.InprojSampleIdeal.Points
public import proofs.«01_k».proof.Proof.Gen.InprojSampleIdeal.Frame
public import proofs.«01_k».proof.Proof.Gen.InprojSampleRefIdeal
public import proofs.«01_k».proof.Proof.Gen.InprojSampleRefIdeal.Run
public import proofs.«01_k».proof.Proof.Gen.InprojSampleRefIdeal.Read
public import proofs.«01_k».proof.Proof.Gen.MoeSample
public import proofs.«01_k».proof.Proof.Gen.MoeSample.Frame
public import proofs.«01_k».proof.Proof.Gen.MoeSampleIdeal
public import proofs.«01_k».proof.Proof.Gen.MoeSampleIdeal.Frame
public import proofs.«01_k».proof.Proof.Gen.MoeSampleRefIdeal
public import proofs.«01_k».proof.Proof.Gen.Pre_finite_routing_sample
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.MoeSampleIdeal.Value
public import proofs.«01_k».proof.Proof.Gen.MoeSampleRefIdeal.Run
public import proofs.«01_k».proof.Proof.Gen.MoeSampleRefIdeal.Read
public import proofs.«01_k».proof.Proof.Gen.MoeIdeal.Value
public import proofs.«01_k».proof.Proof.Gen.MoeRefIdeal.Run
public import proofs.«01_k».proof.Proof.Gen.MoeRefIdeal.Read
public import proofs.«01_k».proof.Defs
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.Pre_finite_routing
public import proofs.«01_k».proof.Proof.Moe.Equal
public import proofs.«01_k».proof.Proof.Ffn.Equal
public import proofs.«01_k».proof.Proof.Merge.Equal
public import proofs.«01_k».proof.Proof.Inproj.Equal
public import proofs.«01_k».proof.Proof.InprojSample.Equal
public import proofs.«01_k».proof.Proof.MoeSample.Equal
public import Idealize.ShloMosaic.Adequacy
public import Idealize.ShloMosaic.Init

@[expose] public section

noncomputable section

namespace Cert.Proof

open Idealize.ShloMosaic Idealize.SL.Sem

theorem claim : Cert.Claim := ⟨Cert.Moe.Gen.facts, Cert.MoeIdeal.Gen.facts, Cert.MoeRefIdeal.Gen.facts, Cert.Inproj.Gen.facts,
  Cert.InprojIdeal.Gen.facts, Cert.InprojRefIdeal.Gen.facts, Cert.InprojSample.Gen.facts, Cert.InprojSampleIdeal.Gen.facts,
  Cert.InprojSampleRefIdeal.Gen.facts, Cert.Ffn.Gen.facts, Cert.FfnIdeal.Gen.facts, Cert.FfnRefIdeal.Gen.facts,
  Cert.Merge.Gen.facts, Cert.MergeIdeal.Gen.facts, Cert.MergeRefIdeal.Gen.facts, Cert.MoeSample.Gen.facts,
  Cert.MoeSampleIdeal.Gen.facts, Cert.MoeSampleRefIdeal.Gen.facts, Cert.Pre_finite_routing.Gen.facts, Cert.Pre_finite_routing_sample.Gen.facts,
  fun m ρ _ => Cert.Moe.Gen.frame m ρ,
  fun m ρ _ => Cert.MoeIdeal.Gen.frame m ρ,
  fun m ρ _ => Cert.MoeIdeal.Gen.frame m ρ,
  fun m ρ _ => Cert.MoeEqual.ref_frame m ρ,
  fun m ρ _ => Cert.MoeEqual.ref_frame m ρ,
  Cert.InprojEqual.frame_bits,
  fun m ρ _ => Cert.InprojIdeal.Frame.frame m ρ,
  fun m ρ _ => Cert.InprojEqual.ref_frame m ρ,
  Cert.InprojSampleEqual.frame_bits,
  fun m ρ _ => Cert.InprojSampleIdeal.Frame.frame m ρ,
  fun m ρ _ => Cert.InprojSampleEqual.ref_frame m ρ,
  fun m ρ _ => Cert.Ffn.Gen.frame m ρ,
  fun m ρ _ => Cert.FfnIdeal.Gen.frame m ρ,
  fun m ρ _ => Cert.FfnEqual.ref_frame m ρ,
  fun m ρ _ => Cert.Merge.Gen.frame m ρ,
  fun m ρ _ => Cert.MergeIdeal.Gen.frame m ρ,
  fun m ρ _ => Cert.MergeEqual.ref_frame m ρ,
  fun m ρ _ => Cert.MoeSample.Gen.frame m ρ,
  fun m ρ _ => Cert.MoeSampleIdeal.Gen.frame m ρ,
  fun m ρ _ => Cert.MoeSampleIdeal.Gen.frame m ρ,
  fun m ρ _ => Cert.MoeSampleEqual.ref_frame m ρ,
  fun m ρ _ => Cert.MoeSampleEqual.ref_frame m ρ,
  IdealRules.named_const.statement Cert.MoeIdeal.κ "neg" .f32 0xFF61B1E6#32 ⊥ rfl,
  Cert.MoeEqual.algebraic,
  trivial,
  Cert.InprojEqual.algebraic,
  trivial,
  Cert.InprojSampleEqual.algebraic,
  trivial,
  Cert.FfnEqual.algebraic,
  trivial,
  Cert.MergeEqual.algebraic,
  IdealRules.named_const.statement Cert.MoeSampleIdeal.κ "neg" .f32 0xFF61B1E6#32 ⊥ rfl,
  Cert.MoeSampleEqual.algebraic⟩

end Cert.Proof

end
